-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InMerge (m : (ℓ : Loc Cert.InMerge.nD Cert.InMerge.τ Cert.InMerge.sig) → Buf (Elt Bits) ℓ) : Prop :=
  True

def Pre_InMergeIdeal (m : (ℓ : Loc Cert.InMergeIdeal.nD Cert.InMergeIdeal.τ Cert.InMergeIdeal.sig) → Buf (Elt Ideal) ℓ) : Prop :=
  True

def Pre_InMergeRefIdeal (m : (ℓ : Loc Cert.InMergeRefIdeal.nD Cert.InMergeRefIdeal.τ Cert.InMergeRefIdeal.sig) → Buf (Elt Ideal) ℓ) : Prop :=
  True

def Pre_InGates (m : (ℓ : Loc Cert.InGates.nD Cert.InGates.τ Cert.InGates.sig) → Buf (Elt Bits) ℓ) : Prop :=
  True

def Pre_InGatesIdeal (m : (ℓ : Loc Cert.InGatesIdeal.nD Cert.InGatesIdeal.τ Cert.InGatesIdeal.sig) → Buf (Elt Ideal) ℓ) : Prop :=
  True

def Pre_InGatesRefIdeal (m : (ℓ : Loc Cert.InGatesRefIdeal.nD Cert.InGatesRefIdeal.τ Cert.InGatesRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterIdeal_slots_within_counts [hPre_slots_within_counts : Cert.Pre_slots_within_counts.Facts] (m : (ℓ : Loc Cert.ScatterIdeal.nD Cert.ScatterIdeal.τ Cert.ScatterIdeal.sig) → Buf (Elt Ideal) ℓ) : Prop :=
  ∀ c : Dev Cert.ScatterIdeal.nD,
    (Cert.Pre_slots_within_counts.fn (F := Ideal) (m ((c.tc : Thread Cert.ScatterIdeal.nD Cert.ScatterIdeal.τ).loc Cert.ScatterIdeal.main_arg0)) (m ((c.tc : Thread Cert.ScatterIdeal.nD Cert.ScatterIdeal.τ).loc Cert.ScatterIdeal.main_arg1)) (m ((c.tc : Thread Cert.ScatterIdeal.nD Cert.ScatterIdeal.τ).loc Cert.ScatterIdeal.main_arg2)) (m ((c.tc : Thread Cert.ScatterIdeal.nD Cert.ScatterIdeal.τ).loc Cert.ScatterIdeal.main_arg3)) (m ((c.tc : Thread Cert.ScatterIdeal.nD Cert.ScatterIdeal.τ).loc Cert.ScatterIdeal.main_arg4)) (m ((c.tc : Thread Cert.ScatterIdeal.nD Cert.ScatterIdeal.τ).loc Cert.ScatterIdeal.main_arg5)) (m ((c.tc : Thread Cert.ScatterIdeal.nD Cert.ScatterIdeal.τ).loc Cert.ScatterIdeal.main_arg6))) = (fun _ => 1#1)

def Pre_ScatterRefIdeal (m : (ℓ : Loc Cert.ScatterRefIdeal.nD Cert.ScatterRefIdeal.τ Cert.ScatterRefIdeal.sig) → Buf (Elt Ideal) ℓ) : Prop :=
  True

def Pre_ScatterRefIdeal_slots_within_counts [hPre_slots_within_counts : Cert.Pre_slots_within_counts.Facts] (m : (ℓ : Loc Cert.ScatterRefIdeal.nD Cert.ScatterRefIdeal.τ Cert.ScatterRefIdeal.sig) → Buf (Elt Ideal) ℓ) : Prop :=
  ∀ c : Dev Cert.ScatterRefIdeal.nD,
    (Cert.Pre_slots_within_counts.fn (F := Ideal) (m ((c.tc : Thread Cert.ScatterRefIdeal.nD Cert.ScatterRefIdeal.τ).loc Cert.ScatterRefIdeal.main_arg0)) (m ((c.tc : Thread Cert.ScatterRefIdeal.nD Cert.ScatterRefIdeal.τ).loc Cert.ScatterRefIdeal.main_arg1)) (m ((c.tc : Thread Cert.ScatterRefIdeal.nD Cert.ScatterRefIdeal.τ).loc Cert.ScatterRefIdeal.main_arg2)) (m ((c.tc : Thread Cert.ScatterRefIdeal.nD Cert.ScatterRefIdeal.τ).loc Cert.ScatterRefIdeal.main_arg3)) (m ((c.tc : Thread Cert.ScatterRefIdeal.nD Cert.ScatterRefIdeal.τ).loc Cert.ScatterRefIdeal.main_arg4)) (m ((c.tc : Thread Cert.ScatterRefIdeal.nD Cert.ScatterRefIdeal.τ).loc Cert.ScatterRefIdeal.main_arg5)) (m ((c.tc : Thread Cert.ScatterRefIdeal.nD Cert.ScatterRefIdeal.τ).loc Cert.ScatterRefIdeal.main_arg6))) = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormRefIdeal (m : (ℓ : Loc Cert.PrenormRefIdeal.nD Cert.PrenormRefIdeal.τ Cert.PrenormRefIdeal.sig) → Buf (Elt Ideal) ℓ) : Prop :=
  True

def Pre_Readout (m : (ℓ : Loc Cert.Readout.nD Cert.Readout.τ Cert.Readout.sig) → Buf (Elt Bits) ℓ) : Prop :=
  True

def Pre_ReadoutIdeal (m : (ℓ : Loc Cert.ReadoutIdeal.nD Cert.ReadoutIdeal.τ Cert.ReadoutIdeal.sig) → Buf (Elt Ideal) ℓ) : Prop :=
  True

def Pre_ReadoutRefIdeal (m : (ℓ : Loc Cert.ReadoutRefIdeal.nD Cert.ReadoutRefIdeal.τ Cert.ReadoutRefIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidRefIdeal (m : (ℓ : Loc Cert.ResidRefIdeal.nD Cert.ResidRefIdeal.τ Cert.ResidRefIdeal.sig) → Buf (Elt Ideal) ℓ) : Prop :=
  True

def Pre_Gather [hPre_tokens_in_range : Cert.Pre_tokens_in_range.Facts] (m : (ℓ : Loc Cert.Gather.nD Cert.Gather.τ Cert.Gather.sig) → Buf (Elt Bits) ℓ) : Prop :=
  ∀ c : Dev Cert.Gather.nD,
    (Cert.Pre_tokens_in_range.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_tokens_in_range : Cert.Pre_tokens_in_range.Facts] (m : (ℓ : Loc Cert.GatherIdeal.nD Cert.GatherIdeal.τ Cert.GatherIdeal.sig) → Buf (Elt Ideal) ℓ) : Prop :=
  ∀ c : Dev Cert.GatherIdeal.nD,
    (Cert.Pre_tokens_in_range.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherRefIdeal (m : (ℓ : Loc Cert.GatherRefIdeal.nD Cert.GatherRefIdeal.τ Cert.GatherRefIdeal.sig) → Buf (Elt Ideal) ℓ) : Prop :=
  True

def Pre_GatherRefIdeal_tokens_in_range [hPre_tokens_in_range : Cert.Pre_tokens_in_range.Facts] (m : (ℓ : Loc Cert.GatherRefIdeal.nD Cert.GatherRefIdeal.τ Cert.GatherRefIdeal.sig) → Buf (Elt Ideal) ℓ) : Prop :=
  ∀ c : Dev Cert.GatherRefIdeal.nD,
    (Cert.Pre_tokens_in_range.fn (F := Ideal) (m ((c.tc : Thread Cert.GatherRefIdeal.nD Cert.GatherRefIdeal.τ).loc Cert.GatherRefIdeal.main_arg0)) (m ((c.tc : Thread Cert.GatherRefIdeal.nD Cert.GatherRefIdeal.τ).loc Cert.GatherRefIdeal.main_arg1))) = (fun _ => 1#1)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_InMerge [hInMerge : Cert.InMerge.Facts] : Prop :=
  ∀ (m : (ℓ : Loc Cert.InMerge.nD Cert.InMerge.τ Cert.InMerge.sig) → Buf (Elt Bits) ℓ) (g : Dev Cert.InMerge.nD → PrngReg), Pre_InMerge m →
    θ_run (Cert.InMerge.defs (F := Bits)) (onTc (τ := Cert.InMerge.τ) (Cert.InMerge.main (F := Bits))) ⟨m, fun _ => 0, g⟩ (fun r => (∀ c : Dev Cert.InMerge.nD,
      r.2.mem ((c.tc : Thread Cert.InMerge.nD Cert.InMerge.τ).loc Cert.InMerge.main_arg0) = m ((c.tc : Thread Cert.InMerge.nD Cert.InMerge.τ).loc Cert.InMerge.main_arg0)
      ∧ r.2.mem ((c.tc : Thread Cert.InMerge.nD Cert.InMerge.τ).loc Cert.InMerge.main_arg1) = m ((c.tc : Thread Cert.InMerge.nD Cert.InMerge.τ).loc Cert.InMerge.main_arg1))
      ∧ r.2.sem = fun _ => 0)

def quiescent_InMergeIdeal [hInMergeIdeal : Cert.InMergeIdeal.Facts] : Prop :=
  ∀ (m : (ℓ : Loc Cert.InMergeIdeal.nD Cert.InMergeIdeal.τ Cert.InMergeIdeal.sig) → Buf (Elt Ideal) ℓ) (g : Dev Cert.InMergeIdeal.nD → PrngReg), Pre_InMergeIdeal m →
    θ_run (Cert.InMergeIdeal.defs (F := Ideal)) (onTc (τ := Cert.InMergeIdeal.τ) (Cert.InMergeIdeal.main (F := Ideal))) ⟨m, fun _ => 0, g⟩ (fun r => (∀ c : Dev Cert.InMergeIdeal.nD,
      r.2.mem ((c.tc : Thread Cert.InMergeIdeal.nD Cert.InMergeIdeal.τ).loc Cert.InMergeIdeal.main_arg0) = m ((c.tc : Thread Cert.InMergeIdeal.nD Cert.InMergeIdeal.τ).loc Cert.InMergeIdeal.main_arg0)
      ∧ r.2.mem ((c.tc : Thread Cert.InMergeIdeal.nD Cert.InMergeIdeal.τ).loc Cert.InMergeIdeal.main_arg1) = m ((c.tc : Thread Cert.InMergeIdeal.nD Cert.InMergeIdeal.τ).loc Cert.InMergeIdeal.main_arg1))
      ∧ r.2.sem = fun _ => 0)

def quiescent_InMergeRefIdeal [hInMergeRefIdeal : Cert.InMergeRefIdeal.Facts] : Prop :=
  ∀ (m : (ℓ : Loc Cert.InMergeRefIdeal.nD Cert.InMergeRefIdeal.τ Cert.InMergeRefIdeal.sig) → Buf (Elt Ideal) ℓ) (g : Dev Cert.InMergeRefIdeal.nD → PrngReg), Pre_InMergeRefIdeal m →
    θ_run (Cert.InMergeRefIdeal.defs (F := Ideal)) (onTc (τ := Cert.InMergeRefIdeal.τ) (Cert.InMergeRefIdeal.main (F := Ideal))) ⟨m, fun _ => 0, g⟩ (fun r => (∀ c : Dev Cert.InMergeRefIdeal.nD,
      r.2.mem ((c.tc : Thread Cert.InMergeRefIdeal.nD Cert.InMergeRefIdeal.τ).loc Cert.InMergeRefIdeal.main_arg0) = m ((c.tc : Thread Cert.InMergeRefIdeal.nD Cert.InMergeRefIdeal.τ).loc Cert.InMergeRefIdeal.main_arg0)
      ∧ r.2.mem ((c.tc : Thread Cert.InMergeRefIdeal.nD Cert.InMergeRefIdeal.τ).loc Cert.InMergeRefIdeal.main_arg1) = m ((c.tc : Thread Cert.InMergeRefIdeal.nD Cert.InMergeRefIdeal.τ).loc Cert.InMergeRefIdeal.main_arg1))
      ∧ r.2.sem = fun _ => 0)

def quiescent_InGates [hInGates : Cert.InGates.Facts] : Prop :=
  ∀ (m : (ℓ : Loc Cert.InGates.nD Cert.InGates.τ Cert.InGates.sig) → Buf (Elt Bits) ℓ) (g : Dev Cert.InGates.nD → PrngReg), Pre_InGates m →
    θ_run (Cert.InGates.defs (F := Bits)) (onTc (τ := Cert.InGates.τ) (Cert.InGates.main (F := Bits))) ⟨m, fun _ => 0, g⟩ (fun r => (∀ c : Dev Cert.InGates.nD,
      r.2.mem ((c.tc : Thread Cert.InGates.nD Cert.InGates.τ).loc Cert.InGates.main_arg0) = m ((c.tc : Thread Cert.InGates.nD Cert.InGates.τ).loc Cert.InGates.main_arg0)
      ∧ r.2.mem ((c.tc : Thread Cert.InGates.nD Cert.InGates.τ).loc Cert.InGates.main_arg1) = m ((c.tc : Thread Cert.InGates.nD Cert.InGates.τ).loc Cert.InGates.main_arg1)
      ∧ r.2.mem ((c.tc : Thread Cert.InGates.nD Cert.InGates.τ).loc Cert.InGates.main_arg2) = m ((c.tc : Thread Cert.InGates.nD Cert.InGates.τ).loc Cert.InGates.main_arg2))
      ∧ r.2.sem = fun _ => 0)

def quiescent_InGatesIdeal [hInGatesIdeal : Cert.InGatesIdeal.Facts] : Prop :=
  ∀ (m : (ℓ : Loc Cert.InGatesIdeal.nD Cert.InGatesIdeal.τ Cert.InGatesIdeal.sig) → Buf (Elt Ideal) ℓ) (g : Dev Cert.InGatesIdeal.nD → PrngReg), Pre_InGatesIdeal m →
    θ_run (Cert.InGatesIdeal.defs (F := Ideal)) (onTc (τ := Cert.InGatesIdeal.τ) (Cert.InGatesIdeal.main (F := Ideal))) ⟨m, fun _ => 0, g⟩ (fun r => (∀ c : Dev Cert.InGatesIdeal.nD,
      r.2.mem ((c.tc : Thread Cert.InGatesIdeal.nD Cert.InGatesIdeal.τ).loc Cert.InGatesIdeal.main_arg0) = m ((c.tc : Thread Cert.InGatesIdeal.nD Cert.InGatesIdeal.τ).loc Cert.InGatesIdeal.main_arg0)
      ∧ r.2.mem ((c.tc : Thread Cert.InGatesIdeal.nD Cert.InGatesIdeal.τ).loc Cert.InGatesIdeal.main_arg1) = m ((c.tc : Thread Cert.InGatesIdeal.nD Cert.InGatesIdeal.τ).loc Cert.InGatesIdeal.main_arg1)
      ∧ r.2.mem ((c.tc : Thread Cert.InGatesIdeal.nD Cert.InGatesIdeal.τ).loc Cert.InGatesIdeal.main_arg2) = m ((c.tc : Thread Cert.InGatesIdeal.nD Cert.InGatesIdeal.τ).loc Cert.InGatesIdeal.main_arg2))
      ∧ r.2.sem = fun _ => 0)

def quiescent_InGatesRefIdeal [hInGatesRefIdeal : Cert.InGatesRefIdeal.Facts] : Prop :=
  ∀ (m : (ℓ : Loc Cert.InGatesRefIdeal.nD Cert.InGatesRefIdeal.τ Cert.InGatesRefIdeal.sig) → Buf (Elt Ideal) ℓ) (g : Dev Cert.InGatesRefIdeal.nD → PrngReg), Pre_InGatesRefIdeal m →
    θ_run (Cert.InGatesRefIdeal.defs (F := Ideal)) (onTc (τ := Cert.InGatesRefIdeal.τ) (Cert.InGatesRefIdeal.main (F := Ideal))) ⟨m, fun _ => 0, g⟩ (fun r => (∀ c : Dev Cert.InGatesRefIdeal.nD,
      r.2.mem ((c.tc : Thread Cert.InGatesRefIdeal.nD Cert.InGatesRefIdeal.τ).loc Cert.InGatesRefIdeal.main_arg0) = m ((c.tc : Thread Cert.InGatesRefIdeal.nD Cert.InGatesRefIdeal.τ).loc Cert.InGatesRefIdeal.main_arg0)
      ∧ r.2.mem ((c.tc : Thread Cert.InGatesRefIdeal.nD Cert.InGatesRefIdeal.τ).loc Cert.InGatesRefIdeal.main_arg1) = m ((c.tc : Thread Cert.InGatesRefIdeal.nD Cert.InGatesRefIdeal.τ).loc Cert.InGatesRefIdeal.main_arg1)
      ∧ r.2.mem ((c.tc : Thread Cert.InGatesRefIdeal.nD Cert.InGatesRefIdeal.τ).loc Cert.InGatesRefIdeal.main_arg2) = m ((c.tc : Thread Cert.InGatesRefIdeal.nD Cert.InGatesRefIdeal.τ).loc Cert.InGatesRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1)
      ∧ r.2.mem ((c.tc : Thread Cert.Scatter.nD Cert.Scatter.τ).loc Cert.Scatter.main_arg2) = m ((c.tc : Thread Cert.Scatter.nD Cert.Scatter.τ).loc Cert.Scatter.main_arg2)
      ∧ r.2.mem ((c.tc : Thread Cert.Scatter.nD Cert.Scatter.τ).loc Cert.Scatter.main_arg3) = m ((c.tc : Thread Cert.Scatter.nD Cert.Scatter.τ).loc Cert.Scatter.main_arg3)
      ∧ r.2.mem ((c.tc : Thread Cert.Scatter.nD Cert.Scatter.τ).loc Cert.Scatter.main_arg4) = m ((c.tc : Thread Cert.Scatter.nD Cert.Scatter.τ).loc Cert.Scatter.main_arg4)
      ∧ r.2.mem ((c.tc : Thread Cert.Scatter.nD Cert.Scatter.τ).loc Cert.Scatter.main_arg5) = m ((c.tc : Thread Cert.Scatter.nD Cert.Scatter.τ).loc Cert.Scatter.main_arg5)
      ∧ r.2.mem ((c.tc : Thread Cert.Scatter.nD Cert.Scatter.τ).loc Cert.Scatter.main_arg6) = m ((c.tc : Thread Cert.Scatter.nD Cert.Scatter.τ).loc Cert.Scatter.main_arg6))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
      ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
      ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3)
      ∧ r.2.mem ((c.tc : Thread Cert.ScatterIdeal.nD Cert.ScatterIdeal.τ).loc Cert.ScatterIdeal.main_arg4) = m ((c.tc : Thread Cert.ScatterIdeal.nD Cert.ScatterIdeal.τ).loc Cert.ScatterIdeal.main_arg4)
      ∧ r.2.mem ((c.tc : Thread Cert.ScatterIdeal.nD Cert.ScatterIdeal.τ).loc Cert.ScatterIdeal.main_arg5) = m ((c.tc : Thread Cert.ScatterIdeal.nD Cert.ScatterIdeal.τ).loc Cert.ScatterIdeal.main_arg5)
      ∧ r.2.mem ((c.tc : Thread Cert.ScatterIdeal.nD Cert.ScatterIdeal.τ).loc Cert.ScatterIdeal.main_arg6) = m ((c.tc : Thread Cert.ScatterIdeal.nD Cert.ScatterIdeal.τ).loc Cert.ScatterIdeal.main_arg6))
      ∧ r.2.sem = fun _ => 0)

def quiescent_ScatterIdeal_pre_slots_within_counts [hScatterIdeal : Cert.ScatterIdeal.Facts] [hPre_slots_within_counts : Cert.Pre_slots_within_counts.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal_slots_within_counts m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
      ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
      ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3)
      ∧ r.2.mem ((c.tc : Thread Cert.ScatterIdeal.nD Cert.ScatterIdeal.τ).loc Cert.ScatterIdeal.main_arg4) = m ((c.tc : Thread Cert.ScatterIdeal.nD Cert.ScatterIdeal.τ).loc Cert.ScatterIdeal.main_arg4)
      ∧ r.2.mem ((c.tc : Thread Cert.ScatterIdeal.nD Cert.ScatterIdeal.τ).loc Cert.ScatterIdeal.main_arg5) = m ((c.tc : Thread Cert.ScatterIdeal.nD Cert.ScatterIdeal.τ).loc Cert.ScatterIdeal.main_arg5)
      ∧ r.2.mem ((c.tc : Thread Cert.ScatterIdeal.nD Cert.ScatterIdeal.τ).loc Cert.ScatterIdeal.main_arg6) = m ((c.tc : Thread Cert.ScatterIdeal.nD Cert.ScatterIdeal.τ).loc Cert.ScatterIdeal.main_arg6))
      ∧ r.2.sem = fun _ => 0)

def quiescent_ScatterRefIdeal [hScatterRefIdeal : Cert.ScatterRefIdeal.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0)
      ∧ r.2.mem ((c.tc : Thread Cert.ScatterRefIdeal.nD Cert.ScatterRefIdeal.τ).loc Cert.ScatterRefIdeal.main_arg1) = m ((c.tc : Thread Cert.ScatterRefIdeal.nD Cert.ScatterRefIdeal.τ).loc Cert.ScatterRefIdeal.main_arg1)
      ∧ r.2.mem ((c.tc : Thread Cert.ScatterRefIdeal.nD Cert.ScatterRefIdeal.τ).loc Cert.ScatterRefIdeal.main_arg2) = m ((c.tc : Thread Cert.ScatterRefIdeal.nD Cert.ScatterRefIdeal.τ).loc Cert.ScatterRefIdeal.main_arg2)
      ∧ r.2.mem ((c.tc : Thread Cert.ScatterRefIdeal.nD Cert.ScatterRefIdeal.τ).loc Cert.ScatterRefIdeal.main_arg3) = m ((c.tc : Thread Cert.ScatterRefIdeal.nD Cert.ScatterRefIdeal.τ).loc Cert.ScatterRefIdeal.main_arg3)
      ∧ r.2.mem ((c.tc : Thread Cert.ScatterRefIdeal.nD Cert.ScatterRefIdeal.τ).loc Cert.ScatterRefIdeal.main_arg4) = m ((c.tc : Thread Cert.ScatterRefIdeal.nD Cert.ScatterRefIdeal.τ).loc Cert.ScatterRefIdeal.main_arg4)
      ∧ r.2.mem ((c.tc : Thread Cert.ScatterRefIdeal.nD Cert.ScatterRefIdeal.τ).loc Cert.ScatterRefIdeal.main_arg5) = m ((c.tc : Thread Cert.ScatterRefIdeal.nD Cert.ScatterRefIdeal.τ).loc Cert.ScatterRefIdeal.main_arg5)
      ∧ r.2.mem ((c.tc : Thread Cert.ScatterRefIdeal.nD Cert.ScatterRefIdeal.τ).loc Cert.ScatterRefIdeal.main_arg6) = m ((c.tc : Thread Cert.ScatterRefIdeal.nD Cert.ScatterRefIdeal.τ).loc Cert.ScatterRefIdeal.main_arg6))
      ∧ r.2.sem = fun _ => 0)

def quiescent_ScatterRefIdeal_pre_slots_within_counts [hScatterRefIdeal : Cert.ScatterRefIdeal.Facts] [hPre_slots_within_counts : Cert.Pre_slots_within_counts.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal_slots_within_counts m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0)
      ∧ r.2.mem ((c.tc : Thread Cert.ScatterRefIdeal.nD Cert.ScatterRefIdeal.τ).loc Cert.ScatterRefIdeal.main_arg1) = m ((c.tc : Thread Cert.ScatterRefIdeal.nD Cert.ScatterRefIdeal.τ).loc Cert.ScatterRefIdeal.main_arg1)
      ∧ r.2.mem ((c.tc : Thread Cert.ScatterRefIdeal.nD Cert.ScatterRefIdeal.τ).loc Cert.ScatterRefIdeal.main_arg2) = m ((c.tc : Thread Cert.ScatterRefIdeal.nD Cert.ScatterRefIdeal.τ).loc Cert.ScatterRefIdeal.main_arg2)
      ∧ r.2.mem ((c.tc : Thread Cert.ScatterRefIdeal.nD Cert.ScatterRefIdeal.τ).loc Cert.ScatterRefIdeal.main_arg3) = m ((c.tc : Thread Cert.ScatterRefIdeal.nD Cert.ScatterRefIdeal.τ).loc Cert.ScatterRefIdeal.main_arg3)
      ∧ r.2.mem ((c.tc : Thread Cert.ScatterRefIdeal.nD Cert.ScatterRefIdeal.τ).loc Cert.ScatterRefIdeal.main_arg4) = m ((c.tc : Thread Cert.ScatterRefIdeal.nD Cert.ScatterRefIdeal.τ).loc Cert.ScatterRefIdeal.main_arg4)
      ∧ r.2.mem ((c.tc : Thread Cert.ScatterRefIdeal.nD Cert.ScatterRefIdeal.τ).loc Cert.ScatterRefIdeal.main_arg5) = m ((c.tc : Thread Cert.ScatterRefIdeal.nD Cert.ScatterRefIdeal.τ).loc Cert.ScatterRefIdeal.main_arg5)
      ∧ r.2.mem ((c.tc : Thread Cert.ScatterRefIdeal.nD Cert.ScatterRefIdeal.τ).loc Cert.ScatterRefIdeal.main_arg6) = m ((c.tc : Thread Cert.ScatterRefIdeal.nD Cert.ScatterRefIdeal.τ).loc Cert.ScatterRefIdeal.main_arg6))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1)
      ∧ r.2.mem ((c.tc : Thread Cert.Prenorm.nD Cert.Prenorm.τ).loc Cert.Prenorm.main_arg2) = m ((c.tc : Thread Cert.Prenorm.nD Cert.Prenorm.τ).loc Cert.Prenorm.main_arg2)
      ∧ r.2.mem ((c.tc : Thread Cert.Prenorm.nD Cert.Prenorm.τ).loc Cert.Prenorm.main_arg3) = m ((c.tc : Thread Cert.Prenorm.nD Cert.Prenorm.τ).loc Cert.Prenorm.main_arg3))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
      ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
      ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3))
      ∧ r.2.sem = fun _ => 0)

def quiescent_PrenormRefIdeal [hPrenormRefIdeal : Cert.PrenormRefIdeal.Facts] : Prop :=
  ∀ (m : (ℓ : Loc Cert.PrenormRefIdeal.nD Cert.PrenormRefIdeal.τ Cert.PrenormRefIdeal.sig) → Buf (Elt Ideal) ℓ) (g : Dev Cert.PrenormRefIdeal.nD → PrngReg), Pre_PrenormRefIdeal m →
    θ_run (Cert.PrenormRefIdeal.defs (F := Ideal)) (onTc (τ := Cert.PrenormRefIdeal.τ) (Cert.PrenormRefIdeal.main (F := Ideal))) ⟨m, fun _ => 0, g⟩ (fun r => (∀ c : Dev Cert.PrenormRefIdeal.nD,
      r.2.mem ((c.tc : Thread Cert.PrenormRefIdeal.nD Cert.PrenormRefIdeal.τ).loc Cert.PrenormRefIdeal.main_arg0) = m ((c.tc : Thread Cert.PrenormRefIdeal.nD Cert.PrenormRefIdeal.τ).loc Cert.PrenormRefIdeal.main_arg0)
      ∧ r.2.mem ((c.tc : Thread Cert.PrenormRefIdeal.nD Cert.PrenormRefIdeal.τ).loc Cert.PrenormRefIdeal.main_arg1) = m ((c.tc : Thread Cert.PrenormRefIdeal.nD Cert.PrenormRefIdeal.τ).loc Cert.PrenormRefIdeal.main_arg1)
      ∧ r.2.mem ((c.tc : Thread Cert.PrenormRefIdeal.nD Cert.PrenormRefIdeal.τ).loc Cert.PrenormRefIdeal.main_arg2) = m ((c.tc : Thread Cert.PrenormRefIdeal.nD Cert.PrenormRefIdeal.τ).loc Cert.PrenormRefIdeal.main_arg2)
      ∧ r.2.mem ((c.tc : Thread Cert.PrenormRefIdeal.nD Cert.PrenormRefIdeal.τ).loc Cert.PrenormRefIdeal.main_arg3) = m ((c.tc : Thread Cert.PrenormRefIdeal.nD Cert.PrenormRefIdeal.τ).loc Cert.PrenormRefIdeal.main_arg3))
      ∧ r.2.sem = fun _ => 0)

def quiescent_Readout [hReadout : Cert.Readout.Facts] : Prop :=
  ∀ (m : (ℓ : Loc Cert.Readout.nD Cert.Readout.τ Cert.Readout.sig) → Buf (Elt Bits) ℓ) (g : Dev Cert.Readout.nD → PrngReg), Pre_Readout m →
    θ_run (Cert.Readout.defs (F := Bits)) (onTc (τ := Cert.Readout.τ) (Cert.Readout.main (F := Bits))) ⟨m, fun _ => 0, g⟩ (fun r => (∀ c : Dev Cert.Readout.nD,
      r.2.mem ((c.tc : Thread Cert.Readout.nD Cert.Readout.τ).loc Cert.Readout.main_arg0) = m ((c.tc : Thread Cert.Readout.nD Cert.Readout.τ).loc Cert.Readout.main_arg0)
      ∧ r.2.mem ((c.tc : Thread Cert.Readout.nD Cert.Readout.τ).loc Cert.Readout.main_arg1) = m ((c.tc : Thread Cert.Readout.nD Cert.Readout.τ).loc Cert.Readout.main_arg1)
      ∧ r.2.mem ((c.tc : Thread Cert.Readout.nD Cert.Readout.τ).loc Cert.Readout.main_arg2) = m ((c.tc : Thread Cert.Readout.nD Cert.Readout.τ).loc Cert.Readout.main_arg2)
      ∧ r.2.mem ((c.tc : Thread Cert.Readout.nD Cert.Readout.τ).loc Cert.Readout.main_arg3) = m ((c.tc : Thread Cert.Readout.nD Cert.Readout.τ).loc Cert.Readout.main_arg3)
      ∧ r.2.mem ((c.tc : Thread Cert.Readout.nD Cert.Readout.τ).loc Cert.Readout.main_arg4) = m ((c.tc : Thread Cert.Readout.nD Cert.Readout.τ).loc Cert.Readout.main_arg4)
      ∧ r.2.mem ((c.tc : Thread Cert.Readout.nD Cert.Readout.τ).loc Cert.Readout.main_arg5) = m ((c.tc : Thread Cert.Readout.nD Cert.Readout.τ).loc Cert.Readout.main_arg5)
      ∧ r.2.mem ((c.tc : Thread Cert.Readout.nD Cert.Readout.τ).loc Cert.Readout.main_arg6) = m ((c.tc : Thread Cert.Readout.nD Cert.Readout.τ).loc Cert.Readout.main_arg6))
      ∧ r.2.sem = fun _ => 0)

def quiescent_ReadoutIdeal [hReadoutIdeal : Cert.ReadoutIdeal.Facts] : Prop :=
  ∀ (m : (ℓ : Loc Cert.ReadoutIdeal.nD Cert.ReadoutIdeal.τ Cert.ReadoutIdeal.sig) → Buf (Elt Ideal) ℓ) (g : Dev Cert.ReadoutIdeal.nD → PrngReg), Pre_ReadoutIdeal m →
    θ_run (Cert.ReadoutIdeal.defs (F := Ideal)) (onTc (τ := Cert.ReadoutIdeal.τ) (Cert.ReadoutIdeal.main (F := Ideal))) ⟨m, fun _ => 0, g⟩ (fun r => (∀ c : Dev Cert.ReadoutIdeal.nD,
      r.2.mem ((c.tc : Thread Cert.ReadoutIdeal.nD Cert.ReadoutIdeal.τ).loc Cert.ReadoutIdeal.main_arg0) = m ((c.tc : Thread Cert.ReadoutIdeal.nD Cert.ReadoutIdeal.τ).loc Cert.ReadoutIdeal.main_arg0)
      ∧ r.2.mem ((c.tc : Thread Cert.ReadoutIdeal.nD Cert.ReadoutIdeal.τ).loc Cert.ReadoutIdeal.main_arg1) = m ((c.tc : Thread Cert.ReadoutIdeal.nD Cert.ReadoutIdeal.τ).loc Cert.ReadoutIdeal.main_arg1)
      ∧ r.2.mem ((c.tc : Thread Cert.ReadoutIdeal.nD Cert.ReadoutIdeal.τ).loc Cert.ReadoutIdeal.main_arg2) = m ((c.tc : Thread Cert.ReadoutIdeal.nD Cert.ReadoutIdeal.τ).loc Cert.ReadoutIdeal.main_arg2)
      ∧ r.2.mem ((c.tc : Thread Cert.ReadoutIdeal.nD Cert.ReadoutIdeal.τ).loc Cert.ReadoutIdeal.main_arg3) = m ((c.tc : Thread Cert.ReadoutIdeal.nD Cert.ReadoutIdeal.τ).loc Cert.ReadoutIdeal.main_arg3)
      ∧ r.2.mem ((c.tc : Thread Cert.ReadoutIdeal.nD Cert.ReadoutIdeal.τ).loc Cert.ReadoutIdeal.main_arg4) = m ((c.tc : Thread Cert.ReadoutIdeal.nD Cert.ReadoutIdeal.τ).loc Cert.ReadoutIdeal.main_arg4)
      ∧ r.2.mem ((c.tc : Thread Cert.ReadoutIdeal.nD Cert.ReadoutIdeal.τ).loc Cert.ReadoutIdeal.main_arg5) = m ((c.tc : Thread Cert.ReadoutIdeal.nD Cert.ReadoutIdeal.τ).loc Cert.ReadoutIdeal.main_arg5)
      ∧ r.2.mem ((c.tc : Thread Cert.ReadoutIdeal.nD Cert.ReadoutIdeal.τ).loc Cert.ReadoutIdeal.main_arg6) = m ((c.tc : Thread Cert.ReadoutIdeal.nD Cert.ReadoutIdeal.τ).loc Cert.ReadoutIdeal.main_arg6))
      ∧ r.2.sem = fun _ => 0)

def quiescent_ReadoutRefIdeal [hReadoutRefIdeal : Cert.ReadoutRefIdeal.Facts] : Prop :=
  ∀ (m : (ℓ : Loc Cert.ReadoutRefIdeal.nD Cert.ReadoutRefIdeal.τ Cert.ReadoutRefIdeal.sig) → Buf (Elt Ideal) ℓ) (g : Dev Cert.ReadoutRefIdeal.nD → PrngReg), Pre_ReadoutRefIdeal m →
    θ_run (Cert.ReadoutRefIdeal.defs (F := Ideal)) (onTc (τ := Cert.ReadoutRefIdeal.τ) (Cert.ReadoutRefIdeal.main (F := Ideal))) ⟨m, fun _ => 0, g⟩ (fun r => (∀ c : Dev Cert.ReadoutRefIdeal.nD,
      r.2.mem ((c.tc : Thread Cert.ReadoutRefIdeal.nD Cert.ReadoutRefIdeal.τ).loc Cert.ReadoutRefIdeal.main_arg0) = m ((c.tc : Thread Cert.ReadoutRefIdeal.nD Cert.ReadoutRefIdeal.τ).loc Cert.ReadoutRefIdeal.main_arg0)
      ∧ r.2.mem ((c.tc : Thread Cert.ReadoutRefIdeal.nD Cert.ReadoutRefIdeal.τ).loc Cert.ReadoutRefIdeal.main_arg1) = m ((c.tc : Thread Cert.ReadoutRefIdeal.nD Cert.ReadoutRefIdeal.τ).loc Cert.ReadoutRefIdeal.main_arg1)
      ∧ r.2.mem ((c.tc : Thread Cert.ReadoutRefIdeal.nD Cert.ReadoutRefIdeal.τ).loc Cert.ReadoutRefIdeal.main_arg2) = m ((c.tc : Thread Cert.ReadoutRefIdeal.nD Cert.ReadoutRefIdeal.τ).loc Cert.ReadoutRefIdeal.main_arg2)
      ∧ r.2.mem ((c.tc : Thread Cert.ReadoutRefIdeal.nD Cert.ReadoutRefIdeal.τ).loc Cert.ReadoutRefIdeal.main_arg3) = m ((c.tc : Thread Cert.ReadoutRefIdeal.nD Cert.ReadoutRefIdeal.τ).loc Cert.ReadoutRefIdeal.main_arg3)
      ∧ r.2.mem ((c.tc : Thread Cert.ReadoutRefIdeal.nD Cert.ReadoutRefIdeal.τ).loc Cert.ReadoutRefIdeal.main_arg4) = m ((c.tc : Thread Cert.ReadoutRefIdeal.nD Cert.ReadoutRefIdeal.τ).loc Cert.ReadoutRefIdeal.main_arg4)
      ∧ r.2.mem ((c.tc : Thread Cert.ReadoutRefIdeal.nD Cert.ReadoutRefIdeal.τ).loc Cert.ReadoutRefIdeal.main_arg5) = m ((c.tc : Thread Cert.ReadoutRefIdeal.nD Cert.ReadoutRefIdeal.τ).loc Cert.ReadoutRefIdeal.main_arg5)
      ∧ r.2.mem ((c.tc : Thread Cert.ReadoutRefIdeal.nD Cert.ReadoutRefIdeal.τ).loc Cert.ReadoutRefIdeal.main_arg6) = m ((c.tc : Thread Cert.ReadoutRefIdeal.nD Cert.ReadoutRefIdeal.τ).loc Cert.ReadoutRefIdeal.main_arg6))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2)
      ∧ r.2.mem ((c.tc : Thread Cert.Resid.nD Cert.Resid.τ).loc Cert.Resid.main_arg3) = m ((c.tc : Thread Cert.Resid.nD Cert.Resid.τ).loc Cert.Resid.main_arg3)
      ∧ r.2.mem ((c.tc : Thread Cert.Resid.nD Cert.Resid.τ).loc Cert.Resid.main_arg4) = m ((c.tc : Thread Cert.Resid.nD Cert.Resid.τ).loc Cert.Resid.main_arg4))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
      ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3)
      ∧ r.2.mem ((c.tc : Thread Cert.ResidIdeal.nD Cert.ResidIdeal.τ).loc Cert.ResidIdeal.main_arg4) = m ((c.tc : Thread Cert.ResidIdeal.nD Cert.ResidIdeal.τ).loc Cert.ResidIdeal.main_arg4))
      ∧ r.2.sem = fun _ => 0)

def quiescent_ResidRefIdeal [hResidRefIdeal : Cert.ResidRefIdeal.Facts] : Prop :=
  ∀ (m : (ℓ : Loc Cert.ResidRefIdeal.nD Cert.ResidRefIdeal.τ Cert.ResidRefIdeal.sig) → Buf (Elt Ideal) ℓ) (g : Dev Cert.ResidRefIdeal.nD → PrngReg), Pre_ResidRefIdeal m →
    θ_run (Cert.ResidRefIdeal.defs (F := Ideal)) (onTc (τ := Cert.ResidRefIdeal.τ) (Cert.ResidRefIdeal.main (F := Ideal))) ⟨m, fun _ => 0, g⟩ (fun r => (∀ c : Dev Cert.ResidRefIdeal.nD,
      r.2.mem ((c.tc : Thread Cert.ResidRefIdeal.nD Cert.ResidRefIdeal.τ).loc Cert.ResidRefIdeal.main_arg0) = m ((c.tc : Thread Cert.ResidRefIdeal.nD Cert.ResidRefIdeal.τ).loc Cert.ResidRefIdeal.main_arg0)
      ∧ r.2.mem ((c.tc : Thread Cert.ResidRefIdeal.nD Cert.ResidRefIdeal.τ).loc Cert.ResidRefIdeal.main_arg1) = m ((c.tc : Thread Cert.ResidRefIdeal.nD Cert.ResidRefIdeal.τ).loc Cert.ResidRefIdeal.main_arg1)
      ∧ r.2.mem ((c.tc : Thread Cert.ResidRefIdeal.nD Cert.ResidRefIdeal.τ).loc Cert.ResidRefIdeal.main_arg2) = m ((c.tc : Thread Cert.ResidRefIdeal.nD Cert.ResidRefIdeal.τ).loc Cert.ResidRefIdeal.main_arg2)
      ∧ r.2.mem ((c.tc : Thread Cert.ResidRefIdeal.nD Cert.ResidRefIdeal.τ).loc Cert.ResidRefIdeal.main_arg3) = m ((c.tc : Thread Cert.ResidRefIdeal.nD Cert.ResidRefIdeal.τ).loc Cert.ResidRefIdeal.main_arg3)
      ∧ r.2.mem ((c.tc : Thread Cert.ResidRefIdeal.nD Cert.ResidRefIdeal.τ).loc Cert.ResidRefIdeal.main_arg4) = m ((c.tc : Thread Cert.ResidRefIdeal.nD Cert.ResidRefIdeal.τ).loc Cert.ResidRefIdeal.main_arg4))
      ∧ r.2.sem = fun _ => 0)

def quiescent_Gather [hGather : Cert.Gather.Facts] [hPre_tokens_in_range : Cert.Pre_tokens_in_range.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_tokens_in_range : Cert.Pre_tokens_in_range.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1))
      ∧ r.2.sem = fun _ => 0)

def quiescent_GatherRefIdeal_pre_tokens_in_range [hGatherRefIdeal : Cert.GatherRefIdeal.Facts] [hPre_tokens_in_range : Cert.Pre_tokens_in_range.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal_tokens_in_range m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1))
      ∧ r.2.sem = fun _ => 0)

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v4) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_InMerge_InMergeIdeal : Prop :=
  True

def algebraic_InMergeIdeal_InMergeRefIdeal [hInMergeIdeal : Cert.InMergeIdeal.Facts] [hInMergeRefIdeal : Cert.InMergeRefIdeal.Facts] : Prop :=
  ∀ (m : (ℓ : Loc Cert.InMergeIdeal.nD Cert.InMergeIdeal.τ Cert.InMergeIdeal.sig) → Buf (Elt Ideal) ℓ) (g : Dev Cert.InMergeIdeal.nD → PrngReg)
    (m' : (ℓ : Loc Cert.InMergeRefIdeal.nD Cert.InMergeRefIdeal.τ Cert.InMergeRefIdeal.sig) → Buf (Elt Ideal) ℓ) (g' : Dev Cert.InMergeRefIdeal.nD → PrngReg), Pre_InMergeIdeal m →
    (∀ c : Dev Cert.InMergeIdeal.nD,
      m' ((c.tc : Thread Cert.InMergeRefIdeal.nD Cert.InMergeRefIdeal.τ).loc Cert.InMergeRefIdeal.main_arg0) = m ((c.tc : Thread Cert.InMergeIdeal.nD Cert.InMergeIdeal.τ).loc Cert.InMergeIdeal.main_arg0)
      ∧ m' ((c.tc : Thread Cert.InMergeRefIdeal.nD Cert.InMergeRefIdeal.τ).loc Cert.InMergeRefIdeal.main_arg1) = m ((c.tc : Thread Cert.InMergeIdeal.nD Cert.InMergeIdeal.τ).loc Cert.InMergeIdeal.main_arg1)) →
    ∃ (v0 : (c : Dev Cert.InMergeIdeal.nD) → Buf (Elt Ideal) ((c.tc : Thread Cert.InMergeIdeal.nD Cert.InMergeIdeal.τ).loc Cert.InMergeIdeal.main_v0)),
      θ_run (Cert.InMergeIdeal.defs (F := Ideal)) (onTc (τ := Cert.InMergeIdeal.τ) (Cert.InMergeIdeal.main (F := Ideal))) ⟨m, fun _ => 0, g⟩ (fun r => ∀ c : Dev Cert.InMergeIdeal.nD,
          r.2.mem ((c.tc : Thread Cert.InMergeIdeal.nD Cert.InMergeIdeal.τ).loc Cert.InMergeIdeal.main_v0) = v0 c
          ∧ r.2.mem ((c.tc : Thread Cert.InMergeIdeal.nD Cert.InMergeIdeal.τ).loc Cert.InMergeIdeal.main_arg0) = m ((c.tc : Thread Cert.InMergeIdeal.nD Cert.InMergeIdeal.τ).loc Cert.InMergeIdeal.main_arg0)
          ∧ r.2.mem ((c.tc : Thread Cert.InMergeIdeal.nD Cert.InMergeIdeal.τ).loc Cert.InMergeIdeal.main_arg1) = m ((c.tc : Thread Cert.InMergeIdeal.nD Cert.InMergeIdeal.τ).loc Cert.InMergeIdeal.main_arg1))
      ∧ θ_run (Cert.InMergeRefIdeal.defs (F := Ideal)) (onTc (τ := Cert.InMergeRefIdeal.τ) (Cert.InMergeRefIdeal.main (F := Ideal))) ⟨m', fun _ => 0, g'⟩ (fun r => ∀ c : Dev Cert.InMergeRefIdeal.nD,
          r.2.mem ((c.tc : Thread Cert.InMergeRefIdeal.nD Cert.InMergeRefIdeal.τ).loc Cert.InMergeRefIdeal.main_v4) = v0 c
          ∧ r.2.mem ((c.tc : Thread Cert.InMergeRefIdeal.nD Cert.InMergeRefIdeal.τ).loc Cert.InMergeRefIdeal.main_arg0) = m' ((c.tc : Thread Cert.InMergeRefIdeal.nD Cert.InMergeRefIdeal.τ).loc Cert.InMergeRefIdeal.main_arg0)
          ∧ r.2.mem ((c.tc : Thread Cert.InMergeRefIdeal.nD Cert.InMergeRefIdeal.τ).loc Cert.InMergeRefIdeal.main_arg1) = m' ((c.tc : Thread Cert.InMergeRefIdeal.nD Cert.InMergeRefIdeal.τ).loc Cert.InMergeRefIdeal.main_arg1))

def preserves_InGates_InGatesIdeal : Prop :=
  True

def algebraic_InGatesIdeal_InGatesRefIdeal [hInGatesIdeal : Cert.InGatesIdeal.Facts] [hInGatesRefIdeal : Cert.InGatesRefIdeal.Facts] : Prop :=
  ∀ (m : (ℓ : Loc Cert.InGatesIdeal.nD Cert.InGatesIdeal.τ Cert.InGatesIdeal.sig) → Buf (Elt Ideal) ℓ) (g : Dev Cert.InGatesIdeal.nD → PrngReg)
    (m' : (ℓ : Loc Cert.InGatesRefIdeal.nD Cert.InGatesRefIdeal.τ Cert.InGatesRefIdeal.sig) → Buf (Elt Ideal) ℓ) (g' : Dev Cert.InGatesRefIdeal.nD → PrngReg), Pre_InGatesIdeal m →
    (∀ c : Dev Cert.InGatesIdeal.nD,
      m' ((c.tc : Thread Cert.InGatesRefIdeal.nD Cert.InGatesRefIdeal.τ).loc Cert.InGatesRefIdeal.main_arg0) = m ((c.tc : Thread Cert.InGatesIdeal.nD Cert.InGatesIdeal.τ).loc Cert.InGatesIdeal.main_arg0)
      ∧ m' ((c.tc : Thread Cert.InGatesRefIdeal.nD Cert.InGatesRefIdeal.τ).loc Cert.InGatesRefIdeal.main_arg1) = m ((c.tc : Thread Cert.InGatesIdeal.nD Cert.InGatesIdeal.τ).loc Cert.InGatesIdeal.main_arg1)
      ∧ m' ((c.tc : Thread Cert.InGatesRefIdeal.nD Cert.InGatesRefIdeal.τ).loc Cert.InGatesRefIdeal.main_arg2) = m ((c.tc : Thread Cert.InGatesIdeal.nD Cert.InGatesIdeal.τ).loc Cert.InGatesIdeal.main_arg2)) →
    ∃ (v0 : (c : Dev Cert.InGatesIdeal.nD) → Buf (Elt Ideal) ((c.tc : Thread Cert.InGatesIdeal.nD Cert.InGatesIdeal.τ).loc Cert.InGatesIdeal.main_v5)),
      θ_run (Cert.InGatesIdeal.defs (F := Ideal)) (onTc (τ := Cert.InGatesIdeal.τ) (Cert.InGatesIdeal.main (F := Ideal))) ⟨m, fun _ => 0, g⟩ (fun r => ∀ c : Dev Cert.InGatesIdeal.nD,
          r.2.mem ((c.tc : Thread Cert.InGatesIdeal.nD Cert.InGatesIdeal.τ).loc Cert.InGatesIdeal.main_v5) = v0 c
          ∧ r.2.mem ((c.tc : Thread Cert.InGatesIdeal.nD Cert.InGatesIdeal.τ).loc Cert.InGatesIdeal.main_arg0) = m ((c.tc : Thread Cert.InGatesIdeal.nD Cert.InGatesIdeal.τ).loc Cert.InGatesIdeal.main_arg0)
          ∧ r.2.mem ((c.tc : Thread Cert.InGatesIdeal.nD Cert.InGatesIdeal.τ).loc Cert.InGatesIdeal.main_arg1) = m ((c.tc : Thread Cert.InGatesIdeal.nD Cert.InGatesIdeal.τ).loc Cert.InGatesIdeal.main_arg1)
          ∧ r.2.mem ((c.tc : Thread Cert.InGatesIdeal.nD Cert.InGatesIdeal.τ).loc Cert.InGatesIdeal.main_arg2) = m ((c.tc : Thread Cert.InGatesIdeal.nD Cert.InGatesIdeal.τ).loc Cert.InGatesIdeal.main_arg2))
      ∧ θ_run (Cert.InGatesRefIdeal.defs (F := Ideal)) (onTc (τ := Cert.InGatesRefIdeal.τ) (Cert.InGatesRefIdeal.main (F := Ideal))) ⟨m', fun _ => 0, g'⟩ (fun r => ∀ c : Dev Cert.InGatesRefIdeal.nD,
          r.2.mem ((c.tc : Thread Cert.InGatesRefIdeal.nD Cert.InGatesRefIdeal.τ).loc Cert.InGatesRefIdeal.main_v10) = v0 c
          ∧ r.2.mem ((c.tc : Thread Cert.InGatesRefIdeal.nD Cert.InGatesRefIdeal.τ).loc Cert.InGatesRefIdeal.main_arg0) = m' ((c.tc : Thread Cert.InGatesRefIdeal.nD Cert.InGatesRefIdeal.τ).loc Cert.InGatesRefIdeal.main_arg0)
          ∧ r.2.mem ((c.tc : Thread Cert.InGatesRefIdeal.nD Cert.InGatesRefIdeal.τ).loc Cert.InGatesRefIdeal.main_arg1) = m' ((c.tc : Thread Cert.InGatesRefIdeal.nD Cert.InGatesRefIdeal.τ).loc Cert.InGatesRefIdeal.main_arg1)
          ∧ r.2.mem ((c.tc : Thread Cert.InGatesRefIdeal.nD Cert.InGatesRefIdeal.τ).loc Cert.InGatesRefIdeal.main_arg2) = m' ((c.tc : Thread Cert.InGatesRefIdeal.nD Cert.InGatesRefIdeal.τ).loc Cert.InGatesRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v23) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v2) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v7) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_Scatter_ScatterIdeal : Prop :=
  True

def algebraic_ScatterIdeal_ScatterRefIdeal_pre_slots_within_counts [hScatterIdeal : Cert.ScatterIdeal.Facts] [hScatterRefIdeal : Cert.ScatterRefIdeal.Facts] [hPre_slots_within_counts : Cert.Pre_slots_within_counts.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterRefIdeal.nD Cert.ScatterRefIdeal.τ Cert.ScatterRefIdeal.sig) → Buf (Elt Ideal) ℓ) (g' : Dev Cert.ScatterRefIdeal.nD → PrngReg), Pre_ScatterIdeal_slots_within_counts m →
    (∀ c : Dev Cert.ScatterIdeal.nD,
      m' ((c.tc : Thread Cert.ScatterRefIdeal.nD Cert.ScatterRefIdeal.τ).loc Cert.ScatterRefIdeal.main_arg0) = m ((c.tc : Thread Cert.ScatterIdeal.nD Cert.ScatterIdeal.τ).loc Cert.ScatterIdeal.main_arg0)
      ∧ m' ((c.tc : Thread Cert.ScatterRefIdeal.nD Cert.ScatterRefIdeal.τ).loc Cert.ScatterRefIdeal.main_arg1) = m ((c.tc : Thread Cert.ScatterIdeal.nD Cert.ScatterIdeal.τ).loc Cert.ScatterIdeal.main_arg1)
      ∧ m' ((c.tc : Thread Cert.ScatterRefIdeal.nD Cert.ScatterRefIdeal.τ).loc Cert.ScatterRefIdeal.main_arg2) = m ((c.tc : Thread Cert.ScatterIdeal.nD Cert.ScatterIdeal.τ).loc Cert.ScatterIdeal.main_arg2)
      ∧ m' ((c.tc : Thread Cert.ScatterRefIdeal.nD Cert.ScatterRefIdeal.τ).loc Cert.ScatterRefIdeal.main_arg3) = m ((c.tc : Thread Cert.ScatterIdeal.nD Cert.ScatterIdeal.τ).loc Cert.ScatterIdeal.main_arg3)
      ∧ m' ((c.tc : Thread Cert.ScatterRefIdeal.nD Cert.ScatterRefIdeal.τ).loc Cert.ScatterRefIdeal.main_arg4) = m ((c.tc : Thread Cert.ScatterIdeal.nD Cert.ScatterIdeal.τ).loc Cert.ScatterIdeal.main_arg4)
      ∧ m' ((c.tc : Thread Cert.ScatterRefIdeal.nD Cert.ScatterRefIdeal.τ).loc Cert.ScatterRefIdeal.main_arg5) = m ((c.tc : Thread Cert.ScatterIdeal.nD Cert.ScatterIdeal.τ).loc Cert.ScatterIdeal.main_arg5)
      ∧ m' ((c.tc : Thread Cert.ScatterRefIdeal.nD Cert.ScatterRefIdeal.τ).loc Cert.ScatterRefIdeal.main_arg6) = m ((c.tc : Thread Cert.ScatterIdeal.nD Cert.ScatterIdeal.τ).loc Cert.ScatterIdeal.main_arg6)) →
    ∃ (v0 : (c : Dev Cert.ScatterIdeal.nD) → Buf (Elt Ideal) ((c.tc : Thread Cert.ScatterIdeal.nD Cert.ScatterIdeal.τ).loc Cert.ScatterIdeal.main_v0)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v0) = v0 c
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
          ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
          ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3)
          ∧ r.2.mem ((c.tc : Thread Cert.ScatterIdeal.nD Cert.ScatterIdeal.τ).loc Cert.ScatterIdeal.main_arg4) = m ((c.tc : Thread Cert.ScatterIdeal.nD Cert.ScatterIdeal.τ).loc Cert.ScatterIdeal.main_arg4)
          ∧ r.2.mem ((c.tc : Thread Cert.ScatterIdeal.nD Cert.ScatterIdeal.τ).loc Cert.ScatterIdeal.main_arg5) = m ((c.tc : Thread Cert.ScatterIdeal.nD Cert.ScatterIdeal.τ).loc Cert.ScatterIdeal.main_arg5)
          ∧ r.2.mem ((c.tc : Thread Cert.ScatterIdeal.nD Cert.ScatterIdeal.τ).loc Cert.ScatterIdeal.main_arg6) = m ((c.tc : Thread Cert.ScatterIdeal.nD Cert.ScatterIdeal.τ).loc Cert.ScatterIdeal.main_arg6))
      ∧ θ_run (Cert.ScatterRefIdeal.defs (F := Ideal)) (onTc (τ := Cert.ScatterRefIdeal.τ) (Cert.ScatterRefIdeal.main (F := Ideal))) ⟨m', fun _ => 0, g'⟩ (fun r => ∀ c : Dev Cert.ScatterRefIdeal.nD,
          r.2.mem ((c.tc : Thread Cert.ScatterRefIdeal.nD Cert.ScatterRefIdeal.τ).loc Cert.ScatterRefIdeal.main_v33) = v0 c
          ∧ r.2.mem ((c.tc : Thread Cert.ScatterRefIdeal.nD Cert.ScatterRefIdeal.τ).loc Cert.ScatterRefIdeal.main_arg0) = m' ((c.tc : Thread Cert.ScatterRefIdeal.nD Cert.ScatterRefIdeal.τ).loc Cert.ScatterRefIdeal.main_arg0)
          ∧ r.2.mem ((c.tc : Thread Cert.ScatterRefIdeal.nD Cert.ScatterRefIdeal.τ).loc Cert.ScatterRefIdeal.main_arg1) = m' ((c.tc : Thread Cert.ScatterRefIdeal.nD Cert.ScatterRefIdeal.τ).loc Cert.ScatterRefIdeal.main_arg1)
          ∧ r.2.mem ((c.tc : Thread Cert.ScatterRefIdeal.nD Cert.ScatterRefIdeal.τ).loc Cert.ScatterRefIdeal.main_arg2) = m' ((c.tc : Thread Cert.ScatterRefIdeal.nD Cert.ScatterRefIdeal.τ).loc Cert.ScatterRefIdeal.main_arg2)
          ∧ r.2.mem ((c.tc : Thread Cert.ScatterRefIdeal.nD Cert.ScatterRefIdeal.τ).loc Cert.ScatterRefIdeal.main_arg3) = m' ((c.tc : Thread Cert.ScatterRefIdeal.nD Cert.ScatterRefIdeal.τ).loc Cert.ScatterRefIdeal.main_arg3)
          ∧ r.2.mem ((c.tc : Thread Cert.ScatterRefIdeal.nD Cert.ScatterRefIdeal.τ).loc Cert.ScatterRefIdeal.main_arg4) = m' ((c.tc : Thread Cert.ScatterRefIdeal.nD Cert.ScatterRefIdeal.τ).loc Cert.ScatterRefIdeal.main_arg4)
          ∧ r.2.mem ((c.tc : Thread Cert.ScatterRefIdeal.nD Cert.ScatterRefIdeal.τ).loc Cert.ScatterRefIdeal.main_arg5) = m' ((c.tc : Thread Cert.ScatterRefIdeal.nD Cert.ScatterRefIdeal.τ).loc Cert.ScatterRefIdeal.main_arg5)
          ∧ r.2.mem ((c.tc : Thread Cert.ScatterRefIdeal.nD Cert.ScatterRefIdeal.τ).loc Cert.ScatterRefIdeal.main_arg6) = m' ((c.tc : Thread Cert.ScatterRefIdeal.nD Cert.ScatterRefIdeal.τ).loc Cert.ScatterRefIdeal.main_arg6))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v3) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v6) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Prenorm_PrenormIdeal : Prop :=
  True

def algebraic_PrenormIdeal_PrenormRefIdeal [hPrenormIdeal : Cert.PrenormIdeal.Facts] [hPrenormRefIdeal : Cert.PrenormRefIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormRefIdeal.nD Cert.PrenormRefIdeal.τ Cert.PrenormRefIdeal.sig) → Buf (Elt Ideal) ℓ) (g' : Dev Cert.PrenormRefIdeal.nD → PrngReg), Pre_PrenormIdeal m →
    (∀ c : Dev Cert.PrenormIdeal.nD,
      m' ((c.tc : Thread Cert.PrenormRefIdeal.nD Cert.PrenormRefIdeal.τ).loc Cert.PrenormRefIdeal.main_arg0) = m ((c.tc : Thread Cert.PrenormIdeal.nD Cert.PrenormIdeal.τ).loc Cert.PrenormIdeal.main_arg0)
      ∧ m' ((c.tc : Thread Cert.PrenormRefIdeal.nD Cert.PrenormRefIdeal.τ).loc Cert.PrenormRefIdeal.main_arg1) = m ((c.tc : Thread Cert.PrenormIdeal.nD Cert.PrenormIdeal.τ).loc Cert.PrenormIdeal.main_arg1)
      ∧ m' ((c.tc : Thread Cert.PrenormRefIdeal.nD Cert.PrenormRefIdeal.τ).loc Cert.PrenormRefIdeal.main_arg2) = m ((c.tc : Thread Cert.PrenormIdeal.nD Cert.PrenormIdeal.τ).loc Cert.PrenormIdeal.main_arg2)
      ∧ m' ((c.tc : Thread Cert.PrenormRefIdeal.nD Cert.PrenormRefIdeal.τ).loc Cert.PrenormRefIdeal.main_arg3) = m ((c.tc : Thread Cert.PrenormIdeal.nD Cert.PrenormIdeal.τ).loc Cert.PrenormIdeal.main_arg3)) →
    ∃ (v0 : (c : Dev Cert.PrenormIdeal.nD) → Buf (Elt Ideal) ((c.tc : Thread Cert.PrenormIdeal.nD Cert.PrenormIdeal.τ).loc Cert.PrenormIdeal.main_v4)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v4) = v0 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
          ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
          ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3))
      ∧ θ_run (Cert.PrenormRefIdeal.defs (F := Ideal)) (onTc (τ := Cert.PrenormRefIdeal.τ) (Cert.PrenormRefIdeal.main (F := Ideal))) ⟨m', fun _ => 0, g'⟩ (fun r => ∀ c : Dev Cert.PrenormRefIdeal.nD,
          r.2.mem ((c.tc : Thread Cert.PrenormRefIdeal.nD Cert.PrenormRefIdeal.τ).loc Cert.PrenormRefIdeal.main_v56) = v0 c
          ∧ r.2.mem ((c.tc : Thread Cert.PrenormRefIdeal.nD Cert.PrenormRefIdeal.τ).loc Cert.PrenormRefIdeal.main_arg0) = m' ((c.tc : Thread Cert.PrenormRefIdeal.nD Cert.PrenormRefIdeal.τ).loc Cert.PrenormRefIdeal.main_arg0)
          ∧ r.2.mem ((c.tc : Thread Cert.PrenormRefIdeal.nD Cert.PrenormRefIdeal.τ).loc Cert.PrenormRefIdeal.main_arg1) = m' ((c.tc : Thread Cert.PrenormRefIdeal.nD Cert.PrenormRefIdeal.τ).loc Cert.PrenormRefIdeal.main_arg1)
          ∧ r.2.mem ((c.tc : Thread Cert.PrenormRefIdeal.nD Cert.PrenormRefIdeal.τ).loc Cert.PrenormRefIdeal.main_arg2) = m' ((c.tc : Thread Cert.PrenormRefIdeal.nD Cert.PrenormRefIdeal.τ).loc Cert.PrenormRefIdeal.main_arg2)
          ∧ r.2.mem ((c.tc : Thread Cert.PrenormRefIdeal.nD Cert.PrenormRefIdeal.τ).loc Cert.PrenormRefIdeal.main_arg3) = m' ((c.tc : Thread Cert.PrenormRefIdeal.nD Cert.PrenormRefIdeal.τ).loc Cert.PrenormRefIdeal.main_arg3))

def preserves_Readout_ReadoutIdeal : Prop :=
  True

def algebraic_ReadoutIdeal_ReadoutRefIdeal [hReadoutIdeal : Cert.ReadoutIdeal.Facts] [hReadoutRefIdeal : Cert.ReadoutRefIdeal.Facts] : Prop :=
  ∀ (m : (ℓ : Loc Cert.ReadoutIdeal.nD Cert.ReadoutIdeal.τ Cert.ReadoutIdeal.sig) → Buf (Elt Ideal) ℓ) (g : Dev Cert.ReadoutIdeal.nD → PrngReg)
    (m' : (ℓ : Loc Cert.ReadoutRefIdeal.nD Cert.ReadoutRefIdeal.τ Cert.ReadoutRefIdeal.sig) → Buf (Elt Ideal) ℓ) (g' : Dev Cert.ReadoutRefIdeal.nD → PrngReg), Pre_ReadoutIdeal m →
    (∀ c : Dev Cert.ReadoutIdeal.nD,
      m' ((c.tc : Thread Cert.ReadoutRefIdeal.nD Cert.ReadoutRefIdeal.τ).loc Cert.ReadoutRefIdeal.main_arg0) = m ((c.tc : Thread Cert.ReadoutIdeal.nD Cert.ReadoutIdeal.τ).loc Cert.ReadoutIdeal.main_arg0)
      ∧ m' ((c.tc : Thread Cert.ReadoutRefIdeal.nD Cert.ReadoutRefIdeal.τ).loc Cert.ReadoutRefIdeal.main_arg1) = m ((c.tc : Thread Cert.ReadoutIdeal.nD Cert.ReadoutIdeal.τ).loc Cert.ReadoutIdeal.main_arg1)
      ∧ m' ((c.tc : Thread Cert.ReadoutRefIdeal.nD Cert.ReadoutRefIdeal.τ).loc Cert.ReadoutRefIdeal.main_arg2) = m ((c.tc : Thread Cert.ReadoutIdeal.nD Cert.ReadoutIdeal.τ).loc Cert.ReadoutIdeal.main_arg2)
      ∧ m' ((c.tc : Thread Cert.ReadoutRefIdeal.nD Cert.ReadoutRefIdeal.τ).loc Cert.ReadoutRefIdeal.main_arg3) = m ((c.tc : Thread Cert.ReadoutIdeal.nD Cert.ReadoutIdeal.τ).loc Cert.ReadoutIdeal.main_arg3)
      ∧ m' ((c.tc : Thread Cert.ReadoutRefIdeal.nD Cert.ReadoutRefIdeal.τ).loc Cert.ReadoutRefIdeal.main_arg4) = m ((c.tc : Thread Cert.ReadoutIdeal.nD Cert.ReadoutIdeal.τ).loc Cert.ReadoutIdeal.main_arg4)
      ∧ m' ((c.tc : Thread Cert.ReadoutRefIdeal.nD Cert.ReadoutRefIdeal.τ).loc Cert.ReadoutRefIdeal.main_arg5) = m ((c.tc : Thread Cert.ReadoutIdeal.nD Cert.ReadoutIdeal.τ).loc Cert.ReadoutIdeal.main_arg5)
      ∧ m' ((c.tc : Thread Cert.ReadoutRefIdeal.nD Cert.ReadoutRefIdeal.τ).loc Cert.ReadoutRefIdeal.main_arg6) = m ((c.tc : Thread Cert.ReadoutIdeal.nD Cert.ReadoutIdeal.τ).loc Cert.ReadoutIdeal.main_arg6)) →
    ∃ (v0 : (c : Dev Cert.ReadoutIdeal.nD) → Buf (Elt Ideal) ((c.tc : Thread Cert.ReadoutIdeal.nD Cert.ReadoutIdeal.τ).loc Cert.ReadoutIdeal.main_v4_0)) (v1 : (c : Dev Cert.ReadoutIdeal.nD) → Buf (Elt Ideal) ((c.tc : Thread Cert.ReadoutIdeal.nD Cert.ReadoutIdeal.τ).loc Cert.ReadoutIdeal.main_v4_1)),
      θ_run (Cert.ReadoutIdeal.defs (F := Ideal)) (onTc (τ := Cert.ReadoutIdeal.τ) (Cert.ReadoutIdeal.main (F := Ideal))) ⟨m, fun _ => 0, g⟩ (fun r => ∀ c : Dev Cert.ReadoutIdeal.nD,
          r.2.mem ((c.tc : Thread Cert.ReadoutIdeal.nD Cert.ReadoutIdeal.τ).loc Cert.ReadoutIdeal.main_v4_0) = v0 c
          ∧ r.2.mem ((c.tc : Thread Cert.ReadoutIdeal.nD Cert.ReadoutIdeal.τ).loc Cert.ReadoutIdeal.main_v4_1) = v1 c
          ∧ r.2.mem ((c.tc : Thread Cert.ReadoutIdeal.nD Cert.ReadoutIdeal.τ).loc Cert.ReadoutIdeal.main_arg0) = m ((c.tc : Thread Cert.ReadoutIdeal.nD Cert.ReadoutIdeal.τ).loc Cert.ReadoutIdeal.main_arg0)
          ∧ r.2.mem ((c.tc : Thread Cert.ReadoutIdeal.nD Cert.ReadoutIdeal.τ).loc Cert.ReadoutIdeal.main_arg1) = m ((c.tc : Thread Cert.ReadoutIdeal.nD Cert.ReadoutIdeal.τ).loc Cert.ReadoutIdeal.main_arg1)
          ∧ r.2.mem ((c.tc : Thread Cert.ReadoutIdeal.nD Cert.ReadoutIdeal.τ).loc Cert.ReadoutIdeal.main_arg2) = m ((c.tc : Thread Cert.ReadoutIdeal.nD Cert.ReadoutIdeal.τ).loc Cert.ReadoutIdeal.main_arg2)
          ∧ r.2.mem ((c.tc : Thread Cert.ReadoutIdeal.nD Cert.ReadoutIdeal.τ).loc Cert.ReadoutIdeal.main_arg3) = m ((c.tc : Thread Cert.ReadoutIdeal.nD Cert.ReadoutIdeal.τ).loc Cert.ReadoutIdeal.main_arg3)
          ∧ r.2.mem ((c.tc : Thread Cert.ReadoutIdeal.nD Cert.ReadoutIdeal.τ).loc Cert.ReadoutIdeal.main_arg4) = m ((c.tc : Thread Cert.ReadoutIdeal.nD Cert.ReadoutIdeal.τ).loc Cert.ReadoutIdeal.main_arg4)
          ∧ r.2.mem ((c.tc : Thread Cert.ReadoutIdeal.nD Cert.ReadoutIdeal.τ).loc Cert.ReadoutIdeal.main_arg5) = m ((c.tc : Thread Cert.ReadoutIdeal.nD Cert.ReadoutIdeal.τ).loc Cert.ReadoutIdeal.main_arg5)
          ∧ r.2.mem ((c.tc : Thread Cert.ReadoutIdeal.nD Cert.ReadoutIdeal.τ).loc Cert.ReadoutIdeal.main_arg6) = m ((c.tc : Thread Cert.ReadoutIdeal.nD Cert.ReadoutIdeal.τ).loc Cert.ReadoutIdeal.main_arg6))
      ∧ θ_run (Cert.ReadoutRefIdeal.defs (F := Ideal)) (onTc (τ := Cert.ReadoutRefIdeal.τ) (Cert.ReadoutRefIdeal.main (F := Ideal))) ⟨m', fun _ => 0, g'⟩ (fun r => ∀ c : Dev Cert.ReadoutRefIdeal.nD,
          r.2.mem ((c.tc : Thread Cert.ReadoutRefIdeal.nD Cert.ReadoutRefIdeal.τ).loc Cert.ReadoutRefIdeal.main_v49) = v0 c
          ∧ r.2.mem ((c.tc : Thread Cert.ReadoutRefIdeal.nD Cert.ReadoutRefIdeal.τ).loc Cert.ReadoutRefIdeal.main_v50) = v1 c
          ∧ r.2.mem ((c.tc : Thread Cert.ReadoutRefIdeal.nD Cert.ReadoutRefIdeal.τ).loc Cert.ReadoutRefIdeal.main_arg0) = m' ((c.tc : Thread Cert.ReadoutRefIdeal.nD Cert.ReadoutRefIdeal.τ).loc Cert.ReadoutRefIdeal.main_arg0)
          ∧ r.2.mem ((c.tc : Thread Cert.ReadoutRefIdeal.nD Cert.ReadoutRefIdeal.τ).loc Cert.ReadoutRefIdeal.main_arg1) = m' ((c.tc : Thread Cert.ReadoutRefIdeal.nD Cert.ReadoutRefIdeal.τ).loc Cert.ReadoutRefIdeal.main_arg1)
          ∧ r.2.mem ((c.tc : Thread Cert.ReadoutRefIdeal.nD Cert.ReadoutRefIdeal.τ).loc Cert.ReadoutRefIdeal.main_arg2) = m' ((c.tc : Thread Cert.ReadoutRefIdeal.nD Cert.ReadoutRefIdeal.τ).loc Cert.ReadoutRefIdeal.main_arg2)
          ∧ r.2.mem ((c.tc : Thread Cert.ReadoutRefIdeal.nD Cert.ReadoutRefIdeal.τ).loc Cert.ReadoutRefIdeal.main_arg3) = m' ((c.tc : Thread Cert.ReadoutRefIdeal.nD Cert.ReadoutRefIdeal.τ).loc Cert.ReadoutRefIdeal.main_arg3)
          ∧ r.2.mem ((c.tc : Thread Cert.ReadoutRefIdeal.nD Cert.ReadoutRefIdeal.τ).loc Cert.ReadoutRefIdeal.main_arg4) = m' ((c.tc : Thread Cert.ReadoutRefIdeal.nD Cert.ReadoutRefIdeal.τ).loc Cert.ReadoutRefIdeal.main_arg4)
          ∧ r.2.mem ((c.tc : Thread Cert.ReadoutRefIdeal.nD Cert.ReadoutRefIdeal.τ).loc Cert.ReadoutRefIdeal.main_arg5) = m' ((c.tc : Thread Cert.ReadoutRefIdeal.nD Cert.ReadoutRefIdeal.τ).loc Cert.ReadoutRefIdeal.main_arg5)
          ∧ r.2.mem ((c.tc : Thread Cert.ReadoutRefIdeal.nD Cert.ReadoutRefIdeal.τ).loc Cert.ReadoutRefIdeal.main_arg6) = m' ((c.tc : Thread Cert.ReadoutRefIdeal.nD Cert.ReadoutRefIdeal.τ).loc Cert.ReadoutRefIdeal.main_arg6))

def preserves_Resid_ResidIdeal : Prop :=
  True

def algebraic_ResidIdeal_ResidRefIdeal [hResidIdeal : Cert.ResidIdeal.Facts] [hResidRefIdeal : Cert.ResidRefIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidRefIdeal.nD Cert.ResidRefIdeal.τ Cert.ResidRefIdeal.sig) → Buf (Elt Ideal) ℓ) (g' : Dev Cert.ResidRefIdeal.nD → PrngReg), Pre_ResidIdeal m →
    (∀ c : Dev Cert.ResidIdeal.nD,
      m' ((c.tc : Thread Cert.ResidRefIdeal.nD Cert.ResidRefIdeal.τ).loc Cert.ResidRefIdeal.main_arg0) = m ((c.tc : Thread Cert.ResidIdeal.nD Cert.ResidIdeal.τ).loc Cert.ResidIdeal.main_arg0)
      ∧ m' ((c.tc : Thread Cert.ResidRefIdeal.nD Cert.ResidRefIdeal.τ).loc Cert.ResidRefIdeal.main_arg1) = m ((c.tc : Thread Cert.ResidIdeal.nD Cert.ResidIdeal.τ).loc Cert.ResidIdeal.main_arg1)
      ∧ m' ((c.tc : Thread Cert.ResidRefIdeal.nD Cert.ResidRefIdeal.τ).loc Cert.ResidRefIdeal.main_arg2) = m ((c.tc : Thread Cert.ResidIdeal.nD Cert.ResidIdeal.τ).loc Cert.ResidIdeal.main_arg2)
      ∧ m' ((c.tc : Thread Cert.ResidRefIdeal.nD Cert.ResidRefIdeal.τ).loc Cert.ResidRefIdeal.main_arg3) = m ((c.tc : Thread Cert.ResidIdeal.nD Cert.ResidIdeal.τ).loc Cert.ResidIdeal.main_arg3)
      ∧ m' ((c.tc : Thread Cert.ResidRefIdeal.nD Cert.ResidRefIdeal.τ).loc Cert.ResidRefIdeal.main_arg4) = m ((c.tc : Thread Cert.ResidIdeal.nD Cert.ResidIdeal.τ).loc Cert.ResidIdeal.main_arg4)) →
    ∃ (v0 : (c : Dev Cert.ResidIdeal.nD) → Buf (Elt Ideal) ((c.tc : Thread Cert.ResidIdeal.nD Cert.ResidIdeal.τ).loc Cert.ResidIdeal.main_v9_0)) (v1 : (c : Dev Cert.ResidIdeal.nD) → Buf (Elt Ideal) ((c.tc : Thread Cert.ResidIdeal.nD Cert.ResidIdeal.τ).loc Cert.ResidIdeal.main_v9_1)) (v2 : (c : Dev Cert.ResidIdeal.nD) → Buf (Elt Ideal) ((c.tc : Thread Cert.ResidIdeal.nD Cert.ResidIdeal.τ).loc Cert.ResidIdeal.main_v9_2)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v9_0) = v0 c
          ∧ r.2.mem ((c.tc : Thread Cert.ResidIdeal.nD Cert.ResidIdeal.τ).loc Cert.ResidIdeal.main_v9_1) = v1 c
          ∧ r.2.mem ((c.tc : Thread Cert.ResidIdeal.nD Cert.ResidIdeal.τ).loc Cert.ResidIdeal.main_v9_2) = v2 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
          ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3)
          ∧ r.2.mem ((c.tc : Thread Cert.ResidIdeal.nD Cert.ResidIdeal.τ).loc Cert.ResidIdeal.main_arg4) = m ((c.tc : Thread Cert.ResidIdeal.nD Cert.ResidIdeal.τ).loc Cert.ResidIdeal.main_arg4))
      ∧ θ_run (Cert.ResidRefIdeal.defs (F := Ideal)) (onTc (τ := Cert.ResidRefIdeal.τ) (Cert.ResidRefIdeal.main (F := Ideal))) ⟨m', fun _ => 0, g'⟩ (fun r => ∀ c : Dev Cert.ResidRefIdeal.nD,
          r.2.mem ((c.tc : Thread Cert.ResidRefIdeal.nD Cert.ResidRefIdeal.τ).loc Cert.ResidRefIdeal.main_v22) = v0 c
          ∧ r.2.mem ((c.tc : Thread Cert.ResidRefIdeal.nD Cert.ResidRefIdeal.τ).loc Cert.ResidRefIdeal.main_v64) = v1 c
          ∧ r.2.mem ((c.tc : Thread Cert.ResidRefIdeal.nD Cert.ResidRefIdeal.τ).loc Cert.ResidRefIdeal.main_v63) = v2 c
          ∧ r.2.mem ((c.tc : Thread Cert.ResidRefIdeal.nD Cert.ResidRefIdeal.τ).loc Cert.ResidRefIdeal.main_arg0) = m' ((c.tc : Thread Cert.ResidRefIdeal.nD Cert.ResidRefIdeal.τ).loc Cert.ResidRefIdeal.main_arg0)
          ∧ r.2.mem ((c.tc : Thread Cert.ResidRefIdeal.nD Cert.ResidRefIdeal.τ).loc Cert.ResidRefIdeal.main_arg1) = m' ((c.tc : Thread Cert.ResidRefIdeal.nD Cert.ResidRefIdeal.τ).loc Cert.ResidRefIdeal.main_arg1)
          ∧ r.2.mem ((c.tc : Thread Cert.ResidRefIdeal.nD Cert.ResidRefIdeal.τ).loc Cert.ResidRefIdeal.main_arg2) = m' ((c.tc : Thread Cert.ResidRefIdeal.nD Cert.ResidRefIdeal.τ).loc Cert.ResidRefIdeal.main_arg2)
          ∧ r.2.mem ((c.tc : Thread Cert.ResidRefIdeal.nD Cert.ResidRefIdeal.τ).loc Cert.ResidRefIdeal.main_arg3) = m' ((c.tc : Thread Cert.ResidRefIdeal.nD Cert.ResidRefIdeal.τ).loc Cert.ResidRefIdeal.main_arg3)
          ∧ r.2.mem ((c.tc : Thread Cert.ResidRefIdeal.nD Cert.ResidRefIdeal.τ).loc Cert.ResidRefIdeal.main_arg4) = m' ((c.tc : Thread Cert.ResidRefIdeal.nD Cert.ResidRefIdeal.τ).loc Cert.ResidRefIdeal.main_arg4))

def preserves_Gather_GatherIdeal : Prop :=
  True

def algebraic_GatherIdeal_GatherRefIdeal [hGatherIdeal : Cert.GatherIdeal.Facts] [hGatherRefIdeal : Cert.GatherRefIdeal.Facts] [hPre_tokens_in_range : Cert.Pre_tokens_in_range.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m' ((c.tc : Thread Cert.GatherRefIdeal.nD Cert.GatherRefIdeal.τ).loc Cert.GatherRefIdeal.main_arg0) = m ((c.tc : Thread Cert.GatherIdeal.nD Cert.GatherIdeal.τ).loc Cert.GatherIdeal.main_arg0)
      ∧ m' ((c.tc : Thread Cert.GatherRefIdeal.nD Cert.GatherRefIdeal.τ).loc Cert.GatherRefIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v2)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v2) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherRefIdeal.defs (F := Ideal)) (onTc (τ := Cert.GatherRefIdeal.τ) (Cert.GatherRefIdeal.main (F := Ideal))) ⟨m', fun _ => 0, g'⟩ (fun r => ∀ c : Dev Cert.GatherRefIdeal.nD,
          r.2.mem ((c.tc : Thread Cert.GatherRefIdeal.nD Cert.GatherRefIdeal.τ).loc Cert.GatherRefIdeal.main_v15) = v0 c
          ∧ r.2.mem ((c.tc : Thread Cert.GatherRefIdeal.nD Cert.GatherRefIdeal.τ).loc Cert.GatherRefIdeal.main_arg0) = m' ((c.tc : Thread Cert.GatherRefIdeal.nD Cert.GatherRefIdeal.τ).loc Cert.GatherRefIdeal.main_arg0)
          ∧ r.2.mem ((c.tc : Thread Cert.GatherRefIdeal.nD Cert.GatherRefIdeal.τ).loc Cert.GatherRefIdeal.main_arg1) = m' ((c.tc : Thread Cert.GatherRefIdeal.nD Cert.GatherRefIdeal.τ).loc Cert.GatherRefIdeal.main_arg1))

def Claim : Prop :=
  ∃ (hInProj : Cert.InProj.Facts) (hInProjIdeal : Cert.InProjIdeal.Facts) (hInProjRefIdeal : Cert.InProjRefIdeal.Facts) (hInMerge : Cert.InMerge.Facts) (hInMergeIdeal : Cert.InMergeIdeal.Facts) (hInMergeRefIdeal : Cert.InMergeRefIdeal.Facts) (hInGates : Cert.InGates.Facts) (hInGatesIdeal : Cert.InGatesIdeal.Facts) (hInGatesRefIdeal : Cert.InGatesRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hScatter : Cert.Scatter.Facts) (hScatterIdeal : Cert.ScatterIdeal.Facts) (hScatterRefIdeal : Cert.ScatterRefIdeal.Facts) (hAda : Cert.Ada.Facts) (hAdaIdeal : Cert.AdaIdeal.Facts) (hAdaRefIdeal : Cert.AdaRefIdeal.Facts) (hPrenorm : Cert.Prenorm.Facts) (hPrenormIdeal : Cert.PrenormIdeal.Facts) (hPrenormRefIdeal : Cert.PrenormRefIdeal.Facts) (hReadout : Cert.Readout.Facts) (hReadoutIdeal : Cert.ReadoutIdeal.Facts) (hReadoutRefIdeal : Cert.ReadoutRefIdeal.Facts) (hResid : Cert.Resid.Facts) (hResidIdeal : Cert.ResidIdeal.Facts) (hResidRefIdeal : Cert.ResidRefIdeal.Facts) (hGather : Cert.Gather.Facts) (hGatherIdeal : Cert.GatherIdeal.Facts) (hGatherRefIdeal : Cert.GatherRefIdeal.Facts) (hPre_slots_within_counts : Cert.Pre_slots_within_counts.Facts) (hPre_tokens_in_range : Cert.Pre_tokens_in_range.Facts),
    quiescent_InProj (hInProj := hInProj)
    ∧ quiescent_InProjIdeal (hInProjIdeal := hInProjIdeal)
    ∧ quiescent_InProjRefIdeal (hInProjRefIdeal := hInProjRefIdeal)
    ∧ quiescent_InMerge (hInMerge := hInMerge)
    ∧ quiescent_InMergeIdeal (hInMergeIdeal := hInMergeIdeal)
    ∧ quiescent_InMergeRefIdeal (hInMergeRefIdeal := hInMergeRefIdeal)
    ∧ quiescent_InGates (hInGates := hInGates)
    ∧ quiescent_InGatesIdeal (hInGatesIdeal := hInGatesIdeal)
    ∧ quiescent_InGatesRefIdeal (hInGatesRefIdeal := hInGatesRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_Scatter (hScatter := hScatter)
    ∧ quiescent_ScatterIdeal (hScatterIdeal := hScatterIdeal)
    ∧ quiescent_ScatterIdeal_pre_slots_within_counts (hScatterIdeal := hScatterIdeal) (hPre_slots_within_counts := hPre_slots_within_counts)
    ∧ quiescent_ScatterRefIdeal (hScatterRefIdeal := hScatterRefIdeal)
    ∧ quiescent_ScatterRefIdeal_pre_slots_within_counts (hScatterRefIdeal := hScatterRefIdeal) (hPre_slots_within_counts := hPre_slots_within_counts)
    ∧ quiescent_Ada (hAda := hAda)
    ∧ quiescent_AdaIdeal (hAdaIdeal := hAdaIdeal)
    ∧ quiescent_AdaRefIdeal (hAdaRefIdeal := hAdaRefIdeal)
    ∧ quiescent_Prenorm (hPrenorm := hPrenorm)
    ∧ quiescent_PrenormIdeal (hPrenormIdeal := hPrenormIdeal)
    ∧ quiescent_PrenormRefIdeal (hPrenormRefIdeal := hPrenormRefIdeal)
    ∧ quiescent_Readout (hReadout := hReadout)
    ∧ quiescent_ReadoutIdeal (hReadoutIdeal := hReadoutIdeal)
    ∧ quiescent_ReadoutRefIdeal (hReadoutRefIdeal := hReadoutRefIdeal)
    ∧ quiescent_Resid (hResid := hResid)
    ∧ quiescent_ResidIdeal (hResidIdeal := hResidIdeal)
    ∧ quiescent_ResidRefIdeal (hResidRefIdeal := hResidRefIdeal)
    ∧ quiescent_Gather (hGather := hGather) (hPre_tokens_in_range := hPre_tokens_in_range)
    ∧ quiescent_GatherIdeal (hGatherIdeal := hGatherIdeal) (hPre_tokens_in_range := hPre_tokens_in_range)
    ∧ quiescent_GatherRefIdeal (hGatherRefIdeal := hGatherRefIdeal)
    ∧ quiescent_GatherRefIdeal_pre_tokens_in_range (hGatherRefIdeal := hGatherRefIdeal) (hPre_tokens_in_range := hPre_tokens_in_range)
    ∧ preserves_InProj_InProjIdeal
    ∧ algebraic_InProjIdeal_InProjRefIdeal (hInProjIdeal := hInProjIdeal) (hInProjRefIdeal := hInProjRefIdeal)
    ∧ preserves_InMerge_InMergeIdeal
    ∧ algebraic_InMergeIdeal_InMergeRefIdeal (hInMergeIdeal := hInMergeIdeal) (hInMergeRefIdeal := hInMergeRefIdeal)
    ∧ preserves_InGates_InGatesIdeal
    ∧ algebraic_InGatesIdeal_InGatesRefIdeal (hInGatesIdeal := hInGatesIdeal) (hInGatesRefIdeal := hInGatesRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_Scatter_ScatterIdeal
    ∧ algebraic_ScatterIdeal_ScatterRefIdeal_pre_slots_within_counts (hScatterIdeal := hScatterIdeal) (hScatterRefIdeal := hScatterRefIdeal) (hPre_slots_within_counts := hPre_slots_within_counts)
    ∧ preserves_Ada_AdaIdeal
    ∧ algebraic_AdaIdeal_AdaRefIdeal (hAdaIdeal := hAdaIdeal) (hAdaRefIdeal := hAdaRefIdeal)
    ∧ preserves_Prenorm_PrenormIdeal
    ∧ algebraic_PrenormIdeal_PrenormRefIdeal (hPrenormIdeal := hPrenormIdeal) (hPrenormRefIdeal := hPrenormRefIdeal)
    ∧ preserves_Readout_ReadoutIdeal
    ∧ algebraic_ReadoutIdeal_ReadoutRefIdeal (hReadoutIdeal := hReadoutIdeal) (hReadoutRefIdeal := hReadoutRefIdeal)
    ∧ preserves_Resid_ResidIdeal
    ∧ algebraic_ResidIdeal_ResidRefIdeal (hResidIdeal := hResidIdeal) (hResidRefIdeal := hResidRefIdeal)
    ∧ preserves_Gather_GatherIdeal
    ∧ algebraic_GatherIdeal_GatherRefIdeal (hGatherIdeal := hGatherIdeal) (hGatherRefIdeal := hGatherRefIdeal) (hPre_tokens_in_range := hPre_tokens_in_range)
-- ==== Pre_slots_within_counts.lean ====
abbrev S8192 : Shape := ⟨1, ![8192]⟩
abbrev S4x16x1x4096 : Shape := ⟨4, ![4, 16, 1, 4096]⟩
abbrev S16x4x512x4096 : Shape := ⟨4, ![16, 4, 512, 4096]⟩
abbrev S4x4096x4096 : Shape := ⟨3, ![4, 4096, 4096]⟩
abbrev S1x4096 : Shape := ⟨2, ![1, 4096]⟩
abbrev S8x1x24576 : Shape := ⟨3, ![8, 1, 24576]⟩
abbrev S4x16x128x1 : Shape := ⟨4, ![4, 16, 128, 1]⟩
abbrev S4x16x8x1 : Shape := ⟨4, ![4, 16, 8, 1]⟩
abbrev S4x16x8x512 : Shape := ⟨4, ![4, 16, 8, 512]⟩
abbrev S_ : Shape := ⟨0, ![]⟩

class Facts : Prop where
  shapeCasts_S8192_S4x16x128x1 : S8192.ShapeCasts S4x16x128x1
  slicesBy_S4x16x128x1_S4x16x8x1_0s1_0s1_0s4_0s1 : S4x16x128x1.SlicesBy (![0, 0, 0, 0] : Fin 4 → Nat) ![1, 1, 4, 1] S4x16x8x1
  slicesBy_S4x16x128x1_S4x16x8x1_0s1_0s1_4s4_0s1 : S4x16x128x1.SlicesBy (![0, 0, 4, 0] : Fin 4 → Nat) ![1, 1, 4, 1] S4x16x8x1
  shapeCasts_S4x16x1x4096_S4x16x8x512 : S4x16x1x4096.ShapeCasts S4x16x8x512
  bcast_S_S4x16x8x512 : S_.BroadcastsInDim S4x16x8x512 (![] : Fin 0 → Fin S4x16x8x512.rank)
  bcast_S4x16x8x1_S4x16x8x512_0_1_2_3 : S4x16x8x1.BroadcastsInDim S4x16x8x512 (![0, 1, 2, 3] : Fin 4 → Fin S4x16x8x512.rank)

variable [Facts]

def fn {F : FTy → Type} [FloatOps F] (main_arg0 : IVec S8192 32) (main_arg1 : FVec F S4x16x1x4096 .f32) (main_arg2 : FVec F S4x16x1x4096 .f32) (main_arg3 : FVec F S16x4x512x4096 .bf16) (main_arg4 : FVec F S4x4096x4096 .f32) (main_arg5 : FVec F S1x4096 .f32) (main_arg6 : FVec F S8x1x24576 .f32) : IVec S4x16x8x512 1 :=
  let main_v0 : IVec S4x16x128x1 32 := shapeCast S4x16x128x1 main_arg0 shapeCasts_S8192_S4x16x128x1
  let main_v1 : IVec S4x16x8x1 32 := (Host.slice S4x16x8x1 ![0, 0, 0, 0] ![1, 1, 4, 1] · slicesBy_S4x16x128x1_S4x16x8x1_0s1_0s1_0s4_0s1) main_v0
  let main_v2 : FVec F S4x16x8x1 .f32 := sitofp .f32 main_v1
  let main_v3 : IVec S4x16x8x1 32 := (Host.slice S4x16x8x1 ![0, 0, 4, 0] ![1, 1, 4, 1] · slicesBy_S4x16x128x1_S4x16x8x1_0s1_0s1_4s4_0s1) main_v0
  let main_v4 : FVec F S4x16x8x1 .f32 := sitofp .f32 main_v3
  let main_v5 : FVec F S4x16x8x512 .f32 := shapeCast S4x16x8x512 main_arg1 shapeCasts_S4x16x1x4096_S4x16x8x512
  let main_cst : FVec F S_ .f32 := constant S_ .f32 0x00000000#32
  let main_v6 : FVec F S4x16x8x512 .f32 := broadcastInDim S4x16x8x512 ![] bcast_S_S4x16x8x512 main_cst
  let main_v7 : IVec S4x16x8x512 1 := cmpf .olt main_v5 main_v6
  let main_v8 : FVec F S4x16x8x512 .f32 := broadcastInDim S4x16x8x512 ![0, 1, 2, 3] bcast_S4x16x8x1_S4x16x8x512_0_1_2_3 main_v2
  let main_v9 : IVec S4x16x8x512 1 := cmpf .ole main_v8 main_v5
  let main_v10 : FVec F S4x16x8x512 .f32 := broadcastInDim S4x16x8x512 ![0, 1, 2, 3] bcast_S4x16x8x1_S4x16x8x512_0_1_2_3 main_v4
  let main_v11 : IVec S4x16x8x512 1 := cmpf .olt main_v5 main_v10
  let main_v12 : IVec S4x16x8x512 1 := andi main_v9 main_v11
  let main_v13 : IVec S4x16x8x512 1 := ori main_v7 main_v12
  main_v13
-- ==== Pre_tokens_in_range.lean ====
abbrev S4x16x512 : Shape := ⟨3, ![4, 16, 512]⟩
abbrev S4x4096x2048 : Shape := ⟨3, ![4, 4096, 2048]⟩
abbrev S_ : Shape := ⟨0, ![]⟩

class Facts : Prop where
  bcast_S_S4x16x512 : S_.BroadcastsInDim S4x16x512 (![] : Fin 0 → Fin S4x16x512.rank)

variable [Facts]

def fn {F : FTy → Type} [FloatOps F] (main_arg0 : IVec S4x16x512 32) (main_arg1 : IVec S4x4096x2048 32) : IVec S4x16x512 1 :=
  let main_c : IVec S_ 32 := constantI S_ 32 0#32
  let main_v0 : IVec S4x16x512 32 := broadcastInDim S4x16x512 ![] bcast_S_S4x16x512 main_c
  let main_v1 : IVec S4x16x512 1 := cmpi .sge main_arg0 main_v0
  let main_c_0 : IVec S_ 32 := constantI S_ 32 4096#32
  let main_v2 : IVec S4x16x512 32 := broadcastInDim S4x16x512 ![] bcast_S_S4x16x512 main_c_0
  let main_v3 : IVec S4x16x512 1 := cmpi .slt main_arg0 main_v2
  let main_v4 : IVec S4x16x512 1 := andi main_v1 main_v3
  main_v4
-- ==== InProj.lean ====
abbrev S4x4352x4096 : Shape := ⟨3, ![4, 4352, 4096]⟩
abbrev S1x4096x24608 : Shape := ⟨3, ![1, 4096, 24608]⟩
abbrev S1x24608x4096 : Shape := ⟨3, ![1, 24608, 4096]⟩
abbrev S17408x4096 : Shape := ⟨2, ![17408, 4096]⟩
abbrev S17408x16384 : Shape := ⟨2, ![17408, 16384]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩

abbrev nBuf : Space → Nat
  | .hbm => 5
  | .vmem => 6
  | .smem => 0
  | _ => 0

abbrev bufTy : (tb : Table) → Fin (tcTables nBuf tb) → BufTy
  | .hbm, ⟨0, _⟩ => ⟨S4x4352x4096, .bf16⟩
  | .hbm, ⟨1, _⟩ => ⟨S1x4096x24608, .f32⟩
  | .hbm, ⟨2, _⟩ => ⟨S1x24608x4096, .f32⟩
  | .hbm, ⟨3, _⟩ => ⟨S17408x4096, .bf16⟩
  | .hbm, ⟨4, _⟩ => ⟨S17408x16384, .f32⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .f32⟩
  | .local _ .vmem, ⟨5, _⟩ => ⟨S1024x512, .f32⟩
  | _, _ => ⟨S4x4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S4x4352x4096 : Shape := ⟨3, ![4, 4352, 4096]⟩
abbrev S1x4096x24608 : Shape := ⟨3, ![1, 4096, 24608]⟩
abbrev S17408x4096 : Shape := ⟨2, ![17408, 4096]⟩
abbrev S4096x24608 : Shape := ⟨2, ![4096, 24608]⟩
abbrev S4096x16384 : Shape := ⟨2, ![4096, 16384]⟩
abbrev S17408x16384 : Shape := ⟨2, ![17408, 16384]⟩

abbrev nBuf : Space → Nat
  | .hbm => 7
  | .vmem => 0
  | .smem => 0
  | _ => 0

abbrev bufTy : (tb : Table) → Fin (tcTables nBuf tb) → BufTy
  | .hbm, ⟨0, _⟩ => ⟨S4x4352x4096, .bf16⟩
  | .hbm, ⟨1, _⟩ => ⟨S1x4096x24608, .f32⟩
  | .hbm, ⟨2, _⟩ => ⟨S4x4352x4096, .f32⟩
  | .hbm, ⟨3, _⟩ => ⟨S17408x4096, .f32⟩
  | .hbm, ⟨4, _⟩ => ⟨S4096x24608, .f32⟩
  | .hbm, ⟨5, _⟩ => ⟨S4096x16384, .f32⟩
  | .hbm, ⟨6, _⟩ => ⟨S17408x16384, .f32⟩
  | _, _ => ⟨S4x4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InMerge.lean ====
abbrev S4x4352x4096 : Shape := ⟨3, ![4, 4352, 4096]⟩
abbrev S8192x4096 : Shape := ⟨2, ![8192, 4096]⟩
abbrev S4x4096x8192 : Shape := ⟨3, ![4, 4096, 8192]⟩
abbrev S1x1024x4096 : Shape := ⟨3, ![1, 1024, 4096]⟩
abbrev S512x4096 : Shape := ⟨2, ![512, 4096]⟩
abbrev S1x1024x512 : Shape := ⟨3, ![1, 1024, 512]⟩
abbrev S1024x4096 : Shape := ⟨2, ![1024, 4096]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4x4352x4096, .bf16⟩
  | .hbm, ⟨1, _⟩ => ⟨S8192x4096, .bf16⟩
  | .hbm, ⟨2, _⟩ => ⟨S4x4096x8192, .f32⟩
  | .local _ .vmem, ⟨0, _⟩ => ⟨S1x1024x4096, .bf16⟩
  | .local _ .vmem, ⟨1, _⟩ => ⟨S1x1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1x1024x512, .f32⟩
  | .local _ .vmem, ⟨5, _⟩ => ⟨S1x1024x512, .f32⟩
  | _, _ => ⟨S4x4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== InMergeRefIdeal.lean ====
abbrev S4x4352x4096 : Shape := ⟨3, ![4, 4352, 4096]⟩
abbrev S8192x4096 : Shape := ⟨2, ![8192, 4096]⟩
abbrev S4x4096x4096 : Shape := ⟨3, ![4, 4096, 4096]⟩
abbrev S4096x8192 : Shape := ⟨2, ![4096, 8192]⟩
abbrev S4x4096x8192 : Shape := ⟨3, ![4, 4096, 8192]⟩

abbrev nBuf : Space → Nat
  | .hbm => 7
  | .vmem => 0
  | .smem => 0
  | _ => 0

abbrev bufTy : (tb : Table) → Fin (tcTables nBuf tb) → BufTy
  | .hbm, ⟨0, _⟩ => ⟨S4x4352x4096, .bf16⟩
  | .hbm, ⟨1, _⟩ => ⟨S8192x4096, .bf16⟩
  | .hbm, ⟨2, _⟩ => ⟨S4x4096x4096, .bf16⟩
  | .hbm, ⟨3, _⟩ => ⟨S4x4096x4096, .f32⟩
  | .hbm, ⟨4, _⟩ => ⟨S8192x4096, .f32⟩
  | .hbm, ⟨5, _⟩ => ⟨S4096x8192, .f32⟩
  | .hbm, ⟨6, _⟩ => ⟨S4x4096x8192, .f32⟩
  | _, _ => ⟨S4x4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InGates.lean ====
abbrev S4x4352x4096 : Shape := ⟨3, ![4, 4352, 4096]⟩
abbrev S128x4096 : Shape := ⟨2, ![128, 4096]⟩
abbrev S1x4x8 : Shape := ⟨3, ![1, 4, 8]⟩
abbrev S4x8 : Shape := ⟨2, ![4, 8]⟩
abbrev S32 : Shape := ⟨1, ![32]⟩
abbrev S_ : Shape := ⟨0, ![]⟩
abbrev S128 : Shape := ⟨1, ![128]⟩
abbrev S17408x4096 : Shape := ⟨2, ![17408, 4096]⟩
abbrev S1x128 : Shape := ⟨2, ![1, 128]⟩
abbrev S17408x128 : Shape := ⟨2, ![17408, 128]⟩
abbrev S1024x4096 : Shape := ⟨2, ![1024, 4096]⟩
abbrev S1024x128 : Shape := ⟨2, ![1024, 128]⟩

abbrev nBuf : Space → Nat
  | .hbm => 11
  | .vmem => 6
  | .smem => 0
  | _ => 0

abbrev bufTy : (tb : Table) → Fin (tcTables nBuf tb) → BufTy
  | .hbm, ⟨0, _⟩ => ⟨S4x4352x4096, .bf16⟩
  | .hbm, ⟨1, _⟩ => ⟨S128x4096, .bf16⟩
  | .hbm, ⟨2, _⟩ => ⟨S1x4x8, .f32⟩
  | .hbm, ⟨3, _⟩ => ⟨S4x8, .f32⟩
  | .hbm, ⟨4, _⟩ => ⟨S32, .f32⟩
  | .hbm, ⟨5, _⟩ => ⟨S_, .i32⟩
  | .hbm, ⟨6, _⟩ => ⟨S_, .f32⟩
  | .hbm, ⟨7, _⟩ => ⟨S128, .f32⟩
  | .hbm, ⟨8, _⟩ => ⟨S17408x4096, .bf16⟩
  | .hbm, ⟨9, _⟩ => ⟨S1x128, .f32⟩
  | .hbm, ⟨10, _⟩ => ⟨S17408x128, .f32⟩
  | .local _ .vmem, ⟨0, _⟩ => ⟨S1024x4096, .bf16⟩
  | .local _ .vmem, ⟨1, _⟩ => ⟨S1024x4096, .bf16⟩
  | .local _ .vmem, ⟨2, _⟩ => ⟨S128x4096, .bf16⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S4x4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![17, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InGatesRefIdeal.lean ====
abbrev S4x4352x4096 : Shape := ⟨3, ![4, 4352, 4096]⟩
abbrev S128x4096 : Shape := ⟨2, ![128, 4096]⟩
abbrev S1x4x8 : Shape := ⟨3, ![1, 4, 8]⟩
abbrev S17408x4096 : Shape := ⟨2, ![17408, 4096]⟩
abbrev S4096x128 : Shape := ⟨2, ![4096, 128]⟩
abbrev S17408x128 : Shape := ⟨2, ![17408, 128]⟩
abbrev S4x8 : Shape := ⟨2, ![4, 8]⟩
abbrev S32 : Shape := ⟨1, ![32]⟩
abbrev S_ : Shape := ⟨0, ![]⟩
abbrev S128 : Shape := ⟨1, ![128]⟩
abbrev S1x128 : Shape := ⟨2, ![1, 128]⟩

abbrev nBuf : Space → Nat
  | .hbm => 16
  | .vmem => 0
  | .smem => 0
  | _ => 0

abbrev bufTy : (tb : Table) → Fin (tcTables nBuf tb) → BufTy
  | .hbm, ⟨0, _⟩ => ⟨S4x4352x4096, .bf16⟩
  | .hbm, ⟨1, _⟩ => ⟨S128x4096, .bf16⟩
  | .hbm, ⟨2, _⟩ => ⟨S1x4x8, .f32⟩
  | .hbm, ⟨3, _⟩ => ⟨S4x4352x4096, .f32⟩
  | .hbm, ⟨4, _⟩ => ⟨S17408x4096, .f32⟩
  | .hbm, ⟨5, _⟩ => ⟨S128x4096, .f32⟩
  | .hbm, ⟨6, _⟩ => ⟨S4096x128, .f32⟩
  | .hbm, ⟨7, _⟩ => ⟨S17408x128, .f32⟩
  | .hbm, ⟨8, _⟩ => ⟨S4x8, .f32⟩
  | .hbm, ⟨9, _⟩ => ⟨S32, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S17408x128, .f32⟩
  | .hbm, ⟨15, _⟩ => ⟨S17408x128, .f32⟩
  | _, _ => ⟨S4x4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Merge.lean ====
abbrev S4x4096x2048 : Shape := ⟨3, ![4, 4096, 2048]⟩
abbrev S1x2048x4096 : Shape := ⟨3, ![1, 2048, 4096]⟩
abbrev S4x4096x8192 : Shape := ⟨3, ![4, 4096, 8192]⟩
abbrev S2048x4096 : Shape := ⟨2, ![2048, 4096]⟩
abbrev S4x4096x4096 : Shape := ⟨3, ![4, 4096, 4096]⟩
abbrev S1x1024x2048 : Shape := ⟨3, ![1, 1024, 2048]⟩
abbrev S2048x512 : Shape := ⟨2, ![2048, 512]⟩
abbrev S1x1024x512 : Shape := ⟨3, ![1, 1024, 512]⟩
abbrev S1024x2048 : Shape := ⟨2, ![1024, 2048]⟩
abbrev S1024x512 : Shape := ⟨2, ![1024, 512]⟩

abbrev nBuf : Space → Nat
  | .hbm => 10
  | .vmem => 14
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x2048, .bf16⟩
  | .hbm, ⟨2, _⟩ => ⟨S1x2048x4096, .f32⟩
  | .hbm, ⟨3, _⟩ => ⟨S1x2048x4096, .f32⟩
  | .hbm, ⟨4, _⟩ => ⟨S4x4096x8192, .f32⟩
  | .hbm, ⟨5, _⟩ => ⟨S2048x4096, .f32⟩
  | .hbm, ⟨6, _⟩ => ⟨S2048x4096, .bf16⟩
  | .hbm, ⟨7, _⟩ => ⟨S2048x4096, .f32⟩
  | .hbm, ⟨8, _⟩ => ⟨S2048x4096, .bf16⟩
  | .hbm, ⟨9, _⟩ => ⟨S4x4096x4096, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | .local _ .vmem, ⟨12, _⟩ => ⟨S1x1024x512, .bf16⟩
  | .local _ .vmem, ⟨13, _⟩ => ⟨S1x1024x512, .bf16⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, arg1.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  ![arg0.toNat, arg1.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== MergeRefIdeal.lean ====
abbrev S4x4096x2048 : Shape := ⟨3, ![4, 4096, 2048]⟩
abbrev S1x2048x4096 : Shape := ⟨3, ![1, 2048, 4096]⟩
abbrev S4x4096x8192 : Shape := ⟨3, ![4, 4096, 8192]⟩
abbrev S4x4096x4096 : Shape := ⟨3, ![4, 4096, 4096]⟩
abbrev S_ : Shape := ⟨0, ![]⟩
abbrev S2048x4096 : Shape := ⟨2, ![2048, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x2048, .bf16⟩
  | .hbm, ⟨2, _⟩ => ⟨S1x2048x4096, .f32⟩
  | .hbm, ⟨3, _⟩ => ⟨S1x2048x4096, .f32⟩
  | .hbm, ⟨4, _⟩ => ⟨S4x4096x8192, .f32⟩
  | .hbm, ⟨5, _⟩ => ⟨S4x4096x4096, .f32⟩
  | .hbm, ⟨6, _⟩ => ⟨S4x4096x4096, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | .hbm, ⟨17, _⟩ => ⟨S_, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096x4096, .f32⟩
  | .hbm, ⟨22, _⟩ => ⟨S4x4096x4096, .f32⟩
  | .hbm, ⟨23, _⟩ => ⟨S4x4096x2048, .f32⟩
  | .hbm, ⟨24, _⟩ => ⟨S2048x4096, .f32⟩
  | .hbm, ⟨25, _⟩ => ⟨S4x4096x4096, .f32⟩
  | .hbm, ⟨26, _⟩ => ⟨S4x4096x4096, .f32⟩
  | .hbm, ⟨27, _⟩ => ⟨S4x4096x2048, .f32⟩
  | .hbm, ⟨28, _⟩ => ⟨S2048x4096, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S4x4096x4096, .bf16⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== OutProj.lean ====
abbrev S4x4096x4096 : Shape := ⟨3, ![4, 4096, 4096]⟩
abbrev S1x4096x4096 : Shape := ⟨3, ![1, 4096, 4096]⟩
abbrev S16384x4096 : Shape := ⟨2, ![16384, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S4x4096x4096, .bf16⟩
  | .hbm, ⟨1, _⟩ => ⟨S1x4096x4096, .f32⟩
  | .hbm, ⟨2, _⟩ => ⟨S16384x4096, .bf16⟩
  | .hbm, ⟨3, _⟩ => ⟨S4096x4096, .f32⟩
  | .hbm, ⟨4, _⟩ => ⟨S4096x4096, .bf16⟩
  | .hbm, ⟨5, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjRefIdeal.lean ====
abbrev S4x4096x4096 : Shape := ⟨3, ![4, 4096, 4096]⟩
abbrev S1x4096x4096 : Shape := ⟨3, ![1, 4096, 4096]⟩
abbrev S16384x4096 : Shape := ⟨2, ![16384, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x4096, .bf16⟩
  | .hbm, ⟨1, _⟩ => ⟨S1x4096x4096, .f32⟩
  | .hbm, ⟨2, _⟩ => ⟨S4x4096x4096, .f32⟩
  | .hbm, ⟨3, _⟩ => ⟨S16384x4096, .f32⟩
  | .hbm, ⟨4, _⟩ => ⟨S4096x4096, .f32⟩
  | .hbm, ⟨5, _⟩ => ⟨S16384x4096, .f32⟩
  | .hbm, ⟨6, _⟩ => ⟨S16384x4096, .bf16⟩
  | _, _ => ⟨S4x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnUp.lean ====
abbrev S16x2048x4096 : Shape := ⟨3, ![16, 2048, 4096]⟩
abbrev S1x16x4096x2048 : Shape := ⟨4, ![1, 16, 4096, 2048]⟩
abbrev S16x4096x2048 : Shape := ⟨3, ![16, 4096, 2048]⟩
abbrev S16x2048x2048 : Shape := ⟨3, ![16, 2048, 2048]⟩
abbrev S1x1024x4096 : Shape := ⟨3, ![1, 1024, 4096]⟩
abbrev S1x4096x256 : Shape := ⟨3, ![1, 4096, 256]⟩
abbrev S1x1024x256 : Shape := ⟨3, ![1, 1024, 256]⟩
abbrev S1024x4096 : Shape := ⟨2, ![1024, 4096]⟩
abbrev S4096x256 : Shape := ⟨2, ![4096, 256]⟩
abbrev S1024x256 : Shape := ⟨2, ![1024, 256]⟩

abbrev nBuf : Space → Nat
  | .hbm => 6
  | .vmem => 8
  | .smem => 0
  | _ => 0

abbrev bufTy : (tb : Table) → Fin (tcTables nBuf tb) → BufTy
  | .hbm, ⟨0, _⟩ => ⟨S16x2048x4096, .bf16⟩
  | .hbm, ⟨1, _⟩ => ⟨S1x16x4096x2048, .f32⟩
  | .hbm, ⟨2, _⟩ => ⟨S1x16x4096x2048, .f32⟩
  | .hbm, ⟨3, _⟩ => ⟨S16x4096x2048, .f32⟩
  | .hbm, ⟨4, _⟩ => ⟨S16x4096x2048, .f32⟩
  | .hbm, ⟨5, _⟩ => ⟨S16x2048x2048, .bf16⟩
  | .local _ .vmem, ⟨0, _⟩ => ⟨S1x1024x4096, .bf16⟩
  | .local _ .vmem, ⟨1, _⟩ => ⟨S1x1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x1024x256, .bf16⟩
  | .local _ .vmem, ⟨7, _⟩ => ⟨S1x1024x256, .bf16⟩
  | _, _ => ⟨S16x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== FfnUpRefIdeal.lean ====
abbrev S16x2048x4096 : Shape := ⟨3, ![16, 2048, 4096]⟩
abbrev S1x16x4096x2048 : Shape := ⟨4, ![1, 16, 4096, 2048]⟩
abbrev S16x4096x2048 : Shape := ⟨3, ![16, 4096, 2048]⟩
abbrev S16x2048x2048 : Shape := ⟨3, ![16, 2048, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16x2048x4096, .bf16⟩
  | .hbm, ⟨1, _⟩ => ⟨S1x16x4096x2048, .f32⟩
  | .hbm, ⟨2, _⟩ => ⟨S1x16x4096x2048, .f32⟩
  | .hbm, ⟨3, _⟩ => ⟨S16x2048x4096, .f32⟩
  | .hbm, ⟨4, _⟩ => ⟨S16x4096x2048, .f32⟩
  | .hbm, ⟨5, _⟩ => ⟨S16x2048x2048, .f32⟩
  | .hbm, ⟨6, _⟩ => ⟨S16x4096x2048, .f32⟩
  | .hbm, ⟨7, _⟩ => ⟨S16x2048x2048, .f32⟩
  | .hbm, ⟨8, _⟩ => ⟨S16x2048x2048, .f32⟩
  | .hbm, ⟨9, _⟩ => ⟨S16x2048x2048, .f32⟩
  | .hbm, ⟨10, _⟩ => ⟨S_, .f32⟩
  | .hbm, ⟨11, _⟩ => ⟨S16x2048x2048, .f32⟩
  | .hbm, ⟨12, _⟩ => ⟨S16x2048x2048, .f32⟩
  | .hbm, ⟨13, _⟩ => ⟨S_, .f32⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S16x2048x2048, .bf16⟩
  | _, _ => ⟨S16x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== FfnDown.lean ====
abbrev S16x2048x2048 : Shape := ⟨3, ![16, 2048, 2048]⟩
abbrev S1x16x2048x4096 : Shape := ⟨4, ![1, 16, 2048, 4096]⟩
abbrev S16x2048x4096 : Shape := ⟨3, ![16, 2048, 4096]⟩
abbrev S1x2048x2048 : Shape := ⟨3, ![1, 2048, 2048]⟩
abbrev S1x2048x512 : Shape := ⟨3, ![1, 2048, 512]⟩
abbrev S2048x2048 : Shape := ⟨2, ![2048, 2048]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S16x2048x2048, .bf16⟩
  | .hbm, ⟨1, _⟩ => ⟨S1x16x2048x4096, .f32⟩
  | .hbm, ⟨2, _⟩ => ⟨S16x2048x4096, .f32⟩
  | .hbm, ⟨3, _⟩ => ⟨S16x2048x4096, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .bf16⟩
  | .local _ .vmem, ⟨5, _⟩ => ⟨S1x2048x512, .bf16⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnDownRefIdeal.lean ====
abbrev S16x2048x2048 : Shape := ⟨3, ![16, 2048, 2048]⟩
abbrev S1x16x2048x4096 : Shape := ⟨4, ![1, 16, 2048, 4096]⟩
abbrev S16x2048x4096 : Shape := ⟨3, ![16, 2048, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16x2048x2048, .bf16⟩
  | .hbm, ⟨1, _⟩ => ⟨S1x16x2048x4096, .f32⟩
  | .hbm, ⟨2, _⟩ => ⟨S16x2048x2048, .f32⟩
  | .hbm, ⟨3, _⟩ => ⟨S16x2048x4096, .f32⟩
  | .hbm, ⟨4, _⟩ => ⟨S16x2048x4096, .f32⟩
  | .hbm, ⟨5, _⟩ => ⟨S16x2048x4096, .bf16⟩
  | _, _ => ⟨S16x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Scatter.lean ====
abbrev S8192 : Shape := ⟨1, ![8192]⟩
abbrev S4x16x1x4096 : Shape := ⟨4, ![4, 16, 1, 4096]⟩
abbrev S16x4x512x4096 : Shape := ⟨4, ![16, 4, 512, 4096]⟩
abbrev S4x4096x4096 : Shape := ⟨3, ![4, 4096, 4096]⟩
abbrev S1x4096 : Shape := ⟨2, ![1, 4096]⟩
abbrev S8x1x24576 : Shape := ⟨3, ![8, 1, 24576]⟩
abbrev S1x1x1x512 : Shape := ⟨4, ![1, 1, 1, 512]⟩
abbrev S1x1x512x4096 : Shape := ⟨4, ![1, 1, 512, 4096]⟩
abbrev S1x512x4096 : Shape := ⟨3, ![1, 512, 4096]⟩
abbrev S1x1x4096 : Shape := ⟨3, ![1, 1, 4096]⟩
abbrev S1 : Shape := ⟨1, ![1]⟩
abbrev S1x512 : Shape := ⟨2, ![1, 512]⟩
abbrev S128x512 : Shape := ⟨2, ![128, 512]⟩
abbrev S512x128 : Shape := ⟨2, ![512, 128]⟩
abbrev S512x256 : Shape := ⟨2, ![512, 256]⟩
abbrev S512x4096 : Shape := ⟨2, ![512, 4096]⟩
abbrev S1x1x256x4096 : Shape := ⟨4, ![1, 1, 256, 4096]⟩
abbrev S256x4096 : Shape := ⟨2, ![256, 4096]⟩
abbrev S512 : Shape := ⟨1, ![512]⟩
abbrev S512x1 : Shape := ⟨2, ![512, 1]⟩

abbrev nBuf : Space → Nat
  | .hbm => 7
  | .vmem => 13
  | .smem => 1
  | _ => 0

abbrev bufTy : (tb : Table) → Fin (tcTables nBuf tb) → BufTy
  | .hbm, ⟨0, _⟩ => ⟨S4x16x1x4096, .f32⟩
  | .hbm, ⟨1, _⟩ => ⟨S4x16x1x4096, .f32⟩
  | .hbm, ⟨2, _⟩ => ⟨S16x4x512x4096, .bf16⟩
  | .hbm, ⟨3, _⟩ => ⟨S4x4096x4096, .f32⟩
  | .hbm, ⟨4, _⟩ => ⟨S1x4096, .f32⟩
  | .hbm, ⟨5, _⟩ => ⟨S8x1x24576, .f32⟩
  | .hbm, ⟨6, _⟩ => ⟨S4x4096x4096, .f32⟩
  | .local _ .vmem, ⟨0, _⟩ => ⟨S1x1x1x512, .f32⟩
  | .local _ .vmem, ⟨1, _⟩ => ⟨S1x1x1x512, .f32⟩
  | .local _ .vmem, ⟨2, _⟩ => ⟨S1x1x1x512, .f32⟩
  | .local _ .vmem, ⟨3, _⟩ => ⟨S1x1x1x512, .f32⟩
  | .local _ .vmem, ⟨4, _⟩ => ⟨S1x1x512x4096, .bf16⟩
  | .local _ .vmem, ⟨5, _⟩ => ⟨S1x1x512x4096, .bf16⟩
  | .local _ .vmem, ⟨6, _⟩ => ⟨S1x512x4096, .f32⟩
  | .local _ .vmem, ⟨7, _⟩ => ⟨S1x512x4096, .f32⟩
  | .local _ .vmem, ⟨8, _⟩ => ⟨S1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x512x4096, .f32⟩
  | .local _ .vmem, ⟨12, _⟩ => ⟨S1x512x4096, .f32⟩
  | .local _ .smem, ⟨0, _⟩ => ⟨S8192, .i32⟩
  | _, _ => ⟨S4x16x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 8, 16], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c16_i32 : BitVec 32 := 16#32
  let v3 : BitVec 32 := Scalar.muli arg0 c16_i32
  let arg2 : BitVec 32 := BitVec.ofNat 32 (i 2).val
  let v4 : BitVec 32 := Scalar.addi v3 arg2
  let c128_i32 : BitVec 32 := 128#32
  let v5 : BitVec 32 := Scalar.muli v4 c128_i32
  let arg1 : BitVec 32 := BitVec.ofNat 32 (i 1).val
  let c4_i32 : BitVec 32 := 4#32
  let v6 : BitVec 32 := Scalar.muli arg1 c4_i32
  let v7 : BitVec 32 := Scalar.addi v5 v6
  let v8 : Index := Scalar.indexCast v7
  ![v8.toNat]
def k0_off2 (i : grid0.Coords) : Fin 1 → Nat :=
  let arg0 : BitVec 32 := BitVec.ofNat 32 (i 0).val
  let c16_i32 : BitVec 32 := 16#32
  let v3 : BitVec 32 := Scalar.muli arg0 c16_i32
  let arg2 : BitVec 32 := BitVec.ofNat 32 (i 2).val
  let v4 : BitVec 32 := Scalar.addi v3 arg2
  let c128_i32 : BitVec 32 := 128#32
  let v5 : BitVec 32 := Scalar.muli v4 c128_i32
  let arg1 : BitVec 32 := BitVec.ofNat 32 (i 1).val
  let c1_i32 : BitVec 32 := 1#32
  let v10 : BitVec 32 := Scalar.addi arg1 c1_i32
  let c4_i32_1 : BitVec 32 := 4#32
  let v11 : BitVec 32 := Scalar.muli v10 c4_i32_1
  let v12 : BitVec 32 := Scalar.addi v5 v11
  let v13 : Index := Scalar.indexCast v12
  ![v13.toNat]
def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (v9 : BitVec 32) (v14 : BitVec 32) : BitVec 1 :=
  let c256_i32 : BitVec 32 := 256#32
  let v29 : BitVec 1 := Scalar.cmpi .slt v9 c256_i32
  let c0_i32_9 : BitVec 32 := 0#32
  let v30 : BitVec 1 := Scalar.cmpi .sgt v14 c0_i32_9
  let v31 : BitVec 1 := Scalar.andi v29 v30
  let v32 : BitVec 32 := Scalar.extui v31
  let c0_i32_10 : BitVec 32 := 0#32
  let v33 : BitVec 1 := Scalar.cmpi .ne v32 c0_i32_10
  v33

def k0_cond3 (v9 : BitVec 32) (v14 : BitVec 32) : BitVec 1 :=
  let c512_i32 : BitVec 32 := 512#32
  let v34 : BitVec 1 := Scalar.cmpi .slt v9 c512_i32
  let c256_i32_11 : BitVec 32 := 256#32
  let v35 : BitVec 1 := Scalar.cmpi .sgt v14 c256_i32_11
  let v36 : BitVec 1 := Scalar.andi v34 v35
  let v37 : BitVec 32 := Scalar.extui v36
  let c0_i32_12 : BitVec 32 := 0#32
  let v38 : BitVec 1 := Scalar.cmpi .ne v37 c0_i32_12
  v38

def k0_cond4 (i : grid0.Coords) : BitVec 1 :=
  let arg2 : BitVec 32 := BitVec.ofNat 32 (i 2).val
  let c15_i32 : BitVec 32 := 15#32
  let v39 : BitVec 1 := Scalar.cmpi .eq arg2 c15_i32
  let v40 : BitVec 32 := Scalar.extui v39
  let c0_i32_13 : BitVec 32 := 0#32
  let v41 : BitVec 1 := Scalar.cmpi .ne v40 c0_i32_13
  v41

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c5_i32 : BitVec 32 := 5#32
  let c0_i32_0 : BitVec 32 := 0#32
  ![arg0.toNat, c0_i32.toNat, c5_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ScatterRefIdeal.lean ====
abbrev S8192 : Shape := ⟨1, ![8192]⟩
abbrev S4x16x1x4096 : Shape := ⟨4, ![4, 16, 1, 4096]⟩
abbrev S16x4x512x4096 : Shape := ⟨4, ![16, 4, 512, 4096]⟩
abbrev S4x4096x4096 : Shape := ⟨3, ![4, 4096, 4096]⟩
abbrev S1x4096 : Shape := ⟨2, ![1, 4096]⟩
abbrev S8x1x24576 : Shape := ⟨3, ![8, 1, 24576]⟩
abbrev S4x16x4096 : Shape := ⟨3, ![4, 16, 4096]⟩
abbrev S4x16x4096x1 : Shape := ⟨4, ![4, 16, 4096, 1]⟩
abbrev S512 : Shape := ⟨1, ![512]⟩
abbrev S1x1x1x512 : Shape := ⟨4, ![1, 1, 1, 512]⟩
abbrev S4x16x4096x512 : Shape := ⟨4, ![4, 16, 4096, 512]⟩
abbrev S_ : Shape := ⟨0, ![]⟩
abbrev S4x4096 : Shape := ⟨2, ![4, 4096]⟩
abbrev S4x4096x1 : Shape := ⟨3, ![4, 4096, 1]⟩
abbrev S4096 : Shape := ⟨1, ![4096]⟩
abbrev S1x1x4096 : Shape := ⟨3, ![1, 1, 4096]⟩
abbrev S8x6x4096 : Shape := ⟨3, ![8, 6, 4096]⟩
abbrev S4x1x4096 : Shape := ⟨3, ![4, 1, 4096]⟩

abbrev nBuf : Space → Nat
  | .hbm => 48
  | .vmem => 0
  | .smem => 0
  | _ => 0

abbrev bufTy : (tb : Table) → Fin (tcTables nBuf tb) → BufTy
  | .hbm, ⟨0, _⟩ => ⟨S8192, .i32⟩
  | .hbm, ⟨1, _⟩ => ⟨S4x16x1x4096, .f32⟩
  | .hbm, ⟨2, _⟩ => ⟨S4x16x1x4096, .f32⟩
  | .hbm, ⟨3, _⟩ => ⟨S16x4x512x4096, .bf16⟩
  | .hbm, ⟨4, _⟩ => ⟨S4x4096x4096, .f32⟩
  | .hbm, ⟨5, _⟩ => ⟨S1x4096, .f32⟩
  | .hbm, ⟨6, _⟩ => ⟨S8x1x24576, .f32⟩
  | .hbm, ⟨7, _⟩ => ⟨S4x16x4096, .f32⟩
  | .hbm, ⟨8, _⟩ => ⟨S4x16x4096x1, .f32⟩
  | .hbm, ⟨9, _⟩ => ⟨S512, .i32⟩
  | .hbm, ⟨10, _⟩ => ⟨S512, .f32⟩
  | .hbm, ⟨11, _⟩ => ⟨S1x1x1x512, .f32⟩
  | .hbm, ⟨12, _⟩ => ⟨S4x16x4096x512, .f32⟩
  | .hbm, ⟨13, _⟩ => ⟨S4x16x4096x512, .f32⟩
  | .hbm, ⟨14, _⟩ => ⟨S4x16x4096x512, .i1⟩
  | .hbm, ⟨15, _⟩ => ⟨S4x16x4096, .f32⟩
  | .hbm, ⟨16, _⟩ => ⟨S4x16x4096x1, .f32⟩
  | .hbm, ⟨17, _⟩ => ⟨S_, .f32⟩
  | .hbm, ⟨18, _⟩ => ⟨S_, .f32⟩
  | .hbm, ⟨19, _⟩ => ⟨S4x16x4096x512, .f32⟩
  | .hbm, ⟨20, _⟩ => ⟨S4x16x4096x512, .f32⟩
  | .hbm, ⟨21, _⟩ => ⟨S4x16x4096x512, .f32⟩
  | .hbm, ⟨22, _⟩ => ⟨S16x4x512x4096, .f32⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S4x4096, .f32⟩
  | .hbm, ⟨27, _⟩ => ⟨S4x4096x1, .f32⟩
  | .hbm, ⟨28, _⟩ => ⟨S_, .f32⟩
  | .hbm, ⟨29, _⟩ => ⟨S4x4096x1, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S4x4096x1, .f32⟩
  | .hbm, ⟨35, _⟩ => ⟨S4x4096x4096, .f32⟩
  | .hbm, ⟨36, _⟩ => ⟨S4x4096x4096, .f32⟩
  | .hbm, ⟨37, _⟩ => ⟨S4096, .f32⟩
  | .hbm, ⟨38, _⟩ => ⟨S1x1x4096, .f32⟩
  | .hbm, ⟨39, _⟩ => ⟨S4x4096x4096, .f32⟩
  | .hbm, ⟨40, _⟩ => ⟨S4x4096x4096, .f32⟩
  | .hbm, ⟨41, _⟩ => ⟨S8x6x4096, .f32⟩
  | .hbm, ⟨42, _⟩ => ⟨S4x1x4096, .f32⟩
  | .hbm, ⟨43, _⟩ => ⟨S4x4096, .f32⟩
  | .hbm, ⟨44, _⟩ => ⟨S4x1x4096, .f32⟩
  | .hbm, ⟨45, _⟩ => ⟨S4x4096x4096, .f32⟩
  | .hbm, ⟨46, _⟩ => ⟨S4x4096x4096, .f32⟩
  | .hbm, ⟨47, _⟩ => ⟨S4x4096x4096, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Ada.lean ====
abbrev S8x4096 : Shape := ⟨2, ![8, 4096]⟩
abbrev S1x4096x24576 : Shape := ⟨3, ![1, 4096, 24576]⟩
abbrev S1x24576 : Shape := ⟨2, ![1, 24576]⟩
abbrev S4096x24576 : Shape := ⟨2, ![4096, 24576]⟩
abbrev S24576 : Shape := ⟨1, ![24576]⟩
abbrev S8x24576 : Shape := ⟨2, ![8, 24576]⟩
abbrev S4096x512 : Shape := ⟨2, ![4096, 512]⟩
abbrev S1x512 : Shape := ⟨2, ![1, 512]⟩
abbrev S8x512 : Shape := ⟨2, ![8, 512]⟩

abbrev nBuf : Space → Nat
  | .hbm => 7
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S1x4096x24576, .f32⟩
  | .hbm, ⟨2, _⟩ => ⟨S1x24576, .f32⟩
  | .hbm, ⟨3, _⟩ => ⟨S4096x24576, .f32⟩
  | .hbm, ⟨4, _⟩ => ⟨S24576, .f32⟩
  | .hbm, ⟨5, _⟩ => ⟨S1x24576, .f32⟩
  | .hbm, ⟨6, _⟩ => ⟨S8x24576, .f32⟩
  | .local _ .vmem, ⟨0, _⟩ => ⟨S8x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S8x4096 : Shape := ⟨2, ![8, 4096]⟩
abbrev S1x4096x24576 : Shape := ⟨3, ![1, 4096, 24576]⟩
abbrev S1x24576 : Shape := ⟨2, ![1, 24576]⟩
abbrev S_ : Shape := ⟨0, ![]⟩
abbrev S4096x24576 : Shape := ⟨2, ![4096, 24576]⟩
abbrev S8x24576 : Shape := ⟨2, ![8, 24576]⟩
abbrev S24576 : Shape := ⟨1, ![24576]⟩

abbrev nBuf : Space → Nat
  | .hbm => 18
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S1x4096x24576, .f32⟩
  | .hbm, ⟨2, _⟩ => ⟨S1x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S4096x24576, .f32⟩
  | .hbm, ⟨13, _⟩ => ⟨S8x24576, .f32⟩
  | .hbm, ⟨14, _⟩ => ⟨S24576, .f32⟩
  | .hbm, ⟨15, _⟩ => ⟨S1x24576, .f32⟩
  | .hbm, ⟨16, _⟩ => ⟨S8x24576, .f32⟩
  | .hbm, ⟨17, _⟩ => ⟨S8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Prenorm.lean ====
abbrev S4x4096x4096 : Shape := ⟨3, ![4, 4096, 4096]⟩
abbrev S4x256x4096 : Shape := ⟨3, ![4, 256, 4096]⟩
abbrev S1x4x4096 : Shape := ⟨3, ![1, 4, 4096]⟩
abbrev S8x24576 : Shape := ⟨2, ![8, 24576]⟩
abbrev S1x1x4096 : Shape := ⟨3, ![1, 1, 4096]⟩
abbrev S4096 : Shape := ⟨1, ![4096]⟩
abbrev S8x1x24576 : Shape := ⟨3, ![8, 1, 24576]⟩
abbrev S1x4096 : Shape := ⟨2, ![1, 4096]⟩
abbrev S4x4352x4096 : Shape := ⟨3, ![4, 4352, 4096]⟩
abbrev S1x256x4096 : Shape := ⟨3, ![1, 256, 4096]⟩
abbrev S256x4096 : Shape := ⟨2, ![256, 4096]⟩
abbrev S256 : Shape := ⟨1, ![256]⟩
abbrev S256x1 : Shape := ⟨2, ![256, 1]⟩

abbrev nBuf : Space → Nat
  | .hbm => 9
  | .vmem => 11
  | .smem => 0
  | _ => 0

abbrev bufTy : (tb : Table) → Fin (tcTables nBuf tb) → BufTy
  | .hbm, ⟨0, _⟩ => ⟨S4x4096x4096, .f32⟩
  | .hbm, ⟨1, _⟩ => ⟨S4x256x4096, .f32⟩
  | .hbm, ⟨2, _⟩ => ⟨S1x4x4096, .f32⟩
  | .hbm, ⟨3, _⟩ => ⟨S8x24576, .f32⟩
  | .hbm, ⟨4, _⟩ => ⟨S1x1x4096, .f32⟩
  | .hbm, ⟨5, _⟩ => ⟨S4096, .f32⟩
  | .hbm, ⟨6, _⟩ => ⟨S8x1x24576, .f32⟩
  | .hbm, ⟨7, _⟩ => ⟨S1x4096, .f32⟩
  | .hbm, ⟨8, _⟩ => ⟨S4x4352x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x1x4096, .f32⟩
  | .local _ .vmem, ⟨9, _⟩ => ⟨S1x256x4096, .bf16⟩
  | .local _ .vmem, ⟨10, _⟩ => ⟨S1x256x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 17], ![false, false]⟩

def k0_cond1 (i : grid0.Coords) : BitVec 1 :=
  let arg1 : BitVec 32 := BitVec.ofNat 32 (i 1).val
  let c16_i32 : BitVec 32 := 16#32
  let v6 : BitVec 1 := Scalar.cmpi .slt arg1 c16_i32
  let v7 : BitVec 32 := Scalar.extui v6
  let c0_i32 : BitVec 32 := 0#32
  let v8 : BitVec 1 := Scalar.cmpi .ne v7 c0_i32
  v8

def k0_cond2 (i : grid0.Coords) : BitVec 1 :=
  let arg1 : BitVec 32 := BitVec.ofNat 32 (i 1).val
  let c16_i32_7 : BitVec 32 := 16#32
  let v9 : BitVec 1 := Scalar.cmpi .eq arg1 c16_i32_7
  let v10 : BitVec 32 := Scalar.extui v9
  let c0_i32_8 : BitVec 32 := 0#32
  let v11 : BitVec 1 := Scalar.cmpi .ne v10 c0_i32_8
  v11

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg1 c16_i32
  let c4_i32 : BitVec 32 := 4#32
  let v1 : BitVec 32 := Scalar.select v0 c4_i32 arg0
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg1 c16_i32
  let c4_i32 : BitVec 32 := 4#32
  let v1 : BitVec 32 := Scalar.select v0 c4_i32 arg0
  let c0_i32 : BitVec 32 := 0#32
  let c1_i32 : BitVec 32 := 1#32
  let c0_i32_0 : BitVec 32 := 0#32
  ![v1.toNat, c0_i32.toNat, c1_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PrenormRefIdeal.lean ====
abbrev S4x4096x4096 : Shape := ⟨3, ![4, 4096, 4096]⟩
abbrev S4x256x4096 : Shape := ⟨3, ![4, 256, 4096]⟩
abbrev S1x4x4096 : Shape := ⟨3, ![1, 4, 4096]⟩
abbrev S8x24576 : Shape := ⟨2, ![8, 24576]⟩
abbrev S8x6x4096 : Shape := ⟨3, ![8, 6, 4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩
abbrev S4096 : Shape := ⟨1, ![4096]⟩
abbrev S4x1x4096 : Shape := ⟨3, ![4, 1, 4096]⟩
abbrev S4x256 : Shape := ⟨2, ![4, 256]⟩
abbrev S4x256x1 : Shape := ⟨3, ![4, 256, 1]⟩
abbrev S4x4352x4096 : Shape := ⟨3, ![4, 4352, 4096]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x256x4096, .f32⟩
  | .hbm, ⟨2, _⟩ => ⟨S1x4x4096, .f32⟩
  | .hbm, ⟨3, _⟩ => ⟨S8x24576, .f32⟩
  | .hbm, ⟨4, _⟩ => ⟨S8x6x4096, .f32⟩
  | .hbm, ⟨5, _⟩ => ⟨S4x4096x4096, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x4096, .f32⟩
  | .hbm, ⟨17, _⟩ => ⟨S4x4096x4096, .f32⟩
  | .hbm, ⟨18, _⟩ => ⟨S1x1x4096, .f32⟩
  | .hbm, ⟨19, _⟩ => ⟨S4096, .f32⟩
  | .hbm, ⟨20, _⟩ => ⟨S1x1x4096, .f32⟩
  | .hbm, ⟨21, _⟩ => ⟨S4x4096x4096, .f32⟩
  | .hbm, ⟨22, _⟩ => ⟨S4x4096x4096, .f32⟩
  | .hbm, ⟨23, _⟩ => ⟨S4x1x4096, .f32⟩
  | .hbm, ⟨24, _⟩ => ⟨S4x4096, .f32⟩
  | .hbm, ⟨25, _⟩ => ⟨S4x1x4096, .f32⟩
  | .hbm, ⟨26, _⟩ => ⟨S_, .f32⟩
  | .hbm, ⟨27, _⟩ => ⟨S4x1x4096, .f32⟩
  | .hbm, ⟨28, _⟩ => ⟨S4x1x4096, .f32⟩
  | .hbm, ⟨29, _⟩ => ⟨S4x4096x4096, .f32⟩
  | .hbm, ⟨30, _⟩ => ⟨S4x4096x4096, .f32⟩
  | .hbm, ⟨31, _⟩ => ⟨S4x1x4096, .f32⟩
  | .hbm, ⟨32, _⟩ => ⟨S4x4096, .f32⟩
  | .hbm, ⟨33, _⟩ => ⟨S4x1x4096, .f32⟩
  | .hbm, ⟨34, _⟩ => ⟨S4x4096x4096, .f32⟩
  | .hbm, ⟨35, _⟩ => ⟨S4x4096x4096, .f32⟩
  | .hbm, ⟨36, _⟩ => ⟨S4x256x4096, .f32⟩
  | .hbm, ⟨37, _⟩ => ⟨S_, .f32⟩
  | .hbm, ⟨38, _⟩ => ⟨S4x256, .f32⟩
  | .hbm, ⟨39, _⟩ => ⟨S4x256x1, .f32⟩
  | .hbm, ⟨40, _⟩ => ⟨S_, .f32⟩
  | .hbm, ⟨41, _⟩ => ⟨S4x256x1, .f32⟩
  | .hbm, ⟨42, _⟩ => ⟨S4x256x1, .f32⟩
  | .hbm, ⟨43, _⟩ => ⟨S_, .f32⟩
  | .hbm, ⟨44, _⟩ => ⟨S4x256x1, .f32⟩
  | .hbm, ⟨45, _⟩ => ⟨S4x256x1, .f32⟩
  | .hbm, ⟨46, _⟩ => ⟨S4x256x1, .f32⟩
  | .hbm, ⟨47, _⟩ => ⟨S4x256x4096, .f32⟩
  | .hbm, ⟨48, _⟩ => ⟨S4x256x4096, .f32⟩
  | .hbm, ⟨49, _⟩ => ⟨S1x1x4096, .f32⟩
  | .hbm, ⟨50, _⟩ => ⟨S4096, .f32⟩
  | .hbm, ⟨51, _⟩ => ⟨S1x1x4096, .f32⟩
  | .hbm, ⟨52, _⟩ => ⟨S4x256x4096, .f32⟩
  | .hbm, ⟨53, _⟩ => ⟨S4x256x4096, .f32⟩
  | .hbm, ⟨54, _⟩ => ⟨S1x1x4096, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S1x1x4096, .f32⟩
  | .hbm, ⟨60, _⟩ => ⟨S4x256x4096, .f32⟩
  | .hbm, ⟨61, _⟩ => ⟨S4x256x4096, .f32⟩
  | .hbm, ⟨62, _⟩ => ⟨S1x1x4096, .f32⟩
  | .hbm, ⟨63, _⟩ => ⟨S4096, .f32⟩
  | .hbm, ⟨64, _⟩ => ⟨S1x1x4096, .f32⟩
  | .hbm, ⟨65, _⟩ => ⟨S4x256x4096, .f32⟩
  | .hbm, ⟨66, _⟩ => ⟨S4x256x4096, .f32⟩
  | .hbm, ⟨67, _⟩ => ⟨S4x4352x4096, .f32⟩
  | .hbm, ⟨68, _⟩ => ⟨S4x4352x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩

abbrev nD : Nat := 1
abbrev τ : Topo := Topo.v7x

variable {F : FTy → Type} [FloatOps F]
-- ==== Readout.lean ====
abbrev S4x4096x2048 : Shape := ⟨3, ![4, 4096, 2048]⟩
abbrev S4x4352x16384 : Shape := ⟨3, ![4, 4352, 16384]⟩
abbrev S1x2048 : Shape := ⟨2, ![1, 2048]⟩
abbrev S2048 : Shape := ⟨1, ![2048]⟩
abbrev S1x256x2048 : Shape := ⟨3, ![1, 256, 2048]⟩
abbrev S1x256x128 : Shape := ⟨3, ![1, 256, 128]⟩
abbrev S256x128 : Shape := ⟨2, ![256, 128]⟩
abbrev S1x128 : Shape := ⟨2, ![1, 128]⟩
abbrev S256 : Shape := ⟨1, ![256]⟩
abbrev S256x1 : Shape := ⟨2, ![256, 1]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 13
  | .vmem => 18
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x2048, .bf16⟩
  | .hbm, ⟨2, _⟩ => ⟨S4x4096x2048, .bf16⟩
  | .hbm, ⟨3, _⟩ => ⟨S4x4096x2048, .bf16⟩
  | .hbm, ⟨4, _⟩ => ⟨S4x4352x16384, .f32⟩
  | .hbm, ⟨5, _⟩ => ⟨S1x2048, .f32⟩
  | .hbm, ⟨6, _⟩ => ⟨S1x2048, .f32⟩
  | .hbm, ⟨7, _⟩ => ⟨S2048, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S4x4096x2048, .bf16⟩
  | .hbm, ⟨12, _⟩ => ⟨S4x4096x2048, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x2048, .f32⟩
  | .local _ .vmem, ⟨13, _⟩ => ⟨S1x2048, .f32⟩
  | .local _ .vmem, ⟨14, _⟩ => ⟨S1x256x2048, .bf16⟩
  | .local _ .vmem, ⟨15, _⟩ => ⟨S1x256x2048, .bf16⟩
  | .local _ .vmem, ⟨16, _⟩ => ⟨S1x256x2048, .bf16⟩
  | .local _ .vmem, ⟨17, _⟩ => ⟨S1x256x2048, .bf16⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReadoutRefIdeal.lean ====
abbrev S4x4096x2048 : Shape := ⟨3, ![4, 4096, 2048]⟩
abbrev S4x4352x16384 : Shape := ⟨3, ![4, 4352, 16384]⟩
abbrev S1x2048 : Shape := ⟨2, ![1, 2048]⟩
abbrev S4x4096x16x128 : Shape := ⟨4, ![4, 4096, 16, 128]⟩
abbrev S_ : Shape := ⟨0, ![]⟩
abbrev S4x4096x16 : Shape := ⟨3, ![4, 4096, 16]⟩
abbrev S4x4096x16x1 : Shape := ⟨4, ![4, 4096, 16, 1]⟩
abbrev S16x128 : Shape := ⟨2, ![16, 128]⟩
abbrev S1x1x16x128 : Shape := ⟨4, ![1, 1, 16, 128]⟩
abbrev S4x4096x8x256 : Shape := ⟨4, ![4, 4096, 8, 256]⟩
abbrev S4x4096x8 : Shape := ⟨3, ![4, 4096, 8]⟩
abbrev S4x4096x8x1 : Shape := ⟨4, ![4, 4096, 8, 1]⟩
abbrev S8x256 : Shape := ⟨2, ![8, 256]⟩
abbrev S1x1x8x256 : Shape := ⟨4, ![1, 1, 8, 256]⟩

abbrev nBuf : Space → Nat
  | .hbm => 74
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x2048, .bf16⟩
  | .hbm, ⟨2, _⟩ => ⟨S4x4096x2048, .bf16⟩
  | .hbm, ⟨3, _⟩ => ⟨S4x4096x2048, .bf16⟩
  | .hbm, ⟨4, _⟩ => ⟨S4x4352x16384, .f32⟩
  | .hbm, ⟨5, _⟩ => ⟨S1x2048, .f32⟩
  | .hbm, ⟨6, _⟩ => ⟨S1x2048, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S4x4096x16x128, .f32⟩
  | .hbm, ⟨11, _⟩ => ⟨S4x4096x16x128, .f32⟩
  | .hbm, ⟨12, _⟩ => ⟨S_, .f32⟩
  | .hbm, ⟨13, _⟩ => ⟨S4x4096x16, .f32⟩
  | .hbm, ⟨14, _⟩ => ⟨S4x4096x16x1, .f32⟩
  | .hbm, ⟨15, _⟩ => ⟨S_, .f32⟩
  | .hbm, ⟨16, _⟩ => ⟨S4x4096x16x1, .f32⟩
  | .hbm, ⟨17, _⟩ => ⟨S4x4096x16x1, .f32⟩
  | .hbm, ⟨18, _⟩ => ⟨S_, .f32⟩
  | .hbm, ⟨19, _⟩ => ⟨S4x4096x16x1, .f32⟩
  | .hbm, ⟨20, _⟩ => ⟨S4x4096x16x1, .f32⟩
  | .hbm, ⟨21, _⟩ => ⟨S4x4096x16x1, .f32⟩
  | .hbm, ⟨22, _⟩ => ⟨S4x4096x16x128, .f32⟩
  | .hbm, ⟨23, _⟩ => ⟨S4x4096x16x128, .f32⟩
  | .hbm, ⟨24, _⟩ => ⟨S16x128, .f32⟩
  | .hbm, ⟨25, _⟩ => ⟨S1x1x16x128, .f32⟩
  | .hbm, ⟨26, _⟩ => ⟨S4x4096x16x128, .f32⟩
  | .hbm, ⟨27, _⟩ => ⟨S4x4096x16x128, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S_, .f32⟩
  | .hbm, ⟨33, _⟩ => ⟨S4x4096x2048, .f32⟩
  | .hbm, ⟨34, _⟩ => ⟨S4x4096x2048, .f32⟩
  | .hbm, ⟨35, _⟩ => ⟨S_, .f32⟩
  | .hbm, ⟨36, _⟩ => ⟨S4x4096x2048, .f32⟩
  | .hbm, ⟨37, _⟩ => ⟨S4x4096x2048, .f32⟩
  | .hbm, ⟨38, _⟩ => ⟨S4x4096x2048, .f32⟩
  | .hbm, ⟨39, _⟩ => ⟨S4x4096x2048, .f32⟩
  | .hbm, ⟨40, _⟩ => ⟨S4x4096x2048, .f32⟩
  | .hbm, ⟨41, _⟩ => ⟨S4x4096x2048, .f32⟩
  | .hbm, ⟨42, _⟩ => ⟨S4x4096x2048, .f32⟩
  | .hbm, ⟨43, _⟩ => ⟨S4x4096x8x256, .f32⟩
  | .hbm, ⟨44, _⟩ => ⟨S4x4096x8x256, .f32⟩
  | .hbm, ⟨45, _⟩ => ⟨S_, .f32⟩
  | .hbm, ⟨46, _⟩ => ⟨S4x4096x8, .f32⟩
  | .hbm, ⟨47, _⟩ => ⟨S4x4096x8x1, .f32⟩
  | .hbm, ⟨48, _⟩ => ⟨S_, .f32⟩
  | .hbm, ⟨49, _⟩ => ⟨S4x4096x8x1, .f32⟩
  | .hbm, ⟨50, _⟩ => ⟨S4x4096x8x1, .f32⟩
  | .hbm, ⟨51, _⟩ => ⟨S_, .f32⟩
  | .hbm, ⟨52, _⟩ => ⟨S4x4096x8x1, .f32⟩
  | .hbm, ⟨53, _⟩ => ⟨S4x4096x8x1, .f32⟩
  | .hbm, ⟨54, _⟩ => ⟨S4x4096x8x1, .f32⟩
  | .hbm, ⟨55, _⟩ => ⟨S4x4096x8x256, .f32⟩
  | .hbm, ⟨56, _⟩ => ⟨S4x4096x8x256, .f32⟩
  | .hbm, ⟨57, _⟩ => ⟨S8x256, .f32⟩
  | .hbm, ⟨58, _⟩ => ⟨S1x1x8x256, .f32⟩
  | .hbm, ⟨59, _⟩ => ⟨S4x4096x8x256, .f32⟩
  | .hbm, ⟨60, _⟩ => ⟨S4x4096x8x256, .f32⟩
  | .hbm, ⟨61, _⟩ => ⟨S4x4096x2048, .f32⟩
  | .hbm, ⟨62, _⟩ => ⟨S4x4096x2048, .f32⟩
  | .hbm, ⟨63, _⟩ => ⟨S4x4096x2048, .f32⟩
  | .hbm, ⟨64, _⟩ => ⟨S4x4096x2048, .f32⟩
  | .hbm, ⟨65, _⟩ => ⟨S_, .f32⟩
  | .hbm, ⟨66, _⟩ => ⟨S4x4096x2048, .f32⟩
  | .hbm, ⟨67, _⟩ => ⟨S4x4096x2048, .f32⟩
  | .hbm, ⟨68, _⟩ => ⟨S_, .f32⟩
  | .hbm, ⟨69, _⟩ => ⟨S4x4096x2048, .f32⟩
  | .hbm, ⟨70, _⟩ => ⟨S4x4096x2048, .f32⟩
  | .hbm, ⟨71, _⟩ => ⟨S4x4096x2048, .f32⟩
  | .hbm, ⟨72, _⟩ => ⟨S4x4096x2048, .bf16⟩
  | .hbm, ⟨73, _⟩ => ⟨S4x4096x2048, .bf16⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_5 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]
-- ==== Resid.lean ====
abbrev S4x4096x4096 : Shape := ⟨3, ![4, 4096, 4096]⟩
abbrev S1x4x4096 : Shape := ⟨3, ![1, 4, 4096]⟩
abbrev S8x24576 : Shape := ⟨2, ![8, 24576]⟩
abbrev S1x4096x16 : Shape := ⟨3, ![1, 4096, 16]⟩
abbrev S4096x16 : Shape := ⟨2, ![4096, 16]⟩
abbrev S_ : Shape := ⟨0, ![]⟩
abbrev S4096x128 : Shape := ⟨2, ![4096, 128]⟩
abbrev S1x1x4096 : Shape := ⟨3, ![1, 1, 4096]⟩
abbrev S4096 : Shape := ⟨1, ![4096]⟩
abbrev S8x1x24576 : Shape := ⟨3, ![8, 1, 24576]⟩
abbrev S1x4096 : Shape := ⟨2, ![1, 4096]⟩
abbrev S4x4096x128 : Shape := ⟨3, ![4, 4096, 128]⟩
abbrev S1x256x4096 : Shape := ⟨3, ![1, 256, 4096]⟩
abbrev S1x256x128 : Shape := ⟨3, ![1, 256, 128]⟩
abbrev S256x4096 : Shape := ⟨2, ![256, 4096]⟩
abbrev S256 : Shape := ⟨1, ![256]⟩
abbrev S256x1 : Shape := ⟨2, ![256, 1]⟩
abbrev S256x128 : Shape := ⟨2, ![256, 128]⟩

abbrev nBuf : Space → Nat
  | .hbm => 19
  | .vmem => 19
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .bf16⟩
  | .hbm, ⟨2, _⟩ => ⟨S1x4x4096, .f32⟩
  | .hbm, ⟨3, _⟩ => ⟨S8x24576, .f32⟩
  | .hbm, ⟨4, _⟩ => ⟨S1x4096x16, .f32⟩
  | .hbm, ⟨5, _⟩ => ⟨S4096x16, .f32⟩
  | .hbm, ⟨6, _⟩ => ⟨S_, .i32⟩
  | .hbm, ⟨7, _⟩ => ⟨S_, .f32⟩
  | .hbm, ⟨8, _⟩ => ⟨S4096x128, .f32⟩
  | .hbm, ⟨9, _⟩ => ⟨S1x1x4096, .f32⟩
  | .hbm, ⟨10, _⟩ => ⟨S4096, .f32⟩
  | .hbm, ⟨11, _⟩ => ⟨S1x1x4096, .f32⟩
  | .hbm, ⟨12, _⟩ => ⟨S4096, .f32⟩
  | .hbm, ⟨13, _⟩ => ⟨S8x1x24576, .f32⟩
  | .hbm, ⟨14, _⟩ => ⟨S1x4096, .f32⟩
  | .hbm, ⟨15, _⟩ => ⟨S1x4096, .f32⟩
  | .hbm, ⟨16, _⟩ => ⟨S4x4096x4096, .f32⟩
  | .hbm, ⟨17, _⟩ => ⟨S4x4096x4096, .bf16⟩
  | .hbm, ⟨18, _⟩ => ⟨S4x4096x128, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .bf16⟩
  | .local _ .vmem, ⟨3, _⟩ => ⟨S1x256x4096, .bf16⟩
  | .local _ .vmem, ⟨4, _⟩ => ⟨S1x4096, .f32⟩
  | .local _ .vmem, ⟨5, _⟩ => ⟨S1x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S4096x128, .f32⟩
  | .local _ .vmem, ⟨13, _⟩ => ⟨S1x256x4096, .f32⟩
  | .local _ .vmem, ⟨14, _⟩ => ⟨S1x256x4096, .f32⟩
  | .local _ .vmem, ⟨15, _⟩ => ⟨S1x256x4096, .bf16⟩
  | .local _ .vmem, ⟨16, _⟩ => ⟨S1x256x4096, .bf16⟩
  | .local _ .vmem, ⟨17, _⟩ => ⟨S1x256x128, .f32⟩
  | .local _ .vmem, ⟨18, _⟩ => ⟨S1x256x128, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ResidRefIdeal.lean ====
abbrev S4x4096x4096 : Shape := ⟨3, ![4, 4096, 4096]⟩
abbrev S1x4x4096 : Shape := ⟨3, ![1, 4, 4096]⟩
abbrev S8x24576 : Shape := ⟨2, ![8, 24576]⟩
abbrev S1x4096x16 : Shape := ⟨3, ![1, 4096, 16]⟩
abbrev S8x6x4096 : Shape := ⟨3, ![8, 6, 4096]⟩
abbrev S4x1x4096 : Shape := ⟨3, ![4, 1, 4096]⟩
abbrev S4x4096 : Shape := ⟨2, ![4, 4096]⟩
abbrev S1x1x4096 : Shape := ⟨3, ![1, 1, 4096]⟩
abbrev S4096 : Shape := ⟨1, ![4096]⟩
abbrev S_ : Shape := ⟨0, ![]⟩
abbrev S4x4096x1 : Shape := ⟨3, ![4, 4096, 1]⟩
abbrev S4096x16 : Shape := ⟨2, ![4096, 16]⟩
abbrev S4x4096x16 : Shape := ⟨3, ![4, 4096, 16]⟩
abbrev S4x4096x128 : Shape := ⟨3, ![4, 4096, 128]⟩

abbrev nBuf : Space → Nat
  | .hbm => 82
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .bf16⟩
  | .hbm, ⟨2, _⟩ => ⟨S1x4x4096, .f32⟩
  | .hbm, ⟨3, _⟩ => ⟨S8x24576, .f32⟩
  | .hbm, ⟨4, _⟩ => ⟨S1x4096x16, .f32⟩
  | .hbm, ⟨5, _⟩ => ⟨S8x6x4096, .f32⟩
  | .hbm, ⟨6, _⟩ => ⟨S4x1x4096, .f32⟩
  | .hbm, ⟨7, _⟩ => ⟨S4x4096, .f32⟩
  | .hbm, ⟨8, _⟩ => ⟨S4x1x4096, .f32⟩
  | .hbm, ⟨9, _⟩ => ⟨S4x4096x4096, .f32⟩
  | .hbm, ⟨10, _⟩ => ⟨S1x1x4096, .f32⟩
  | .hbm, ⟨11, _⟩ => ⟨S4096, .f32⟩
  | .hbm, ⟨12, _⟩ => ⟨S4x4096x4096, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x4096, .f32⟩
  | .hbm, ⟨24, _⟩ => ⟨S4x4096x4096, .f32⟩
  | .hbm, ⟨25, _⟩ => ⟨S1x1x4096, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S1x1x4096, .f32⟩
  | .hbm, ⟨32, _⟩ => ⟨S4096, .f32⟩
  | .hbm, ⟨33, _⟩ => ⟨S4x4096x4096, .f32⟩
  | .hbm, ⟨34, _⟩ => ⟨S_, .f32⟩
  | .hbm, ⟨35, _⟩ => ⟨S4x4096, .f32⟩
  | .hbm, ⟨36, _⟩ => ⟨S4x4096x1, .f32⟩
  | .hbm, ⟨37, _⟩ => ⟨S_, .f32⟩
  | .hbm, ⟨38, _⟩ => ⟨S4x4096x1, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S4x4096x1, .f32⟩
  | .hbm, ⟨44, _⟩ => ⟨S4x4096x4096, .f32⟩
  | .hbm, ⟨45, _⟩ => ⟨S4x4096x4096, .f32⟩
  | .hbm, ⟨46, _⟩ => ⟨S1x1x4096, .f32⟩
  | .hbm, ⟨47, _⟩ => ⟨S4x4096x4096, .f32⟩
  | .hbm, ⟨48, _⟩ => ⟨S4x4096x4096, .f32⟩
  | .hbm, ⟨49, _⟩ => ⟨S4x1x4096, .f32⟩
  | .hbm, ⟨50, _⟩ => ⟨S4x4096, .f32⟩
  | .hbm, ⟨51, _⟩ => ⟨S4x1x4096, .f32⟩
  | .hbm, ⟨52, _⟩ => ⟨S_, .f32⟩
  | .hbm, ⟨53, _⟩ => ⟨S4x1x4096, .f32⟩
  | .hbm, ⟨54, _⟩ => ⟨S4x1x4096, .f32⟩
  | .hbm, ⟨55, _⟩ => ⟨S4x4096x4096, .f32⟩
  | .hbm, ⟨56, _⟩ => ⟨S4x4096x4096, .f32⟩
  | .hbm, ⟨57, _⟩ => ⟨S4x1x4096, .f32⟩
  | .hbm, ⟨58, _⟩ => ⟨S4x4096, .f32⟩
  | .hbm, ⟨59, _⟩ => ⟨S4x1x4096, .f32⟩
  | .hbm, ⟨60, _⟩ => ⟨S4x4096x4096, .f32⟩
  | .hbm, ⟨61, _⟩ => ⟨S4x4096x4096, .f32⟩
  | .hbm, ⟨62, _⟩ => ⟨S4096x16, .f32⟩
  | .hbm, ⟨63, _⟩ => ⟨S4x4096x16, .f32⟩
  | .hbm, ⟨64, _⟩ => ⟨S_, .f32⟩
  | .hbm, ⟨65, _⟩ => ⟨S_, .f32⟩
  | .hbm, ⟨66, _⟩ => ⟨S4x4096x128, .f32⟩
  | .hbm, ⟨67, _⟩ => ⟨S_, .f32⟩
  | .hbm, ⟨68, _⟩ => ⟨S4x4096, .f32⟩
  | .hbm, ⟨69, _⟩ => ⟨S_, .f32⟩
  | .hbm, ⟨70, _⟩ => ⟨S4x4096, .f32⟩
  | .hbm, ⟨71, _⟩ => ⟨S4x4096, .f32⟩
  | .hbm, ⟨72, _⟩ => ⟨S4x4096x1, .f32⟩
  | .hbm, ⟨73, _⟩ => ⟨S4x4096x128, .f32⟩
  | .hbm, ⟨74, _⟩ => ⟨S4x4096x128, .f32⟩
  | .hbm, ⟨75, _⟩ => ⟨S4x4096x128, .f32⟩
  | .hbm, ⟨76, _⟩ => ⟨S_, .f32⟩
  | .hbm, ⟨77, _⟩ => ⟨S4x4096, .f32⟩
  | .hbm, ⟨78, _⟩ => ⟨S4x4096x1, .f32⟩
  | .hbm, ⟨79, _⟩ => ⟨S4x4096x128, .f32⟩
  | .hbm, ⟨80, _⟩ => ⟨S4x4096x128, .f32⟩
  | .hbm, ⟨81, _⟩ => ⟨S4x4096x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_6 : Ref sig .tc := ⟨.hbm, 64, rfl⟩
abbrev main_call0_v0 : Ref sig .tc := ⟨.hbm, 65, rfl⟩
abbrev main_v52 : Ref sig .tc := ⟨.hbm, 66, rfl⟩
abbrev main_cst_7 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]
-- ==== Gather.lean ====
abbrev S4x16x512 : Shape := ⟨3, ![4, 16, 512]⟩
abbrev S4x4096x2048 : Shape := ⟨3, ![4, 4096, 2048]⟩
abbrev S32768 : Shape := ⟨1, ![32768]⟩
abbrev S16384x2048 : Shape := ⟨2, ![16384, 2048]⟩
abbrev S16x4x512x4096 : Shape := ⟨4, ![16, 4, 512, 4096]⟩
abbrev S1x1x512x4096 : Shape := ⟨4, ![1, 1, 512, 4096]⟩
abbrev S512x2048 : Shape := ⟨2, ![512, 2048]⟩
abbrev S_ : Shape := ⟨0, ![]⟩
abbrev S1 : Shape := ⟨1, ![1]⟩
abbrev S1x2048 : Shape := ⟨2, ![1, 2048]⟩
abbrev S1x1x512x2048 : Shape := ⟨4, ![1, 1, 512, 2048]⟩

abbrev nBuf : Space → Nat
  | .hbm => 4
  | .vmem => 3
  | .smem => 1
  | _ => 0

abbrev bufTy : (tb : Table) → Fin (tcTables nBuf tb) → BufTy
  | .hbm, ⟨0, _⟩ => ⟨S4x16x512, .i32⟩
  | .hbm, ⟨1, _⟩ => ⟨S4x4096x2048, .i32⟩
  | .hbm, ⟨2, _⟩ => ⟨S16384x2048, .i32⟩
  | .hbm, ⟨3, _⟩ => ⟨S16x4x512x4096, .bf16⟩
  | .local _ .vmem, ⟨0, _⟩ => ⟨S1x1x512x4096, .bf16⟩
  | .local _ .vmem, ⟨1, _⟩ => ⟨S1x1x512x4096, .bf16⟩
  | .local _ .vmem, ⟨2, _⟩ => ⟨S512x2048, .i32⟩
  | .local _ .smem, ⟨0, _⟩ => ⟨S32768, .i32⟩
  | _, _ => ⟨S4x16x512, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨2, ![4, 16], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c256_i32 : BitVec 32 := 256#32
  let v3 : BitVec 32 := Scalar.addi c0_i32 c256_i32
  let c1_i32 : BitVec 32 := 1#32
  ⟨c0_i32, v3, c1_i32⟩
def k0_off1 (i : grid0.Coords) (k0_t1 : Fin k0_t1_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c2_i32 : BitVec 32 := 2#32
  let c0_i32 : BitVec 32 := 0#32
  let c1_i32 : BitVec 32 := 1#32
  let arg7 : BitVec 32 := Scf.iv c0_i32 c1_i32 k0_t1
  let v20 : BitVec 32 := Scalar.muli c2_i32 arg7
  let c0_i32_14 : BitVec 32 := 0#32
  let v21 : BitVec 32 := Scalar.addi v20 c0_i32_14
  let v22 : BitVec 32 := Scalar.addi v2 v21
  let v23 : Index := Scalar.indexCast v22
  ![v23.toNat]
def k0_off2 (k0_t1 : Fin k0_t1_loop.trips) : Fin 2 → Nat :=
  let c2_i32 : BitVec 32 := 2#32
  let c0_i32 : BitVec 32 := 0#32
  let c1_i32 : BitVec 32 := 1#32
  let arg7 : BitVec 32 := Scf.iv c0_i32 c1_i32 k0_t1
  let v20 : BitVec 32 := Scalar.muli c2_i32 arg7
  let c0_i32_14 : BitVec 32 := 0#32
  let v21 : BitVec 32 := Scalar.addi v20 c0_i32_14
  let c0_i32_15 : BitVec 32 := 0#32
  ![v21.toNat, 0]
def k0_off3 (i : grid0.Coords) (v24 : BitVec 32) : Fin 2 → Nat :=
  let arg0 : BitVec 32 := BitVec.ofNat 32 (i 0).val
  let c4096_i32 : BitVec 32 := 4096#32
  let v25 : BitVec 32 := Scalar.muli arg0 c4096_i32
  let v26 : BitVec 32 := Scalar.addi v25 v24
  let c0_i32_16 : BitVec 32 := 0#32
  ![v26.toNat, 0]

def k0_chk1 (i : grid0.Coords) (v24 : BitVec 32) : Prop :=
  (∀ a, (k0_off3 i v24) a + S1x2048.size a ≤ S16384x2048.size a)
theorem k0_off3_inb : ∀ (i : grid0.Coords) (v24 : BitVec 32) (k0_hw1 : k0_chk1 i v24), ∀ a, (k0_off3 i v24) a + S1x2048.size a ≤ S16384x2048.size a := fun i v24 k0_hw1 => k0_hw1

def k0_off4 (i : grid0.Coords) (k0_t1 : Fin k0_t1_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c2_i32_17 : BitVec 32 := 2#32
  let c0_i32 : BitVec 32 := 0#32
  let c1_i32 : BitVec 32 := 1#32
  let arg7 : BitVec 32 := Scf.iv c0_i32 c1_i32 k0_t1
  let v29 : BitVec 32 := Scalar.muli c2_i32_17 arg7
  let c1_i32_18 : BitVec 32 := 1#32
  let v30 : BitVec 32 := Scalar.addi v29 c1_i32_18
  let v31 : BitVec 32 := Scalar.addi v2 v30
  let v32 : Index := Scalar.indexCast v31
  ![v32.toNat]
def k0_off5 (k0_t1 : Fin k0_t1_loop.trips) : Fin 2 → Nat :=
  let c2_i32_17 : BitVec 32 := 2#32
  let c0_i32 : BitVec 32 := 0#32
  let c1_i32 : BitVec 32 := 1#32
  let arg7 : BitVec 32 := Scf.iv c0_i32 c1_i32 k0_t1
  let v29 : BitVec 32 := Scalar.muli c2_i32_17 arg7
  let c1_i32_18 : BitVec 32 := 1#32
  let v30 : BitVec 32 := Scalar.addi v29 c1_i32_18
  let c0_i32_20 : BitVec 32 := 0#32
  ![v30.toNat, 0]
def k0_off6 (i : grid0.Coords) (v33 : BitVec 32) : Fin 2 → Nat :=
  let arg0 : BitVec 32 := BitVec.ofNat 32 (i 0).val
  let c4096_i32_19 : BitVec 32 := 4096#32
  let v34 : BitVec 32 := Scalar.muli arg0 c4096_i32_19
  let v35 : BitVec 32 := Scalar.addi v34 v33
  let c0_i32_21 : BitVec 32 := 0#32
  ![v35.toNat, 0]

def k0_chk2 (i : grid0.Coords) (v33 : BitVec 32) : Prop :=
  (∀ a, (k0_off6 i v33) a + S1x2048.size a ≤ S16384x2048.size a)
theorem k0_off6_inb : ∀ (i : grid0.Coords) (v33 : BitVec 32) (k0_hw2 : k0_chk2 i v33), ∀ a, (k0_off6 i v33) a + S1x2048.size a ≤ S16384x2048.size a := fun i v33 k0_hw2 => k0_hw2

@[reducible] def k0_t2_loop : Scf.Loop 32 :=
  let c0_i32_1 : BitVec 32 := 0#32
  let c512_i32_2 : BitVec 32 := 512#32
  let v4 : BitVec 32 := Scalar.addi c0_i32_1 c512_i32_2
  let c1_i32_3 : BitVec 32 := 1#32
  ⟨c0_i32_1, v4, c1_i32_3⟩
def k0_off7 (k0_t2 : Fin k0_t2_loop.trips) : Fin 2 → Nat :=
  let c0_i32_1 : BitVec 32 := 0#32
  let c1_i32_3 : BitVec 32 := 1#32
  let arg7 : BitVec 32 := Scf.iv c0_i32_1 c1_i32_3 k0_t2
  let c0_i32_15 : BitVec 32 := 0#32
  ![arg7.toNat, 0]
def k0_off8 (i : grid0.Coords) : Fin 2 → Nat :=
  let arg0 : BitVec 32 := BitVec.ofNat 32 (i 0).val
  let c4096_i32 : BitVec 32 := 4096#32
  let v20 : BitVec 32 := Scalar.muli arg0 c4096_i32
  let c0_i32_14 : BitVec 32 := 0#32
  let v21 : BitVec 32 := Scalar.addi v20 c0_i32_14
  let c0_i32_16 : BitVec 32 := 0#32
  ![v21.toNat, 0]
def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]
-- ==== GatherRefIdeal.lean ====
abbrev S4x16x512 : Shape := ⟨3, ![4, 16, 512]⟩
abbrev S4x4096x2048 : Shape := ⟨3, ![4, 4096, 2048]⟩
abbrev S_ : Shape := ⟨0, ![]⟩
abbrev S4x16x512x1 : Shape := ⟨4, ![4, 16, 512, 1]⟩
abbrev S4x16x512x2048 : Shape := ⟨4, ![4, 16, 512, 2048]⟩
abbrev S4x16x512x4096 : Shape := ⟨4, ![4, 16, 512, 4096]⟩
abbrev S16x4x512x4096 : Shape := ⟨4, ![16, 4, 512, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x16x512, .i32⟩
  | .hbm, ⟨1, _⟩ => ⟨S4x4096x2048, .i32⟩
  | .hbm, ⟨2, _⟩ => ⟨S_, .i32⟩
  | .hbm, ⟨3, _⟩ => ⟨S4x16x512, .i32⟩
  | .hbm, ⟨4, _⟩ => ⟨S4x16x512, .i1⟩
  | .hbm, ⟨5, _⟩ => ⟨S_, .i32⟩
  | .hbm, ⟨6, _⟩ => ⟨S4x16x512, .i32⟩
  | .hbm, ⟨7, _⟩ => ⟨S4x16x512, .i32⟩
  | .hbm, ⟨8, _⟩ => ⟨S4x16x512, .i32⟩
  | .hbm, ⟨9, _⟩ => ⟨S4x16x512x1, .i32⟩
  | .hbm, ⟨10, _⟩ => ⟨S4x16x512x2048, .i32⟩
  | .hbm, ⟨11, _⟩ => ⟨S_, .i32⟩
  | .hbm, ⟨12, _⟩ => ⟨S4x16x512x2048, .i32⟩
  | .hbm, ⟨13, _⟩ => ⟨S4x16x512x2048, .i32⟩
  | .hbm, ⟨14, _⟩ => ⟨S4x16x512x2048, .f32⟩
  | .hbm, ⟨15, _⟩ => ⟨S_, .i32⟩
  | .hbm, ⟨16, _⟩ => ⟨S4x16x512x2048, .i32⟩
  | .hbm, ⟨17, _⟩ => ⟨S4x16x512x2048, .i32⟩
  | .hbm, ⟨18, _⟩ => ⟨S4x16x512x2048, .f32⟩
  | .hbm, ⟨19, _⟩ => ⟨S4x16x512x4096, .f32⟩
  | .hbm, ⟨20, _⟩ => ⟨S16x4x512x4096, .f32⟩
  | .hbm, ⟨21, _⟩ => ⟨S16x4x512x4096, .bf16⟩
  | _, _ => ⟨S4x16x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Scalars.lean ====
/-
  Facts of the extended reals that several of the value proofs share: the logistic function as the kernels write it
  (a quotient by one plus an exponential) against the reference's.
-/
module

public import Idealize.ShloMosaic.PureOps.Ideal

@[expose] public section

noncomputable section

open Idealize.ShloMosaic

namespace Cert.Hand

/-- An exponential is not negative. -/
theorem exp_nonneg (x : EReal) : 0 ≤ Ideal.exp x := by
  induction x using EReal.rec with
  | bot => exact le_rfl
  | top => exact le_top
  | coe r => exact EReal.coe_nonneg.mpr (Real.exp_pos r).le

/-- One plus an exponential is not zero. -/
theorem one_add_exp_ne (x : EReal) : 1 + Ideal.exp x ≠ 0 := by
  have h : (0 : EReal) < 1 + Ideal.exp x := lt_of_lt_of_le zero_lt_one (le_add_of_nonneg_right (exp_nonneg x))
  exact h.ne'

/-- A quotient by one plus an exponential is the product with its reciprocal. -/
theorem div_one_add_exp (a x : EReal) :
    Ideal.div a (1 + Ideal.exp x) = a * Ideal.div 1 (1 + Ideal.exp x) := by
  unfold Ideal.div
  rw [if_neg (one_add_exp_ne x), if_neg (one_add_exp_ne x), one_mul]

/-- Negation written as a difference from zero. -/
theorem zero_sub_eq (x : EReal) : 0 - x = -x := by
  rw [sub_eq_add_neg, zero_add]

end Cert.Hand

end
-- ==== Proof.InProjValue.lean ====
/-
  The input projection's main call: its result array, tile by tile, is the product of the tokens with the first
  16384 columns of the weight.
-/
module

public import proofs.«01_k».proof.Defs
public import proofs.«01_k».proof.Proof.Gen.InProjIdeal.Value
public import proofs.«01_k».proof.Proof.Gen.InProjRefIdeal.Run
public import proofs.«01_k».proof.Proof.Scalars
public import Idealize.ShloMosaic.Lib.Pipeline.ValueKit
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Hand.InProj

open Cert.InProjRefIdeal Cert.InProjRefIdeal.Gen in
/-- The reference's result, as a function of the tokens laid out as rows and of the other arguments. -/
def proj (u : FVec Ideal Cert.InProjRefIdeal.S17408x4096 .bf16) (w : FVec Ideal Cert.InProjRefIdeal.S1x4096x24608 .f32) :
    FVec Ideal Cert.InProjRefIdeal.S17408x16384 .f32 :=
  Host.dotGeneral dot_S17408x4096_S4096x16384_S17408x16384_1_0_0_1_n_n none (extf .f32 u bitsLt_bf16_f32) (extractStridedSlice S4096x16384 ![0, 0] (shapeCast _ w shapeCasts_S1x4096x24608_S4096x24608) slices_S4096x24608_S4096x16384_0_0)

open Cert.InProjIdeal Cert.InProjIdeal.Gen

variable (m : (ℓ : Loc nD τ sig) → Buf (Elt Ideal) ℓ)

/-- Where the windows stand at a grid point. -/
theorem idx : ∀ t : Fin cfg0.N, win0_0.index t = ![t.val / 32, 0]
    ∧ win0_1.index t = ![0, t.val % 32, 0]
    ∧ win0_2.index t = ![t.val / 32, t.val % 32] :=
  (by decide +kernel : ∀ t : Fin grid0.N, win0_0.index t = ![t.val / 32, 0]
    ∧ win0_1.index t = ![0, t.val % 32, 0]
    ∧ win0_2.index t = ![t.val / 32, t.val % 32])

/-- Every block of the result array is some grid point's. -/
theorem covers : (cfg0.win 2).Covers :=
  (cfg0.win 2).covers_of_index_surj rfl (by decide) fun β => by
    have h0 : (β (0 : Fin 2)).val < 17 := lt_of_lt_of_eq (β (0 : Fin 2)).isLt (by decide)
    have h1 : (β (1 : Fin 2)).val < 32 := lt_of_lt_of_eq (β (1 : Fin 2)).isLt (by decide)
    refine ⟨⟨(β (0 : Fin 2)).val * 32 + (β (1 : Fin 2)).val, ?_⟩, fun a => ?_⟩
    · show _ < 544; omega
    · show win0_2.index _ a = _
      rw [(idx _).2.2]
      match a with
      | ⟨0, _⟩ => show ((β (0 : Fin 2)).val * 32 + (β (1 : Fin 2)).val) / 32 = (β (0 : Fin 2)).val; omega
      | ⟨1, _⟩ => show ((β (0 : Fin 2)).val * 32 + (β (1 : Fin 2)).val) % 32 = (β (1 : Fin 2)).val; omega

/-- The call reads the tokens laid out as rows. -/
theorem staged (c : Dev nD) : V m c main_v1 = shapeCast (α := Ideal .bf16) S17408x4096 (m ((c : Thread nD τ).loc main_arg0)) shapeCasts_S4x4352x4096_S17408x4096 := by
  unfold V
  after_results
  rfl

/-- The call reads the weight transposed. -/
theorem staged_weight (c : Dev nD) (i : S1x24608x4096.Idx) :
    V m c main_v0 i = m ((c : Thread nD τ).loc main_arg1) (ix3 (0 : Fin 1) (i 2) (i 1)) := by
  unfold V
  after_results
  pointwise

set_option maxHeartbeats 400000 in
/-- The kernel's result array is the reference's function of the arguments. -/
theorem final (c : Dev nD) : (dats m 0 c).arrAt 2 cfg0.N
    = proj (shapeCast (α := Ideal .bf16) S17408x4096 (m ((c : Thread nD τ).loc main_arg0)) shapeCasts_S4x4352x4096_S17408x4096) (m ((c : Thread nD τ).loc main_arg1)) := by
  refine (dats m 0 c).arrAt_eq_of_covers 2 _ covers fun t hf y => ?_
  rw [← staged]
  blk_simp
  rw [after0_2]
  unfold outsAt0 out0_A_2
  frame_out
  pointwise [k0_pay1, proj]
  refine (Finset.sum_congr rfl fun x _ => congrArg₂ (fun a b : EReal => a * b) ?_ ?_ : (_ : EReal) = _)
  · blk_ext [iblk, idx t]
  · show (cfg0.win 1).fill _ _ _ _ = _
    unfold Pipeline.Window.fill
    rw [dif_pos (moved0_1 t _)]
    refine (staged_weight m c _).trans ?_
    blk_ext [idx t]

/-- The two programs, from the same arguments, end with the same result. -/
theorem algebraic : Cert.algebraic_InProjIdeal_InProjRefIdeal := by
  intro m g m' g' _ hm
  refine ⟨fun c => proj (shapeCast (α := Ideal .bf16) S17408x4096 (m ((c : Thread nD τ).loc main_arg0)) shapeCasts_S4x4352x4096_S17408x4096) (m ((c : Thread nD τ).loc main_arg1)), ?_, ?_⟩
  · exact (θ_run defs _ _).mono (fun r h c => ⟨(h c).1.trans (final m c), (h c).2⟩) (Cert.InProjIdeal.Value.run_blocks m g)
  · refine (θ_run Cert.InProjRefIdeal.defs _ _).mono (fun r h c => ⟨(h c).1.trans ?_, (h c).2⟩)
      (Cert.InProjRefIdeal.Value.run m' g')
    rw [(hm c).1, (hm c).2]
    rfl

/-- The reference runs to its end, its arguments unchanged; it has no counter. -/
theorem frame_reference : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run m ρ)

end Cert.Hand.InProj

end
-- ==== Proof.InMergeValue.lean ====
/-
  The input projection's call for the two merge gates: its result array, tile by tile, is the product of the latent
  tokens with the transposed weight.
-/
module

public import proofs.«01_k».proof.Defs
public import proofs.«01_k».proof.Proof.Gen.InMergeIdeal.Value
public import proofs.«01_k».proof.Proof.Gen.InMergeRefIdeal.Run
public import proofs.«01_k».proof.Proof.Scalars
public import Idealize.ShloMosaic.Lib.Pipeline.ValueKit
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Hand.InMerge

open Cert.InMergeRefIdeal Cert.InMergeRefIdeal.Gen in
/-- The reference's result, as a function of its arguments. -/
def proj (u : FVec Ideal Cert.InMergeRefIdeal.S4x4352x4096 .bf16) (w : FVec Ideal Cert.InMergeRefIdeal.S8192x4096 .bf16) :
    FVec Ideal Cert.InMergeRefIdeal.S4x4096x8192 .f32 :=
  Host.dotGeneral dot_S4x4096x4096_S4096x8192_S4x4096x8192_2_0_01_1_n_n none (extf .f32 (extractStridedSlice S4x4096x4096 ![0, 0, 0] u slices_S4x4352x4096_S4x4096x4096_0_0_0) bitsLt_bf16_f32) (transpose S4096x8192 [1, 0] (extf .f32 w bitsLt_bf16_f32) transposes_S8192x4096_S4096x8192_1_0)

open Cert.InMergeIdeal Cert.InMergeIdeal.Gen

variable (m : (ℓ : Loc nD τ sig) → Buf (Elt Ideal) ℓ)

/-- Where the windows stand at a grid point. -/
theorem idx : ∀ t : Fin cfg0.N, win0_0.index t = ![t.val / 64, t.val / 16 % 4, 0]
    ∧ win0_1.index t = ![t.val % 16, 0]
    ∧ win0_2.index t = ![t.val / 64, t.val / 16 % 4, t.val % 16] :=
  (by decide +kernel : ∀ t : Fin grid0.N, win0_0.index t = ![t.val / 64, t.val / 16 % 4, 0]
    ∧ win0_1.index t = ![t.val % 16, 0]
    ∧ win0_2.index t = ![t.val / 64, t.val / 16 % 4, t.val % 16])

/-- Every block of the result array is some grid point's. -/
theorem covers : (cfg0.win 2).Covers :=
  (cfg0.win 2).covers_of_index_surj rfl (by decide) fun β => by
    have h0 : (β (0 : Fin 3)).val < 4 := lt_of_lt_of_eq (β (0 : Fin 3)).isLt (by decide)
    have h1 : (β (1 : Fin 3)).val < 4 := lt_of_lt_of_eq (β (1 : Fin 3)).isLt (by decide)
    have h2 : (β (2 : Fin 3)).val < 16 := lt_of_lt_of_eq (β (2 : Fin 3)).isLt (by decide)
    refine ⟨⟨(β (0 : Fin 3)).val * 64 + (β (1 : Fin 3)).val * 16 + (β (2 : Fin 3)).val, ?_⟩, fun a => ?_⟩
    · show _ < 256; omega
    · show win0_2.index _ a = _
      rw [(idx _).2.2]
      match a with
      | ⟨0, _⟩ => show ((β (0 : Fin 3)).val * 64 + (β (1 : Fin 3)).val * 16 + (β (2 : Fin 3)).val) / 64 = (β (0 : Fin 3)).val; omega
      | ⟨1, _⟩ => show ((β (0 : Fin 3)).val * 64 + (β (1 : Fin 3)).val * 16 + (β (2 : Fin 3)).val) / 16 % 4 = (β (1 : Fin 3)).val; omega
      | ⟨2, _⟩ => show ((β (0 : Fin 3)).val * 64 + (β (1 : Fin 3)).val * 16 + (β (2 : Fin 3)).val) % 16 = (β (2 : Fin 3)).val; omega

set_option maxHeartbeats 4000000 in
/-- The kernel's result array is the reference's function of the arguments. -/
theorem final (c : Dev nD) : (dats m 0 c).arrAt 2 cfg0.N
    = proj (m ((c : Thread nD τ).loc main_arg0)) (m ((c : Thread nD τ).loc main_arg1)) := by
  refine (dats m 0 c).arrAt_eq_of_covers 2 _ covers fun t hf y => ?_
  blk_simp
  rw [after0_2]
  unfold outsAt0 out0_A_2
  frame_out
  pointwise [k0_pay1, proj]
  blk_point [iblk, V, idx t]
  unfold Pipeline.Window.fill
  rw [dif_pos (moved0_0 t _)]
  blk_ext [iblk, V, idx t]

/-- The two programs, from the same arguments, end with the same result. -/
theorem algebraic : Cert.algebraic_InMergeIdeal_InMergeRefIdeal := by
  intro m g m' g' _ hm
  refine ⟨fun c => proj (m ((c : Thread nD τ).loc main_arg0)) (m ((c : Thread nD τ).loc main_arg1)), ?_, ?_⟩
  · exact (θ_run defs _ _).mono (fun r h c => ⟨(h c).1.trans (final m c), (h c).2⟩) (Cert.InMergeIdeal.Value.run_blocks m g)
  · refine (θ_run Cert.InMergeRefIdeal.defs _ _).mono (fun r h c => ⟨(h c).1.trans ?_, (h c).2⟩)
      (Cert.InMergeRefIdeal.Value.run m' g')
    rw [(hm c).1, (hm c).2]
    rfl

/-- The reference runs to its end, its arguments unchanged; it has no counter. -/
theorem frame_reference : Cert.quiescent_InMergeRefIdeal := fun m ρ _ =>
  (θ_run Cert.InMergeRefIdeal.defs _ _).mono (fun r h => ⟨fun c => (h c).2, sem_eq_zero_of_no_sems (by decide) r.2⟩)
    (Cert.InMergeRefIdeal.Value.run m ρ)

end Cert.Hand.InMerge

end
-- ==== Proof.InGatesValue.lean ====
/-
  The input projection's call for the recurrence's gates: its result array, tile by tile, is the product of the tokens
  with the transposed weight, and the bias added.
-/
module

public import proofs.«01_k».proof.Defs
public import proofs.«01_k».proof.Proof.Gen.InGatesIdeal.Value
public import proofs.«01_k».proof.Proof.Gen.InGatesRefIdeal.Run
public import proofs.«01_k».proof.Proof.Scalars
public import Idealize.ShloMosaic.Lib.Pipeline.ValueKit
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Hand.InGates

open Cert.InGatesRefIdeal Cert.InGatesRefIdeal.Gen in
/-- The reference's result, as a function of the tokens laid out as rows and of the other arguments. -/
def proj (u : FVec Ideal Cert.InGatesRefIdeal.S17408x4096 .bf16) (w : FVec Ideal Cert.InGatesRefIdeal.S128x4096 .bf16) (b : FVec Ideal Cert.InGatesRefIdeal.S1x4x8 .f32) :
    FVec Ideal Cert.InGatesRefIdeal.S17408x128 .f32 :=
  addf (Host.dotGeneral dot_S17408x4096_S4096x128_S17408x128_1_0_0_1_n_n none (extf .f32 u bitsLt_bf16_f32) (transpose S4096x128 [1, 0] (extf .f32 w bitsLt_bf16_f32) transposes_S128x4096_S4096x128_1_0)) (broadcastInDim S17408x128 ![0, 1] bcast_S1x128_S17408x128_0_1 (broadcastInDim S1x128 ![1] bcast_S128_S1x128_1 (pad S128 ![0] ![96] ![0] (shapeCast _ (shapeCast _ b shapeCasts_S1x4x8_S4x8) shapeCasts_S4x8_S32) (sitofp .f32 (constantI S_ 32 0#32)) pads_S32_S128_0960 h_S_)))

open Cert.InGatesIdeal Cert.InGatesIdeal.Gen

variable (m : (ℓ : Loc nD τ sig) → Buf (Elt Ideal) ℓ)

/-- Where the windows stand at a grid point. -/
theorem idx : ∀ t : Fin cfg0.N, win0_0.index t = ![t.val, 0]
    ∧ win0_1.index t = ![0, 0]
    ∧ win0_2.index t = ![0, 0]
    ∧ win0_3.index t = ![t.val, 0] :=
  (by decide +kernel : ∀ t : Fin grid0.N, win0_0.index t = ![t.val, 0]
    ∧ win0_1.index t = ![0, 0]
    ∧ win0_2.index t = ![0, 0]
    ∧ win0_3.index t = ![t.val, 0])

/-- Every block of the result array is some grid point's. -/
theorem covers : (cfg0.win 3).Covers :=
  (cfg0.win 3).covers_of_index_surj rfl (by decide) fun β => by
    have h0 : (β (0 : Fin 2)).val < 17 := lt_of_lt_of_eq (β (0 : Fin 2)).isLt (by decide)
    have h1 : (β (1 : Fin 2)).val < 1 := lt_of_lt_of_eq (β (1 : Fin 2)).isLt (by decide)
    refine ⟨⟨(β (0 : Fin 2)).val, ?_⟩, fun a => ?_⟩
    · show _ < 17; omega
    · show win0_3.index _ a = _
      rw [(idx _).2.2.2]
      match a with
      | ⟨0, _⟩ => show ((β (0 : Fin 2)).val) = (β (0 : Fin 2)).val; omega
      | ⟨1, _⟩ => show 0 = (β (1 : Fin 2)).val; omega

/-- The call reads the tokens laid out as rows. -/
theorem staged (c : Dev nD) : V m c main_v3 = shapeCast (α := Ideal .bf16) S17408x4096 (m ((c : Thread nD τ).loc main_arg0)) shapeCasts_S4x4352x4096_S17408x4096 := by
  unfold V
  simp only [hostOps0, hostOps0_1, hostOps0_2, List.flatten_cons, List.flatten_nil, List.append_nil, List.cons_append, List.nil_append]
  after_results
  rfl

/-- The bias, padded with zeros to the width of the call's tile. -/
def bias (b : FVec Ideal S1x4x8 .f32) (n : Nat) : Ideal .f32 :=
  if h : n < 32 then b (ix3 (0 : Fin 1) (⟨n / 8, by omega⟩ : Fin 4) (⟨n % 8, by omega⟩ : Fin 8)) else FloatOps.sitofp (F := Ideal) .f32 0#32

/-- The call reads the padded bias as one row. -/
theorem staged_bias (c : Dev nD) (i : S1x128.Idx) :
    V m c main_v4 i = bias (m ((c : Thread nD τ).loc main_arg2)) (i 1).val := by
  unfold V
  simp only [hostOps0, hostOps0_1, hostOps0_2, List.flatten_cons, List.flatten_nil, List.append_nil, List.cons_append, List.nil_append]
  after_results
  pointwise
  change pad (s := S32) S128 ![0] ![96] ![0]
    (fun i => m ((c : Thread nD τ).loc main_arg2) (ix3 (0 : Fin 1) (⟨(i 0).val / 8, by have := (i 0).isLt; dsimp at this; omega⟩ : Fin 4) (⟨(i 0).val % 8, by omega⟩ : Fin 8)))
    (sitofp (F := Ideal) .f32 (constantI S_ 32 0#32)) pads_S32_S128_0960 h_S_ (ix1 (i 1)) = _
  pointwise [bias]

set_option maxHeartbeats 400000 in
/-- The kernel's result array is the reference's function of the arguments. -/
theorem final (c : Dev nD) : (dats m 0 c).arrAt 3 cfg0.N
    = proj (shapeCast (α := Ideal .bf16) S17408x4096 (m ((c : Thread nD τ).loc main_arg0)) shapeCasts_S4x4352x4096_S17408x4096) (m ((c : Thread nD τ).loc main_arg1)) (m ((c : Thread nD τ).loc main_arg2)) := by
  refine (dats m 0 c).arrAt_eq_of_covers 3 _ covers fun t hf y => ?_
  rw [← staged]
  blk_simp
  rw [after0_3]
  frame_out
  pointwise [k0_pay1, proj]
  refine congrArg₂ (fun a b : EReal => a + b) (Finset.sum_congr rfl fun x _ => congrArg₂ (fun a b : EReal => a * b) ?_ ?_) ?_
  · blk_ext [iblk, idx t]
  · blk_ext [iblk, V, idx t]
  · show V m c main_v4 _ = bias (m ((c : Thread nD τ).loc main_arg2)) (((View.whole main_v5).slice (win0_3.rect t)).emb y 1).val
    refine (staged_bias m c _).trans (congrArg (bias _) ?_)
    blk_simp [idx t]

/-- The two programs, from the same arguments, end with the same result. -/
theorem algebraic : Cert.algebraic_InGatesIdeal_InGatesRefIdeal := by
  intro m g m' g' _ hm
  refine ⟨fun c => proj (shapeCast (α := Ideal .bf16) S17408x4096 (m ((c : Thread nD τ).loc main_arg0)) shapeCasts_S4x4352x4096_S17408x4096) (m ((c : Thread nD τ).loc main_arg1)) (m ((c : Thread nD τ).loc main_arg2)), ?_, ?_⟩
  · exact (θ_run defs _ _).mono (fun r h c => ⟨(h c).1.trans (final m c), (h c).2⟩) (Cert.InGatesIdeal.Value.run_blocks m g)
  · refine (θ_run Cert.InGatesRefIdeal.defs _ _).mono (fun r h c => ⟨(h c).1.trans ?_, (h c).2⟩)
      (Cert.InGatesRefIdeal.Value.run m' g')
    rw [(hm c).1, (hm c).2.1, (hm c).2.2]
    rfl

/-- The reference runs to its end, its arguments unchanged; it has no counter. -/
theorem frame_reference : Cert.quiescent_InGatesRefIdeal := fun m ρ _ =>
  (θ_run Cert.InGatesRefIdeal.defs _ _).mono (fun r h => ⟨fun c => (h c).2, sem_eq_zero_of_no_sems (by decide) r.2⟩)
    (Cert.InGatesRefIdeal.Value.run m ρ)

end Cert.Hand.InGates

end
-- ==== Proof.MergeValue.lean ====
/-
  The merge of the two branches: its result array, tile by tile, is the gated sum of the two branches' products.
-/
module

public import proofs.«01_k».proof.Defs
public import proofs.«01_k».proof.Proof.Gen.MergeIdeal.Value
public import proofs.«01_k».proof.Proof.Gen.MergeRefIdeal.Run
public import proofs.«01_k».proof.Proof.Scalars
public import Idealize.ShloMosaic.Lib.Pipeline.ValueKit
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Hand.Merge

open Cert.MergeRefIdeal Cert.MergeRefIdeal.Gen in
/-- The reference's result, as a function of its arguments. -/
def merged (ya : FVec Ideal Cert.MergeRefIdeal.S4x4096x2048 .bf16) (yb : FVec Ideal Cert.MergeRefIdeal.S4x4096x2048 .bf16) (wa : FVec Ideal Cert.MergeRefIdeal.S1x2048x4096 .f32) (wb : FVec Ideal Cert.MergeRefIdeal.S1x2048x4096 .f32) (p : FVec Ideal Cert.MergeRefIdeal.S4x4096x8192 .f32) :
    FVec Ideal Cert.MergeRefIdeal.S4x4096x4096 .bf16 :=
  truncf .bf16 (addf (mulf (Host.divf (broadcastInDim S4x4096x4096 ![] bcast_S_S4x4096x4096 (constant S_ .f32 0x3F800000#32)) (addf (broadcastInDim S4x4096x4096 ![] bcast_S_S4x4096x4096 (constant S_ .f32 0x3F800000#32)) (Host.exp (Host.negf (extractStridedSlice S4x4096x4096 ![0, 0, 0] p slices_S4x4096x8192_S4x4096x4096_0_0_0))))) (Host.dotGeneral dot_S4x4096x2048_S2048x4096_S4x4096x4096_2_0_01_1_n_n none (extf .f32 ya bitsLt_bf16_f32) (shapeCast _ wa shapeCasts_S1x2048x4096_S2048x4096))) (mulf (Host.divf (broadcastInDim S4x4096x4096 ![] bcast_S_S4x4096x4096 (constant S_ .f32 0x3F800000#32)) (addf (broadcastInDim S4x4096x4096 ![] bcast_S_S4x4096x4096 (constant S_ .f32 0x3F800000#32)) (Host.exp (Host.negf (extractStridedSlice S4x4096x4096 ![0, 0, 4096] p slices_S4x4096x8192_S4x4096x4096_0_0_4096))))) (Host.dotGeneral dot_S4x4096x2048_S2048x4096_S4x4096x4096_2_0_01_1_n_n none (extf .f32 yb bitsLt_bf16_f32) (shapeCast _ wb shapeCasts_S1x2048x4096_S2048x4096)))) bitsLt_bf16_f32

open Cert.MergeIdeal Cert.MergeIdeal.Gen

variable (m : (ℓ : Loc nD τ sig) → Buf (Elt Ideal) ℓ)

/-- Where the windows stand at a grid point. -/
theorem idx : ∀ t : Fin cfg0.N, win0_0.index t = ![t.val / 32, t.val / 8 % 4, 0]
    ∧ win0_1.index t = ![t.val / 32, t.val / 8 % 4, 0]
    ∧ win0_2.index t = ![0, t.val % 8]
    ∧ win0_3.index t = ![0, t.val % 8]
    ∧ win0_4.index t = ![t.val / 32, t.val / 8 % 4, t.val % 8]
    ∧ win0_5.index t = ![t.val / 32, t.val / 8 % 4, 8 + t.val % 8]
    ∧ win0_6.index t = ![t.val / 32, t.val / 8 % 4, t.val % 8] :=
  (by decide +kernel : ∀ t : Fin grid0.N, win0_0.index t = ![t.val / 32, t.val / 8 % 4, 0]
    ∧ win0_1.index t = ![t.val / 32, t.val / 8 % 4, 0]
    ∧ win0_2.index t = ![0, t.val % 8]
    ∧ win0_3.index t = ![0, t.val % 8]
    ∧ win0_4.index t = ![t.val / 32, t.val / 8 % 4, t.val % 8]
    ∧ win0_5.index t = ![t.val / 32, t.val / 8 % 4, 8 + t.val % 8]
    ∧ win0_6.index t = ![t.val / 32, t.val / 8 % 4, t.val % 8])

/-- Every block of the result array is some grid point's. -/
theorem covers : (cfg0.win 6).Covers :=
  (cfg0.win 6).covers_of_index_surj rfl (by decide) fun β => by
    have h0 : (β (0 : Fin 3)).val < 4 := lt_of_lt_of_eq (β (0 : Fin 3)).isLt (by decide)
    have h1 : (β (1 : Fin 3)).val < 4 := lt_of_lt_of_eq (β (1 : Fin 3)).isLt (by decide)
    have h2 : (β (2 : Fin 3)).val < 8 := lt_of_lt_of_eq (β (2 : Fin 3)).isLt (by decide)
    refine ⟨⟨(β (0 : Fin 3)).val * 32 + (β (1 : Fin 3)).val * 8 + (β (2 : Fin 3)).val, ?_⟩, fun a => ?_⟩
    · show _ < 128; omega
    · show win0_6.index _ a = _
      rw [(idx _).2.2.2.2.2.2]
      match a with
      | ⟨0, _⟩ => show ((β (0 : Fin 3)).val * 32 + (β (1 : Fin 3)).val * 8 + (β (2 : Fin 3)).val) / 32 = (β (0 : Fin 3)).val; omega
      | ⟨1, _⟩ => show ((β (0 : Fin 3)).val * 32 + (β (1 : Fin 3)).val * 8 + (β (2 : Fin 3)).val) / 8 % 4 = (β (1 : Fin 3)).val; omega
      | ⟨2, _⟩ => show ((β (0 : Fin 3)).val * 32 + (β (1 : Fin 3)).val * 8 + (β (2 : Fin 3)).val) % 8 = (β (2 : Fin 3)).val; omega

set_option maxHeartbeats 4000000 in
/-- The kernel's result array is the reference's function of the arguments. -/
theorem final (c : Dev nD) : (dats m 0 c).arrAt 6 cfg0.N
    = merged (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ covers fun t hf y => ?_
  blk_simp
  rw [after0_6]
  frame_out
  pointwise [k0_pay1, merged]
  blk_point [iblk, V, idx t]
  all_goals
    refine congrArg Ideal.exp ((Cert.Hand.zero_sub_eq _).trans (congrArg (fun a : EReal => -a) ?_))
    blk_ext [V, idx t]

/-- The two programs, from the same arguments, end with the same result. -/
theorem algebraic : Cert.algebraic_MergeIdeal_MergeRefIdeal := by
  intro m g m' g' _ hm
  refine ⟨fun c => merged (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · exact (θ_run defs _ _).mono (fun r h c => ⟨(h c).1.trans (final m c), (h c).2⟩) (Cert.MergeIdeal.Value.run_blocks m g)
  · refine (θ_run Cert.MergeRefIdeal.defs _ _).mono (fun r h c => ⟨(h c).1.trans ?_, (h c).2⟩)
      (Cert.MergeRefIdeal.Value.run m' g')
    rw [(hm c).1, (hm c).2.1, (hm c).2.2.1, (hm c).2.2.2.1, (hm c).2.2.2.2]
    rfl

/-- The reference runs to its end, its arguments unchanged; it has no counter. -/
theorem frame_reference : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run m ρ)

end Cert.Hand.Merge

end
-- ==== Proof.OutProjValue.lean ====
/-
  The output projection: its result array, tile by tile, is the product of the merged tokens with the weight.
-/
module

public import proofs.«01_k».proof.Defs
public import proofs.«01_k».proof.Proof.Gen.OutProjIdeal.Value
public import proofs.«01_k».proof.Proof.Gen.OutProjRefIdeal.Run
public import proofs.«01_k».proof.Proof.Scalars
public import Idealize.ShloMosaic.Lib.Pipeline.ValueKit
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Hand.OutProj

open Cert.OutProjRefIdeal Cert.OutProjRefIdeal.Gen in
/-- The reference's result, as a function of the tokens laid out as rows and of the other arguments. -/
def proj (x : FVec Ideal Cert.OutProjRefIdeal.S16384x4096 .bf16) (w : FVec Ideal Cert.OutProjRefIdeal.S1x4096x4096 .f32) :
    FVec Ideal Cert.OutProjRefIdeal.S16384x4096 .bf16 :=
  truncf .bf16 (Host.dotGeneral dot_S16384x4096_S4096x4096_S16384x4096_1_0_0_1_n_n none (extf .f32 x bitsLt_bf16_f32) (shapeCast _ w shapeCasts_S1x4096x4096_S4096x4096)) bitsLt_bf16_f32

open Cert.OutProjIdeal Cert.OutProjIdeal.Gen

variable (m : (ℓ : Loc nD τ sig) → Buf (Elt Ideal) ℓ)

/-- Where the windows stand at a grid point. -/
theorem idx : ∀ t : Fin cfg0.N, win0_0.index t = ![t.val / 8, 0]
    ∧ win0_1.index t = ![0, t.val % 8]
    ∧ win0_2.index t = ![t.val / 8, t.val % 8] :=
  (by decide +kernel : ∀ t : Fin grid0.N, win0_0.index t = ![t.val / 8, 0]
    ∧ win0_1.index t = ![0, t.val % 8]
    ∧ win0_2.index t = ![t.val / 8, t.val % 8])

/-- Every block of the result array is some grid point's. -/
theorem covers : (cfg0.win 2).Covers :=
  (cfg0.win 2).covers_of_index_surj rfl (by decide) fun β => by
    have h0 : (β (0 : Fin 2)).val < 16 := lt_of_lt_of_eq (β (0 : Fin 2)).isLt (by decide)
    have h1 : (β (1 : Fin 2)).val < 8 := lt_of_lt_of_eq (β (1 : Fin 2)).isLt (by decide)
    refine ⟨⟨(β (0 : Fin 2)).val * 8 + (β (1 : Fin 2)).val, ?_⟩, fun a => ?_⟩
    · show _ < 128; omega
    · show win0_2.index _ a = _
      rw [(idx _).2.2]
      match a with
      | ⟨0, _⟩ => show ((β (0 : Fin 2)).val * 8 + (β (1 : Fin 2)).val) / 8 = (β (0 : Fin 2)).val; omega
      | ⟨1, _⟩ => show ((β (0 : Fin 2)).val * 8 + (β (1 : Fin 2)).val) % 8 = (β (1 : Fin 2)).val; omega

/-- The call reads the tokens laid out as rows. -/
theorem staged (c : Dev nD) : V m c main_v0 = shapeCast (α := Ideal .bf16) S16384x4096 (m ((c : Thread nD τ).loc main_arg0)) shapeCasts_S4x4096x4096_S16384x4096 := by
  unfold V
  after_results
  rfl

/-- The call reads the weight's one layer. -/
theorem staged_weight (c : Dev nD) (i : S4096x4096.Idx) :
    V m c main_v2 i = m ((c : Thread nD τ).loc main_arg1) (ix3 (0 : Fin 1) (i 0) (i 1)) := by
  unfold V
  after_results
  pointwise

set_option maxHeartbeats 400000 in
/-- The kernel's result array is the reference's function of the arguments. -/
theorem final (c : Dev nD) : (dats m 0 c).arrAt 2 cfg0.N
    = proj (shapeCast (α := Ideal .bf16) S16384x4096 (m ((c : Thread nD τ).loc main_arg0)) shapeCasts_S4x4096x4096_S16384x4096) (m ((c : Thread nD τ).loc main_arg1)) := by
  refine (dats m 0 c).arrAt_eq_of_covers 2 _ covers fun t hf y => ?_
  rw [← staged]
  blk_simp
  rw [after0_2]
  frame_out
  pointwise [k0_pay1, proj]
  refine (Finset.sum_congr rfl fun x _ => congrArg₂ (fun a b : EReal => a * b) ?_ ?_ : (_ : EReal) = _)
  · blk_ext [iblk, idx t]
  · refine (staged_weight m c _).trans ?_
    blk_ext [idx t]

/-- The two programs, from the same arguments, end with the same result. -/
theorem algebraic : Cert.algebraic_OutProjIdeal_OutProjRefIdeal := by
  intro m g m' g' _ hm
  refine ⟨fun c => proj (shapeCast (α := Ideal .bf16) S16384x4096 (m ((c : Thread nD τ).loc main_arg0)) shapeCasts_S4x4096x4096_S16384x4096) (m ((c : Thread nD τ).loc main_arg1)), ?_, ?_⟩
  · exact (θ_run defs _ _).mono (fun r h c => ⟨(h c).1.trans (final m c), (h c).2⟩) (Cert.OutProjIdeal.Value.run_blocks m g)
  · refine (θ_run Cert.OutProjRefIdeal.defs _ _).mono (fun r h c => ⟨(h c).1.trans ?_, (h c).2⟩)
      (Cert.OutProjRefIdeal.Value.run m' g')
    rw [(hm c).1, (hm c).2]
    rfl

/-- The reference runs to its end, its arguments unchanged; it has no counter. -/
theorem frame_reference : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run m ρ)

end Cert.Hand.OutProj

end
-- ==== Proof.FfnUpValue.lean ====
/-
  The experts' gated up projection: its result array, tile by tile, is the activated product times the plain one.
-/
module

public import proofs.«01_k».proof.Defs
public import proofs.«01_k».proof.Proof.Gen.FfnUpIdeal.Value
public import proofs.«01_k».proof.Proof.Gen.FfnUpRefIdeal.Run
public import proofs.«01_k».proof.Proof.Scalars
public import Idealize.ShloMosaic.Lib.Pipeline.ValueKit
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Hand.FfnUp

open Cert.FfnUpRefIdeal Cert.FfnUpRefIdeal.Gen in
/-- The reference's result, as a function of its arguments. -/
def hidden (x : FVec Ideal Cert.FfnUpRefIdeal.S16x2048x4096 .bf16) (wg : FVec Ideal Cert.FfnUpRefIdeal.S1x16x4096x2048 .f32) (wu : FVec Ideal Cert.FfnUpRefIdeal.S1x16x4096x2048 .f32) :
    FVec Ideal Cert.FfnUpRefIdeal.S16x2048x2048 .bf16 :=
  truncf .bf16 (mulf (mulf (Host.dotGeneral dot_S16x2048x4096_S16x4096x2048_S16x2048x2048_2_1_1_2_0_0 none (extf .f32 x bitsLt_bf16_f32) (shapeCast _ wg shapeCasts_S1x16x4096x2048_S16x4096x2048)) (Host.divf (broadcastInDim S16x2048x2048 ![] bcast_S_S16x2048x2048 (constant S_ .f32 0x3F800000#32)) (addf (broadcastInDim S16x2048x2048 ![] bcast_S_S16x2048x2048 (constant S_ .f32 0x3F800000#32)) (Host.exp (Host.negf (Host.dotGeneral dot_S16x2048x4096_S16x4096x2048_S16x2048x2048_2_1_1_2_0_0 none (extf .f32 x bitsLt_bf16_f32) (shapeCast _ wg shapeCasts_S1x16x4096x2048_S16x4096x2048))))))) (Host.dotGeneral dot_S16x2048x4096_S16x4096x2048_S16x2048x2048_2_1_1_2_0_0 none (extf .f32 x bitsLt_bf16_f32) (shapeCast _ wu shapeCasts_S1x16x4096x2048_S16x4096x2048))) bitsLt_bf16_f32

open Cert.FfnUpIdeal Cert.FfnUpIdeal.Gen

variable (m : (ℓ : Loc nD τ sig) → Buf (Elt Ideal) ℓ)

/-- Where the windows stand at a grid point. -/
theorem idx : ∀ t : Fin cfg0.N, win0_0.index t = ![t.val / 16, t.val / 8 % 2, 0]
    ∧ win0_1.index t = ![t.val / 16, 0, t.val % 8]
    ∧ win0_2.index t = ![t.val / 16, 0, t.val % 8]
    ∧ win0_3.index t = ![t.val / 16, t.val / 8 % 2, t.val % 8] :=
  (by decide +kernel : ∀ t : Fin grid0.N, win0_0.index t = ![t.val / 16, t.val / 8 % 2, 0]
    ∧ win0_1.index t = ![t.val / 16, 0, t.val % 8]
    ∧ win0_2.index t = ![t.val / 16, 0, t.val % 8]
    ∧ win0_3.index t = ![t.val / 16, t.val / 8 % 2, t.val % 8])

/-- Every block of the result array is some grid point's. -/
theorem covers : (cfg0.win 3).Covers :=
  (cfg0.win 3).covers_of_index_surj rfl (by decide) fun β => by
    have h0 : (β (0 : Fin 3)).val < 16 := lt_of_lt_of_eq (β (0 : Fin 3)).isLt (by decide)
    have h1 : (β (1 : Fin 3)).val < 2 := lt_of_lt_of_eq (β (1 : Fin 3)).isLt (by decide)
    have h2 : (β (2 : Fin 3)).val < 8 := lt_of_lt_of_eq (β (2 : Fin 3)).isLt (by decide)
    refine ⟨⟨(β (0 : Fin 3)).val * 16 + (β (1 : Fin 3)).val * 8 + (β (2 : Fin 3)).val, ?_⟩, fun a => ?_⟩
    · show _ < 256; omega
    · show win0_3.index _ a = _
      rw [(idx _).2.2.2]
      match a with
      | ⟨0, _⟩ => show ((β (0 : Fin 3)).val * 16 + (β (1 : Fin 3)).val * 8 + (β (2 : Fin 3)).val) / 16 = (β (0 : Fin 3)).val; omega
      | ⟨1, _⟩ => show ((β (0 : Fin 3)).val * 16 + (β (1 : Fin 3)).val * 8 + (β (2 : Fin 3)).val) / 8 % 2 = (β (1 : Fin 3)).val; omega
      | ⟨2, _⟩ => show ((β (0 : Fin 3)).val * 16 + (β (1 : Fin 3)).val * 8 + (β (2 : Fin 3)).val) % 8 = (β (2 : Fin 3)).val; omega

set_option maxHeartbeats 4000000 in
/-- The kernel's result array is the reference's function of the arguments. -/
theorem final (c : Dev nD) : (dats m 0 c).arrAt 3 cfg0.N
    = hidden (m ((c : Thread nD τ).loc main_arg0)) (m ((c : Thread nD τ).loc main_arg1)) (m ((c : Thread nD τ).loc main_arg2)) := by
  refine (dats m 0 c).arrAt_eq_of_covers 3 _ covers fun t hf y => ?_
  blk_simp
  rw [after0_3]
  frame_out
  pointwise [k0_pay1, hidden]
  simp only [Cert.Hand.zero_sub_eq]
  rw [Cert.Hand.div_one_add_exp]
  blk_point [iblk, V, idx t]

/-- The two programs, from the same arguments, end with the same result. -/
theorem algebraic : Cert.algebraic_FfnUpIdeal_FfnUpRefIdeal := by
  intro m g m' g' _ hm
  refine ⟨fun c => hidden (m ((c : Thread nD τ).loc main_arg0)) (m ((c : Thread nD τ).loc main_arg1)) (m ((c : Thread nD τ).loc main_arg2)), ?_, ?_⟩
  · exact (θ_run defs _ _).mono (fun r h c => ⟨(h c).1.trans (final m c), (h c).2⟩) (Cert.FfnUpIdeal.Value.run_blocks m g)
  · refine (θ_run Cert.FfnUpRefIdeal.defs _ _).mono (fun r h c => ⟨(h c).1.trans ?_, (h c).2⟩)
      (Cert.FfnUpRefIdeal.Value.run m' g')
    rw [(hm c).1, (hm c).2.1, (hm c).2.2]
    rfl

/-- The reference runs to its end, its arguments unchanged; it has no counter. -/
theorem frame_reference : Cert.quiescent_FfnUpRefIdeal := fun m ρ _ =>
  (θ_run Cert.FfnUpRefIdeal.defs _ _).mono (fun r h => ⟨fun c => (h c).2, sem_eq_zero_of_no_sems (by decide) r.2⟩)
    (Cert.FfnUpRefIdeal.Value.run m ρ)

end Cert.Hand.FfnUp

end
-- ==== Proof.FfnDownValue.lean ====
/-
  The experts' down projection: its result array, tile by tile, is the batched product the reference takes over the
  whole arrays.
-/
module

public import proofs.«01_k».proof.Defs
public import proofs.«01_k».proof.Proof.Gen.FfnDownIdeal.Value
public import proofs.«01_k».proof.Proof.Gen.FfnDownRefIdeal.Run
public import proofs.«01_k».proof.Proof.Scalars
public import Idealize.ShloMosaic.Lib.Pipeline.ValueKit
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Hand.FfnDown

open Cert.FfnDownRefIdeal Cert.FfnDownRefIdeal.Gen in
/-- The reference's result, as a function of its arguments. -/
def proj (h : FVec Ideal Cert.FfnDownRefIdeal.S16x2048x2048 .bf16) (w : FVec Ideal Cert.FfnDownRefIdeal.S1x16x2048x4096 .f32) :
    FVec Ideal Cert.FfnDownRefIdeal.S16x2048x4096 .bf16 :=
  truncf .bf16 (Host.dotGeneral dot_S16x2048x2048_S16x2048x4096_S16x2048x4096_2_1_1_2_0_0 none (extf .f32 h bitsLt_bf16_f32) (shapeCast _ w shapeCasts_S1x16x2048x4096_S16x2048x4096)) bitsLt_bf16_f32

open Cert.FfnDownIdeal Cert.FfnDownIdeal.Gen

variable (m : (ℓ : Loc nD τ sig) → Buf (Elt Ideal) ℓ)

/-- Where the windows stand at a grid point. -/
theorem idx : ∀ t : Fin cfg0.N, win0_0.index t = ![t.val / 8, 0, 0]
    ∧ win0_1.index t = ![t.val / 8, 0, t.val % 8]
    ∧ win0_2.index t = ![t.val / 8, 0, t.val % 8] :=
  (by decide +kernel : ∀ t : Fin grid0.N, win0_0.index t = ![t.val / 8, 0, 0]
    ∧ win0_1.index t = ![t.val / 8, 0, t.val % 8]
    ∧ win0_2.index t = ![t.val / 8, 0, t.val % 8])

/-- Every block of the result array is some grid point's. -/
theorem covers : (cfg0.win 2).Covers :=
  (cfg0.win 2).covers_of_index_surj rfl (by decide) fun β => by
    have h0 : (β (0 : Fin 3)).val < 16 := lt_of_lt_of_eq (β (0 : Fin 3)).isLt (by decide)
    have h1 : (β (1 : Fin 3)).val < 1 := lt_of_lt_of_eq (β (1 : Fin 3)).isLt (by decide)
    have h2 : (β (2 : Fin 3)).val < 8 := lt_of_lt_of_eq (β (2 : Fin 3)).isLt (by decide)
    refine ⟨⟨(β (0 : Fin 3)).val * 8 + (β (2 : Fin 3)).val, ?_⟩, fun a => ?_⟩
    · show _ < 128; omega
    · show win0_2.index _ a = _
      rw [(idx _).2.2]
      match a with
      | ⟨0, _⟩ => show ((β (0 : Fin 3)).val * 8 + (β (2 : Fin 3)).val) / 8 = (β (0 : Fin 3)).val; omega
      | ⟨1, _⟩ => show 0 = (β (1 : Fin 3)).val; omega
      | ⟨2, _⟩ => show ((β (0 : Fin 3)).val * 8 + (β (2 : Fin 3)).val) % 8 = (β (2 : Fin 3)).val; omega

set_option maxHeartbeats 4000000 in
/-- The kernel's result array is the reference's function of the arguments. -/
theorem final (c : Dev nD) : (dats m 0 c).arrAt 2 cfg0.N
    = proj (m ((c : Thread nD τ).loc main_arg0)) (m ((c : Thread nD τ).loc main_arg1)) := by
  refine (dats m 0 c).arrAt_eq_of_covers 2 _ covers fun t hf y => ?_
  blk_simp
  rw [after0_2]
  frame_out
  pointwise [k0_pay1, proj]
  blk_point [iblk, V, idx t]

/-- The two programs, from the same arguments, end with the same result. -/
theorem algebraic : Cert.algebraic_FfnDownIdeal_FfnDownRefIdeal := by
  intro m g m' g' _ hm
  refine ⟨fun c => proj (m ((c : Thread nD τ).loc main_arg0)) (m ((c : Thread nD τ).loc main_arg1)), ?_, ?_⟩
  · exact (θ_run defs _ _).mono (fun r h c => ⟨(h c).1.trans (final m c), (h c).2⟩) (Cert.FfnDownIdeal.Value.run_blocks m g)
  · refine (θ_run Cert.FfnDownRefIdeal.defs _ _).mono (fun r h c => ⟨(h c).1.trans ?_, (h c).2⟩)
      (Cert.FfnDownRefIdeal.Value.run m' g')
    rw [(hm c).1, (hm c).2]
    rfl

/-- The reference runs to its end, its arguments unchanged; it has no counter. -/
theorem frame_reference : Cert.quiescent_FfnDownRefIdeal := fun m ρ _ =>
  (θ_run Cert.FfnDownRefIdeal.defs _ _).mono (fun r h => ⟨fun c => (h c).2, sem_eq_zero_of_no_sems (by decide) r.2⟩)
    (Cert.FfnDownRefIdeal.Value.run m ρ)

end Cert.Hand.FfnDown

end
-- ==== Proof.ScatterBody.lean ====
module

public import proofs.«01_k».proof.Proof.Gen.ScatterIdeal.Launch
public import proofs.«01_k».proof.Proof.Gen.ScatterIdeal.Skeleton
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp
public import Idealize.ShloMosaic.Lib.Pipeline.ValueKit

@[expose] public section

set_option maxRecDepth 16384

noncomputable section

namespace Cert.Hand.Scatter

open Cert.ScatterIdeal Cert.ScatterIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The table of prefix counts the body reads its two words from, whole. -/
abbrev tabM : Memref sig .tc .smem S8192 .i32 := Memref.whole main_arg0
abbrev htabM : tabM.IsWhole := Memref.isWhole_whole _

/-- The table's contents on core `c`, and half of the table held at them. -/
abbrev TabBuf (c : Dev nD) : Type := Buf (Elt F) (tabM.view.loc (c : Thread nD τ))
abbrev tabPt (c : Dev nD) (f : TabBuf (F := F) c) : sProp 𝕄 := tabM.view.loc (c : Thread nD τ) ↦{fullShare.right} f

/-- The word of the table at a one-word rectangle. -/
abbrev word (c : Dev nD) (f : TabBuf (F := F) c) (r : Rect S8192) (h : r.shape.numel = 1) : BitVec 32 :=
  tabM.view.readAt (Elt F) r.toLoadRect f (Shape.Idx.first (s := r.shape) (h.symm ▸ Nat.one_pos))

/-- The count of the expert's kept tokens before the tile, and up to its end. -/
abbrev lo (c : Dev nD) (i : grid0.Coords) (f : TabBuf (F := F) c) : BitVec 32 :=
  word c f (Rect.unit (s := S8192) (k0_off1 i) S1.size (k0_off1_inb i)) numel1_S1
abbrev hi (c : Dev nD) (i : grid0.Coords) (f : TabBuf (F := F) c) : BitVec 32 :=
  word c f (Rect.unit (s := S8192) (k0_off2 i) S1.size (k0_off2_inb i)) numel1_S1

/-- The two halves of an expert's block of rows, as the body loads them. -/
abbrev half0 (y : Vec F S1x1x512x4096 .bf16) : Vec F S1x1x256x4096 .bf16 :=
  View.ld y (Rect.unit (s := S1x1x512x4096) ![0, 0, 0, 0] S1x1x256x4096.size inb_S1x1x512x4096_S1x1x256x4096_0_0_0_0)
abbrev half1 (y : Vec F S1x1x512x4096 .bf16) : Vec F S1x1x256x4096 .bf16 :=
  View.ld y (Rect.unit (s := S1x1x512x4096) ![0, 0, 256, 0] S1x1x256x4096.size inb_S1x1x512x4096_S1x1x256x4096_0_0_256_0)

/-- The running total at a point: zeroed at the first expert, -/
def acc0 (i : grid0.Coords) (z : Vec F S1x512x4096 .f32) : Vec F S1x512x4096 .f32 :=
  if k0_cond1 i = 1#1 then k0_pay3 (F := F) else z
/-- the first half's rows added where the counts reach them, -/
def acc1 (a b : BitVec 32) (slot aff : Vec F S1x1x1x512 .f32) (y : Vec F S1x1x512x4096 .bf16) (z : Vec F S1x512x4096 .f32) :
    Vec F S1x512x4096 .f32 :=
  if k0_cond2 a b = 1#1 then k0_pay7 slot aff z (half0 y) else z
/-- the second half's rows added likewise, -/
def acc2 (a b : BitVec 32) (slot aff : Vec F S1x1x1x512 .f32) (y : Vec F S1x1x512x4096 .bf16) (z : Vec F S1x512x4096 .f32) :
    Vec F S1x512x4096 .f32 :=
  if k0_cond3 a b = 1#1 then k0_pay1 (k0_pay4 slot) (k0_pay5 aff) (k0_pay6 (F := F)) z (half1 y) else z
/-- and at the last expert the normalized total gated onto the residual. -/
def fin (i : grid0.Coords) (h : Vec F S1x512x4096 .f32) (g : Vec F S1x4096 .f32) (gate : Vec F S1x1x4096 .f32)
    (z : Vec F S1x512x4096 .f32) : Vec F S1x512x4096 .f32 :=
  if k0_cond4 i = 1#1 then k0_pay2 h gate z g else z

/-- What a point leaves in the result's block, from what it found there. -/
def point (i : grid0.Coords) (a b : BitVec 32) (slot aff : Vec F S1x1x1x512 .f32) (y : Vec F S1x1x512x4096 .bf16)
    (h : Vec F S1x512x4096 .f32) (g : Vec F S1x4096 .f32) (gate : Vec F S1x1x4096 .f32) (z : Vec F S1x512x4096 .f32) :
    Vec F S1x512x4096 .f32 :=
  fin i h g gate (acc2 a b slot aff y (acc1 a b slot aff y (acc0 i z)))

/-- A store of the whole block, last, leaves its payload. -/
theorem read_last {sp : Space} {S : Shape} {e : EltTy} (v : View sig .tc sp S e) (f : v.ty.Contents (Elt F)) {off : Fin S.rank → Nat}
    (inb : ∀ a, off a + S.size a ≤ S.size a) (w : S.Idx → Elt F e) (L : List (View.Piece (Elt F) S e)) :
    v.read (Elt F) (v.writes (Elt F) f (⟨Rect.unit off (no_index S.size) inb, w⟩ :: L)) = w := View.read_writes_full v f inb w L

/-- A load of the whole block after such a store reads its payload. -/
theorem readCov_last {sp : Space} {S : Shape} {e : EltTy} (v : View sig .tc sp S e) {off off' : Fin S.rank → Nat}
    (inb : ∀ a, off a + S.size a ≤ S.size a) (inb' : ∀ a, off' a + S.size a ≤ S.size a) (w : S.Idx → Elt F e)
    (L : List (View.Piece (Elt F) S e)) :
    v.readCov (⟨Rect.unit off' (no_index S.size) inb', w⟩ :: L) (Rect.unit off (no_index S.size) inb).toLoadRect = w :=
  View.readCov_full v inb inb' w L

set_option maxHeartbeats 4000000 in
/-- The body at any point, whichever of its four conditionals are taken. -/
theorem body_run (c : Dev nD) (i : grid0.Coords) (arg4 : Memref sig .tc .vmem S1x1x1x512 .f32) (harg4 : arg4.IsWhole) (arg5 : Memref sig .tc .vmem S1x1x1x512 .f32) (harg5 : arg5.IsWhole) (arg6 : Memref sig .tc .vmem S1x1x512x4096 .bf16) (harg6 : arg6.IsWhole) (arg7 : Memref sig .tc .vmem S1x512x4096 .f32) (harg7 : arg7.IsWhole) (arg8 : Memref sig .tc .vmem S1x4096 .f32) (harg8 : arg8.IsWhole) (arg9 : Memref sig .tc .vmem S1x1x4096 .f32) (harg9 : arg9.IsWhole) (arg10 : Memref sig .tc .vmem S1x512x4096 .f32) (harg10 : arg10.IsWhole)
    (slot aff : Vec F S1x1x1x512 .f32) (y : Vec F S1x1x512x4096 .bf16) (h : Vec F S1x512x4096 .f32) (g : Vec F S1x4096 .f32) (gate : Vec F S1x1x4096 .f32) (f : TabBuf (F := F) c) (z : Vec F S1x512x4096 .f32)
    (E : Set ℕ) (K : PUnit → sProp 𝕄) :
    iprop(owns (c : Thread nD τ) arg4 fullShare slot ∗ owns (c : Thread nD τ) arg5 fullShare aff ∗ owns (c : Thread nD τ) arg6 fullShare y ∗ owns (c : Thread nD τ) arg7 fullShare h ∗ owns (c : Thread nD τ) arg8 fullShare g ∗ owns (c : Thread nD τ) arg9 fullShare gate ∗ owns (c : Thread nD τ) arg10 fullShare z ∗ tabPt c f
        ∗ (iprop(owns (c : Thread nD τ) arg4 fullShare slot ∗ owns (c : Thread nD τ) arg5 fullShare aff ∗ owns (c : Thread nD τ) arg6 fullShare y ∗ owns (c : Thread nD τ) arg7 fullShare h ∗ owns (c : Thread nD τ) arg8 fullShare g ∗ owns (c : Thread nD τ) arg9 fullShare gate ∗ owns (c : Thread nD τ) arg10 fullShare (point i (lo c i f) (hi c i f) slot aff y h g gate z) ∗ tabPt c f) -∗ K ⟨⟩))
      ⊢ wp frame (wpE (defs₀ (F := F)) Variants.none c none) E (cc0_ec_scatter i tabM htabM arg4 harg4 arg5 harg5 arg6 harg6 arg7 harg7 arg8 harg8 arg9 harg9 arg10 harg10) K := by
  simp only [cc0_ec_scatter_eq_skeleton]; unfold cc0_ec_scatter_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, HT, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
  by_cases h1 : k0_cond1 i = 1#1 <;> by_cases h2 : k0_cond2 (lo c i f) (hi c i f) = 1#1 <;>
  by_cases h3 : k0_cond3 (lo c i f) (hi c i f) = 1#1 <;> by_cases h4 : k0_cond4 i = 1#1 <;>
  · sl_exec (disch := first | sl_exact h1 | sl_exact h2 | sl_exact h3 | sl_exact h4)
    sl_step
    iapply Hk
    isplitl [H0]; · iexists _; isplitr; swap; (· iexact H0); ipureintro; exact harg4.read_unread _
    isplitl [H1]; · iexists _; isplitr; swap; (· iexact H1); ipureintro; exact harg5.read_unread _
    isplitl [H2]; · iexists _; isplitr; swap; (· iexact H2); ipureintro; exact harg6.read_unread _
    isplitl [H3]; · iexists _; isplitr; swap; (· iexact H3); ipureintro; exact harg7.read_unread _
    isplitl [H4]; · iexists _; isplitr; swap; (· iexact H4); ipureintro; exact harg8.read_unread _
    isplitl [H5]; · iexists _; isplitr; swap; (· iexact H5); ipureintro; exact harg9.read_unread _
    isplitl [H6]
    · iexists _; isplitr; swap; (· iexact H6)
      ipureintro
      sl_unfold_run_names
      unfold point fin acc2 acc1 acc0
      simp only [h1, h2, h3, h4, if_true, if_false]
      simp (disch := decide) only [View.readAt_eq_ld, read_last, readCov_last, View.ld_unit_lit', Memref.IsWhole.read_unread, View.writes_nil]
    iexact HT

end Cert.Hand.Scatter

end
-- ==== Proof.ScatterFrame.lean ====
module

public import proofs.«01_k».proof.Proof.ScatterBody
public import Idealize.ShloMosaic.Lib.Pipeline.TableIdle
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp
public import Idealize.ShloMosaic.Lib.Pipeline.ValueKit

@[expose] public section

set_option maxRecDepth 16384

noncomputable section

namespace Cert.Hand.Scatter

open Cert.ScatterIdeal Cert.ScatterIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when the region is entered: as launched, since nothing runs before it. -/
abbrev V (c : Dev nD) (b : Ref sig .tc) : Buf (Elt F) ((c : Thread nD τ).loc b) := m ((c : Thread nD τ).loc b)

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The table's contents when the region is entered; there is one device. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No block's place depends on the table, so its contents are admissible whatever they are. -/
abbrev adm : (pcfg0 (F := F)).Adm := ⟨tbl m, trivial⟩
abbrev cfgM : Pipeline.Cfg sig Λ₀ := cfg0 (adm m)

theorem ΦT_eq (c : Dev nD) : (Pipeline.ΦT pre0 (tbl m) c : sProp 𝕄) = iprop(tabPt c (tbl m 0)) := by
  unfold Pipeline.ΦT Pipeline.prefHeld
  rw [show (Finset.univ : Finset (Fin 1)) = {(0 : Fin 1)} from by decide, bigSep_singleton]
  rfl

/-- The result's block is written back at the last expert of each tile. -/
theorem flushed (a : (pcfg0 (F := F)).Adm) : ∀ t : Fin (cfg0 a).N, ((cfg0 a).win 6).flush t = true ↔ t.val % 16 = 15 :=
  (fun t => Pipeline.Window.flushOf_reads cc0_transform_6 reads0_6 hreads0_6 1 (by decide) (by decide) (Pipeline.Window.sep_of_coord cc0_transform_6 1 1 (fun _ => rfl) (by decide)) (P := 16) (m := 15) (by decide) rfl t : ∀ t : Fin grid0.N, Pipeline.Window.flushOf grid0 true cc0_transform_6 t = true ↔ t.val % 16 = 15)

/-- A window's block at a point, read off its array. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The first conditional is taken exactly at the first expert. -/
theorem cond1_iff : ∀ t : Fin grid0.N, k0_cond1 (grid0.coords t) = 1#1 ↔ t.val % 16 = 0 := fun t => by
  have ht : t.val < 512 := Nat.lt_of_lt_of_eq t.isLt N_0
  have e2 : (grid0.coords t 2).val = t.val / 1 % 16 := Pipeline.Grid.coords_val t 2 (by decide) rfl
  simp only [k0_cond1, e2]
  word_cmp

/-- What a grid point makes of what it finds in the result's block. -/
abbrev step (c : Dev nD) (t : Fin (cfgM m).N) (z : Vec F S1x512x4096 .f32) : Vec F S1x512x4096 .f32 :=
  point (grid0.coords t) (lo c (grid0.coords t) (tbl m 0)) (hi c (grid0.coords t) (tbl m 0)) (iblk m c 0 t) (iblk m c 1 t)
    (iblk m c 2 t) (iblk m c 3 t) (iblk m c 4 t) (iblk m c 5 t) z

/-- The result's block after each grid point. -/
def outs (c : Dev nD) : (n : ℕ) → n < (cfgM m).N → Vec F S1x512x4096 .f32
  | 0, h => step m c ⟨0, h⟩ (k0_pay3 (F := F))
  | n + 1, h => step m c ⟨n + 1, h⟩ (outs c n (Nat.lt_of_succ_lt h))

/-- At the first expert what was there before does not matter. -/
theorem step_first (c : Dev nD) (t : Fin (cfgM m).N) (h : t.val % 16 = 0) (z z' : Vec F S1x512x4096 .f32) : step m c t z = step m c t z' := by
  simp only [step, point, acc0, (cond1_iff t).mpr h, if_true]

theorem outs_first (c : Dev nD) (t : Fin (cfgM m).N) (h : t.val % 16 = 0) (z : Vec F S1x512x4096 .f32) : outs m c t.val t.isLt = step m c t z := by
  obtain ⟨n, hn⟩ := t
  cases n with
  | zero => exact step_first m c _ h _ _
  | succ n => exact step_first m c _ h _ _

theorem outs_next (c : Dev nD) (t : Fin (cfgM m).N) (h : ¬t.val % 16 = 0) :
    outs m c t.val t.isLt = step m c t (outs m c (t.val - 1) (Nat.lt_of_le_of_lt (Nat.sub_le _ _) t.isLt)) := by
  obtain ⟨n, hn⟩ := t
  cases n with
  | zero => exact absurd (Nat.zero_mod _) h
  | succ n => rfl

/-- The pipeline's contents: the arrays as launched, each input's block in place, the result's block as above. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outs m c t.val t.isLt
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem before_0 (c : Dev nD) (t : Fin (cfgM m).N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

theorem after_1 (c : Dev nD) (t : Fin (cfgM m).N) : (dats m 0 c).after 1 t = iblk m c 1 t := by dsimp only [dats]; try rfl
theorem before_1 (c : Dev nD) (t : Fin (cfgM m).N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

theorem after_2 (c : Dev nD) (t : Fin (cfgM m).N) : (dats m 0 c).after 2 t = iblk m c 2 t := by dsimp only [dats]; try rfl
theorem before_2 (c : Dev nD) (t : Fin (cfgM m).N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

theorem after_3 (c : Dev nD) (t : Fin (cfgM m).N) : (dats m 0 c).after 3 t = iblk m c 3 t := by dsimp only [dats]; try rfl
theorem before_3 (c : Dev nD) (t : Fin (cfgM m).N) (d) : (dats m 0 c).before 3 t d = iblk m c 3 t :=
  ((dats m 0 c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)

theorem after_4 (c : Dev nD) (t : Fin (cfgM m).N) : (dats m 0 c).after 4 t = iblk m c 4 t := by dsimp only [dats]; try rfl
theorem before_4 (c : Dev nD) (t : Fin (cfgM m).N) (d) : (dats m 0 c).before 4 t d = iblk m c 4 t :=
  ((dats m 0 c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)

theorem after_5 (c : Dev nD) (t : Fin (cfgM m).N) : (dats m 0 c).after 5 t = iblk m c 5 t := by dsimp only [dats]; try rfl
theorem before_5 (c : Dev nD) (t : Fin (cfgM m).N) (d) : (dats m 0 c).before 5 t d = iblk m c 5 t :=
  ((dats m 0 c).before_in_eq_fetched 5 rfl (fun _ => rfl) (fun _ _ _ => rfl)
      (fun t => by rw [after_5]; unfold Dat.blockOf iblk; rw [A_eq]; try rfl) t d).trans
    (by unfold Dat.fetched Dat.blockOf iblk; rw [A_eq]; try rfl)

theorem after_6 (c : Dev nD) (t : Fin (cfgM m).N) : (dats m 0 c).after 6 t = outs m c t.val t.isLt := by dsimp only [dats]; try rfl

/-- The word the body reads is the word the schedule reads. -/
theorem word_eq (c : Dev nD) (off : Fin 1 → Nat) (inb : ∀ a, off a + S1.size a ≤ S8192.size a) :
    word c (tbl m 0) (Rect.unit (s := S8192) off S1.size inb) numel1_S1 = (tbl m).atD 0 off := by
  have h : ∀ a : Fin (pre0.ref 0).ty.shape.rank, off a + 1 ≤ (pre0.ref 0).ty.shape.size a := fun a => by fin_cases a; exact inb 0
  refine Eq.trans ?_ (dif_pos h).symm
  refine congrArg (tbl m 0) (funext fun a => Fin.ext ?_)
  fin_cases a
  rfl

/-- A point where no conditional is taken leaves the block as it was, -/
theorem step_idle (c : Dev nD) (t : Fin (cfgM m).N) (h : (cfgM m).idle 6 ((cfgM m).grid.coords t) = true) (z : Vec F S1x512x4096 .f32) :
    step m c t z = z := by
  have h' : (!(k0_cond1 (grid0.coords t) == 1#1)
      && !(k0_cond2 ((tbl m).atD 0 (k0_off1 (grid0.coords t))) ((tbl m).atD 0 (k0_off2 (grid0.coords t))) == 1#1)
      && !(k0_cond3 ((tbl m).atD 0 (k0_off1 (grid0.coords t))) ((tbl m).atD 0 (k0_off2 (grid0.coords t))) == 1#1)
      && !(k0_cond4 (grid0.coords t) == 1#1)) = true := h
  simp only [Bool.and_eq_true, Bool.not_eq_true', beq_eq_false_iff_ne] at h'
  obtain ⟨⟨⟨h1, h2⟩, h3⟩, h4⟩ := h'
  unfold step lo hi
  rw [word_eq, word_eq]
  simp only [point, fin, acc2, acc1, acc0, if_neg h1, if_neg h2, if_neg h3, if_neg h4]

/-- and is not the first expert. -/
theorem idle_later (t : Fin (cfgM m).N) (h : (cfgM m).idle 6 ((cfgM m).grid.coords t) = true) : ¬t.val % 16 = 0 := fun h0 => by
  have h' : (!(k0_cond1 (grid0.coords t) == 1#1)
      && !(k0_cond2 ((tbl m).atD 0 (k0_off1 (grid0.coords t))) ((tbl m).atD 0 (k0_off2 (grid0.coords t))) == 1#1)
      && !(k0_cond3 ((tbl m).atD 0 (k0_off1 (grid0.coords t))) ((tbl m).atD 0 (k0_off2 (grid0.coords t))) == 1#1)
      && !(k0_cond4 (grid0.coords t) == 1#1)) = true := h
  simp only [Bool.and_eq_true, Bool.not_eq_true', beq_eq_false_iff_ne] at h'
  exact h'.1.1.1 ((cond1_iff t).mpr h0)

/-- Past the first expert the block holds something a point stored. -/
theorem not_fresh : ∀ n, n < (cfgM m).N → ¬n % 16 = 0 → (cfgM m).fresh 6 n = false
  | 0, _, h => absurd (Nat.zero_mod _) h
  | n + 1, hn, h => by
    rw [Pipeline.Cfg.fresh_succ _ _ n (Nat.lt_of_succ_lt hn)]
    have hf : ((cfgM m).win 6).flush ⟨n, Nat.lt_of_succ_lt hn⟩ = false :=
      Bool.eq_false_iff.mpr fun h' => by have := (flushed (adm m) _).mp h'; dsimp only at this; omega
    rw [hf, Bool.false_or]
    cases hi : (cfgM m).idle 6 ((cfgM m).grid.coords ⟨n, Nat.lt_of_succ_lt hn⟩)
    · rfl
    · rw [Bool.true_and]; exact not_fresh n (Nat.lt_of_succ_lt hn) (idle_later m ⟨n, Nat.lt_of_succ_lt hn⟩ hi)

/-- Past the first expert the result's block still holds what the point before left. -/
theorem before_6 (c : Dev nD) (t : Fin (cfgM m).N) (h : ¬t.val % 16 = 0) (d) :
    (dats m 0 c).before 6 t d = outs m c (t.val - 1) (Nat.lt_of_le_of_lt (Nat.sub_le _ _) t.isLt) := by
  rw [(dats m 0 c).before_out_traj 6 rfl (fun _ _ => rfl) (fun t _ hi _ => by
    rw [after_6, after_6, outs_next m c t (idle_later m t hi), step_idle m c t hi]) t.val t rfl d,
    if_neg (by rw [not_fresh m t.val t.isLt h]; exact Bool.false_ne_true), after_6]

abbrev ms0 (t : Fin (cfgM m).N) : Memref sig .tc .vmem S1x1x1x512 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x1x1x512 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x1x512x4096 .bf16 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x512x4096 .f32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1x4096 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S1x1x4096 .f32 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S1x512x4096 .f32 := spec0_6.stage ((cfgM m).slots t 6)
abbrev hs6 (t : Fin (cfgM m).N) : (ms6 m t).IsWhole := hstage0_6 (((cfgM m).slots t 6).cast nbuf0_6)

/-- The body at a grid point, on the current staging buffers. -/
abbrev bodyAt (t : Fin (cfgM m).N) : Prog (TpuEff nD τ sig (Elt F) Λ₀ .tc) PUnit :=
  cc0_ec_scatter (grid0.coords t) tabM htabM (ms0 m t) (hs0 m t) (ms1 m t) (hs1 m t) (ms2 m t) (hs2 m t) (ms3 m t) (hs3 m t) (ms4 m t) (hs4 m t) (ms5 m t) (hs5 m t) (ms6 m t) (hs6 m t)

set_option maxHeartbeats 1200000 in
/-- The body at a grid point takes the result's block from one of the above contents to the next. -/
theorem sound_body (c : Dev nD) (t : Fin (cfgM m).N) :
    iprop((dats m 0 c).Φ t.castSucc ∗ (dats m 0 c).owesAt () t.castSucc
      ∗ (∃ d, owns (c : Thread nD τ) (ms0 m t) fullShare ((dats m 0 c).before 0 t d)) ∗ (∃ d, owns (c : Thread nD τ) (ms1 m t) fullShare ((dats m 0 c).before 1 t d)) ∗ (∃ d, owns (c : Thread nD τ) (ms2 m t) fullShare ((dats m 0 c).before 2 t d)) ∗ (∃ d, owns (c : Thread nD τ) (ms3 m t) fullShare ((dats m 0 c).before 3 t d)) ∗ (∃ d, owns (c : Thread nD τ) (ms4 m t) fullShare ((dats m 0 c).before 4 t d)) ∗ (∃ d, owns (c : Thread nD τ) (ms5 m t) fullShare ((dats m 0 c).before 5 t d)) ∗ (∃ d, owns (c : Thread nD τ) (ms6 m t) fullShare ((dats m 0 c).before 6 t d)))
    ⊢ wp frame (wpE (defs₀ (F := F)) Variants.none c none) Set.univ (bodyAt m t) (fun _ =>
      iprop((dats m 0 c).Φ t.succ ∗ (dats m 0 c).owesAt () t.succ
      ∗ owns (c : Thread nD τ) (ms0 m t) fullShare ((dats m 0 c).after 0 t) ∗ owns (c : Thread nD τ) (ms1 m t) fullShare ((dats m 0 c).after 1 t) ∗ owns (c : Thread nD τ) (ms2 m t) fullShare ((dats m 0 c).after 2 t) ∗ owns (c : Thread nD τ) (ms3 m t) fullShare ((dats m 0 c).after 3 t) ∗ owns (c : Thread nD τ) (ms4 m t) fullShare ((dats m 0 c).after 4 t) ∗ owns (c : Thread nD τ) (ms5 m t) fullShare ((dats m 0 c).after 5 t) ∗ owns (c : Thread nD τ) (ms6 m t) fullShare ((dats m 0 c).after 6 t))) := by
  unfold bodyAt
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  rw [show (dats m 0 c).Φ t.castSucc = iprop(Pipeline.ΦA spec0 c ∗ Pipeline.ΦT pre0 (tbl m) c) from rfl, ΦT_eq]
  iintro ⟨⟨HΦ, HT⟩, Ho, ⟨%d0, H0⟩, ⟨%d1, H1⟩, ⟨%d2, H2⟩, ⟨%d3, H3⟩, ⟨%d4, H4⟩, ⟨%d5, H5⟩, ⟨%d6, H6⟩⟩
  rw [show outs m c t.val t.isLt = step m c t ((dats m 0 c).before 6 t d6) from by
    by_cases h : t.val % 16 = 0
    · exact outs_first m c t h _
    · rw [before_6 m c t h]; exact outs_next m c t h]
  iapply (body_run c (grid0.coords t) _ _ _ _ _ _ _ _ _ _ _ _ _ _ (iblk m c 0 t) (iblk m c 1 t) (iblk m c 2 t) (iblk m c 3 t) (iblk m c 4 t) (iblk m c 5 t) (tbl m 0) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HT]; · iexact HT
  iintro ⟨H0, H1, H2, H3, H4, H5, H6, HT⟩
  isplitl [HΦ HT]
  · isplitl [HΦ]
    · iexact HΦ
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin (cfgM m).N) :
    defs₀ (F := F) .tc (cfgM m).body ((cfgM m).bodyArgs t ((cfgM m).slots t)) = bodyAt m t := by
  unfold defs₀; rw [Defs.onTc_tc]

/-- The block is left as the schedule asks: at an idle point as found, elsewhere at its new contents. -/
theorem left_6 (c : Dev nD) (t : Fin (cfgM m).N) :
    owns (c : Thread nD τ) (ms6 m t) fullShare ((dats m 0 c).after 6 t) ⊢
      (match (cfgM m).idle 6 ((cfgM m).grid.coords t) with
        | true =>
          match ((cfgM m).win 6).flush t with
          | false => iprop(∃ d, owns (c : Thread nD τ) (ms6 m t) fullShare ((dats m 0 c).before 6 t d))
          | true => owns (c : Thread nD τ) (ms6 m t) fullShare ((dats m 0 c).after 6 t)
        | false => owns (c : Thread nD τ) (ms6 m t) fullShare ((dats m 0 c).after 6 t) : sProp 𝕄) := by
  cases hi : (cfgM m).idle 6 ((cfgM m).grid.coords t)
  · exact .rfl
  · cases hf : ((cfgM m).win 6).flush t
    · have e : (dats m 0 c).after 6 t = (dats m 0 c).before 6 t (k0_pay3 (F := F)) :=
        (after_6 m c t).trans ((outs_next m c t (idle_later m t hi)).trans ((step_idle m c t hi _).trans
          (before_6 m c t (idle_later m t hi) _).symm))
      rw [e]
      iintro H
      iexists _
      iexact H
    · exact .rfl

theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => sep_mono_r (sep_mono_r (sep_mono_r (sep_mono_r (sep_mono_r
    (sep_mono_r (sep_mono_r (sep_mono_r (left_6 m c t))))))))

set_option backward.isDefEq.respectTransparency.types false in
/-- Every run ends with the arrays at the pipeline's contents and every counter at zero. -/
theorem run_main : θ_run defs (onTc (τ := τ) (main (F := F))) (s₀ m ρ)
    (fun r => (Pipeline.FramePost (Pipeline.pin pcfgs fun _ => adm m) (dats m) 0 (V m)) r ∧ r.2.sem = fun _ => 0) :=
  Pipeline.θ_run_frameP (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- The final state: the result's array at its contents, every argument as launched, every counter zero. -/
theorem run : θ_run defs (onTc (τ := τ) (main (F := F))) ⟨m, fun _ => 0, ρ⟩ (fun r => (∀ c : Dev nD,
      r.2.mem ((c.tc : Thread nD τ).loc main_v0) = (dats m 0 c).arrAt 6 (Fin.last (cfgM m).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1 6,
      (h.1 c).2 main_arg0 (by decide : main_arg0 ∈ Pipeline.restRefs sig spec0),
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4)),
      ((h.1 c).1 5).trans (((dats m 0 c).arrAt_in 5 rfl _).trans (A_eq m c 5))⟩, h.2⟩) (run_main m ρ)

end Cert.Hand.Scatter

end
-- ==== Proof.ScatterValue.lean ====
/-
  The experts' rows added back to the tokens: block by block, the kernel's result is the reference's sum over experts
  and slots, normalized and gated onto the residual.
-/
module

public import proofs.«01_k».proof.Defs
public import proofs.«01_k».proof.Proof.ScatterFrame
public import proofs.«01_k».proof.Proof.Gen.ScatterRefIdeal.Run
public import proofs.«01_k».proof.Proof.Gen.Pre_slots_within_counts
public import proofs.«01_k».proof.Proof.Gen.Scatter
public import proofs.«01_k».proof.Proof.Scalars
public import Idealize.ShloMosaic.Lib.Pipeline.ValueKit
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Hand.Scatter

open Cert.ScatterRefIdeal Cert.ScatterRefIdeal.Gen in
/-- The reference's sum over experts and slots, before the norm. -/
def total (slot aff : FVec Ideal Cert.ScatterRefIdeal.S4x16x1x4096 .f32) (y : FVec Ideal Cert.ScatterRefIdeal.S16x4x512x4096 .bf16) :
    FVec Ideal Cert.ScatterRefIdeal.S4x4096x4096 .f32 :=
  Host.dotGeneral dot_S4x16x4096x512_S16x4x512x4096_S4x4096x4096_13_02_2_3_0_1 none (select (cmpf .oeq (broadcastInDim S4x16x4096x512 ![0, 1, 2, 3] bcast_S4x16x4096x1_S4x16x4096x512_0_1_2_3 (broadcastInDim S4x16x4096x1 ![0, 1, 2] bcast_S4x16x4096_S4x16x4096x1_0_1_2 (shapeCast _ slot shapeCasts_S4x16x1x4096_S4x16x4096))) (broadcastInDim S4x16x4096x512 ![0, 1, 2, 3] bcast_S1x1x1x512_S4x16x4096x512_0_1_2_3 (broadcastInDim S1x1x1x512 ![3] bcast_S512_S1x1x1x512_3 (sitofp .f32 (iotaInDim S512 32 0))))) (broadcastInDim S4x16x4096x512 ![0, 1, 2, 3] bcast_S4x16x4096x1_S4x16x4096x512_0_1_2_3 (broadcastInDim S4x16x4096x1 ![0, 1, 2] bcast_S4x16x4096_S4x16x4096x1_0_1_2 (shapeCast _ aff shapeCasts_S4x16x1x4096_S4x16x4096))) (broadcastInDim S4x16x4096x512 ![] bcast_S_S4x16x4096x512 (id (constant S_ .f32 0x00000000#32)))) (extf .f32 y bitsLt_bf16_f32)

open Cert.ScatterRefIdeal Cert.ScatterRefIdeal.Gen in
/-- The reference's result, as a function of its arguments. -/
def combined (slot aff : FVec Ideal Cert.ScatterRefIdeal.S4x16x1x4096 .f32) (y : FVec Ideal Cert.ScatterRefIdeal.S16x4x512x4096 .bf16)
    (h : FVec Ideal Cert.ScatterRefIdeal.S4x4096x4096 .f32) (g : FVec Ideal Cert.ScatterRefIdeal.S1x4096 .f32) (mod : FVec Ideal Cert.ScatterRefIdeal.S8x1x24576 .f32) :
    FVec Ideal Cert.ScatterRefIdeal.S4x4096x4096 .f32 :=
  addf h (mulf (broadcastInDim S4x4096x4096 ![0, 1, 2] bcast_S4x1x4096_S4x4096x4096_0_1_2 (broadcastInDim S4x1x4096 ![0, 2] bcast_S4x4096_S4x1x4096_0_2 (shapeCast _ (extractStridedSlice S4x1x4096 ![0, 5, 0] (shapeCast _ mod shapeCasts_S8x1x24576_S8x6x4096) slices_S8x6x4096_S4x1x4096_0_5_0) shapeCasts_S4x1x4096_S4x4096))) (mulf (mulf (total slot aff y) (broadcastInDim S4x4096x4096 ![0, 1, 2] bcast_S4x4096x1_S4x4096x4096_0_1_2 (Host.rsqrt (addf (Host.divf (broadcastInDim S4x4096x1 ![0, 1] bcast_S4x4096_S4x4096x1_0_1 (Host.reduceAdd (mulf (total slot aff y) (total slot aff y)) (constant S_ .f32 0x00000000#32) reducesTo_S4x4096x4096_S4x4096_d2 h_S_)) (broadcastInDim S4x4096x1 ![] bcast_S_S4x4096x1 (constant S_ .f32 0x45800000#32))) (broadcastInDim S4x4096x1 ![] bcast_S_S4x4096x1 (constant S_ .f32 0x358637BD#32)))))) (broadcastInDim S4x4096x4096 ![0, 1, 2] bcast_S1x1x4096_S4x4096x4096_0_1_2 (broadcastInDim S1x1x4096 ![2] bcast_S4096_S1x1x4096_2 (shapeCast _ g shapeCasts_S1x4096_S4096)))))

/-- A lane's number as a float. -/
abbrev lane (n : ℕ) : EReal := FloatOps.sitofp (F := Ideal) .f32 (BitVec.ofNat 32 n)

theorem lane_eq (n : ℕ) (h : n < 512) : lane n = ((n : ℝ) : EReal) := by
  have e : (BitVec.ofNat 32 n).toInt = (n : ℤ) := by
    rw [BitVec.toInt_eq_toNat_of_lt (by rw [BitVec.toNat_ofNat]; omega), BitVec.toNat_ofNat, Nat.mod_eq_of_lt (by omega)]
  show (((BitVec.ofNat 32 n).toInt : ℝ) : EReal) = _
  rw [e, Int.cast_natCast]

/-- The second half's lanes are the first's, 256 further. -/
theorem lane_add (n : ℕ) (h : n < 256) : lane n + Ideal.ofBits .f32 1132462080#32 = lane (256 + n) := by
  rw [lane_eq n (by omega), lane_eq (256 + n) (by omega), show Ideal.ofBits .f32 1132462080#32 = ((256 : ℝ) : EReal) from by
    simp [Ideal.ofBits, Ideal.ieee, -EReal.coe_mul]; norm_num]
  rw [← EReal.coe_add, Nat.cast_add, add_comm]
  norm_num

/-- A sum over an expert's 512 slots, as the four quarters the kernel adds. -/
theorem sum_quarters (T : Fin 512 → EReal) : ∑ s, T s
    = (∑ x : Fin 128, T ⟨x, by omega⟩ + ∑ x : Fin 128, T ⟨128 + x, by omega⟩)
      + (∑ x : Fin 128, T ⟨256 + x, by omega⟩ + ∑ x : Fin 128, T ⟨256 + (128 + x), by omega⟩) := by
  rw [show ∑ s, T s = ∑ s : Fin (256 + 256), T s from rfl, Fin.sum_univ_add]
  refine congrArg₂ (fun a b : EReal => a + b) ?_ ?_
  · exact Fin.sum_univ_add (a := 128) (b := 128) fun s => T (Fin.castAdd 256 s)
  · exact Fin.sum_univ_add (a := 128) (b := 128) fun s => T (Fin.natAdd 256 s)

/-- What slot `s` of an expert contributes to a token of slot `v` and affinity `a`. -/
abbrev term (v a : EReal) (row : Fin 512 → EReal) (s : Fin 512) : EReal := (if v = lane s then a else 0) * row s

/-- An expert's contribution to a token, at a column. -/
def contrib (slot aff : FVec Ideal Cert.ScatterRefIdeal.S4x16x1x4096 .f32) (y : FVec Ideal Cert.ScatterRefIdeal.S16x4x512x4096 .bf16)
    (b : Fin 4) (p d : Fin 4096) (e : Fin 16) : EReal :=
  ∑ s : Fin 512, term (slot (ix4 b e 0 p)) (aff (ix4 b e 0 p)) (fun s => y (ix4 e b s d)) s

set_option maxHeartbeats 1000000 in
/-- The reference's sum is over the experts' contributions. -/
theorem total_apply (slot aff : FVec Ideal Cert.ScatterRefIdeal.S4x16x1x4096 .f32) (y : FVec Ideal Cert.ScatterRefIdeal.S16x4x512x4096 .bf16)
    (b : Fin 4) (p d : Fin 4096) : total slot aff y (ix3 b p d) = ∑ e, contrib slot aff y b p d e := by
  pointwise [total]
  refine Finset.sum_congr rfl fun e _ => Finset.sum_congr rfl fun s _ => ?_
  rw [show (id (constant (F := Ideal) Cert.ScatterRefIdeal.S_ .f32 0#32) ix0 : EReal) = 0 from by
    exact Ideal.ofBits_zero_f32]

open Cert.ScatterIdeal Cert.ScatterIdeal.Gen

/-- The row of a half block is the block's. -/
theorem half0_apply (y : Vec Ideal S1x1x512x4096 .bf16) (k : Fin 256) (d : Fin 4096) :
    half0 y (ix4 0 0 k d) = y (ix4 0 0 ⟨k, by omega⟩ d) := by
  refine congrArg y (funext fun a => Fin.ext ?_)
  match a with
  | ⟨0, _⟩ => rfl
  | ⟨1, _⟩ => rfl
  | ⟨2, _⟩ => show 0 + 1 * k.val = k.val; omega
  | ⟨3, _⟩ => show 0 + 1 * d.val = d.val; omega
theorem half1_apply (y : Vec Ideal S1x1x512x4096 .bf16) (k : Fin 256) (d : Fin 4096) :
    half1 y (ix4 0 0 k d) = y (ix4 0 0 ⟨256 + k, by omega⟩ d) := by
  refine congrArg y (funext fun a => Fin.ext ?_)
  match a with
  | ⟨0, _⟩ => rfl
  | ⟨1, _⟩ => rfl
  | ⟨2, _⟩ => show 256 + 1 * k.val = 256 + k.val; omega
  | ⟨3, _⟩ => show 0 + 1 * d.val = d.val; omega

/-- The first half's rows, added. -/
theorem pay7_apply (slot aff : Vec Ideal S1x1x1x512 .f32) (z : Vec Ideal S1x512x4096 .f32) (y : Vec Ideal S1x1x512x4096 .bf16)
    (p : Fin 512) (d : Fin 4096) : k0_pay7 slot aff z (half0 y) (ix3 0 p d) = z (ix3 0 p d)
      + (∑ x : Fin 128, term (slot (ix4 0 0 0 p)) (aff (ix4 0 0 0 p)) (fun s => y (ix4 0 0 s d)) ⟨x, by omega⟩
        + ∑ x : Fin 128, term (slot (ix4 0 0 0 p)) (aff (ix4 0 0 0 p)) (fun s => y (ix4 0 0 s d)) ⟨128 + x, by omega⟩) := by
  pointwise [k0_pay7, k0_pay4, k0_pay5, k0_pay6]
  refine congrArg (z (ix3 0 p d) + ·) (congrArg₂ (fun a b : EReal => a + b) ?_ ?_) <;>
  · refine Finset.sum_congr rfl fun x _ => ?_
    rw [half0_apply]

/-- The second half's rows, added. -/
theorem pay1_apply (slot aff : Vec Ideal S1x1x1x512 .f32) (z : Vec Ideal S1x512x4096 .f32) (y : Vec Ideal S1x1x512x4096 .bf16)
    (p : Fin 512) (d : Fin 4096) : k0_pay1 (k0_pay4 slot) (k0_pay5 aff) (k0_pay6 (F := Ideal)) z (half1 y) (ix3 0 p d) = z (ix3 0 p d)
      + (∑ x : Fin 128, term (slot (ix4 0 0 0 p)) (aff (ix4 0 0 0 p)) (fun s => y (ix4 0 0 s d)) ⟨256 + x, by omega⟩
        + ∑ x : Fin 128, term (slot (ix4 0 0 0 p)) (aff (ix4 0 0 0 p)) (fun s => y (ix4 0 0 s d)) ⟨256 + (128 + x), by omega⟩) := by
  pointwise [k0_pay1, k0_pay4, k0_pay5, k0_pay6]
  refine congrArg (z (ix3 0 p d) + ·) (congrArg₂ (fun a b : EReal => a + b) ?_ ?_) <;>
  · refine Finset.sum_congr rfl fun x _ => ?_
    rw [half1_apply]
    refine congrArg (· * y (ix4 0 0 _ d)) ?_
    rw [← lane_add _ (by omega)]

/-- The first half is added where a token's slot lies in it, -/
theorem cond2_of (a b : BitVec 32) (h1 : a.toInt < 256) (h2 : 0 < b.toInt) : k0_cond2 a b = 1#1 := by
  have e : k0_cond2 a b = Scalar.cmpi .ne (Scalar.extui (Scalar.andi (IntOp.cmpi .slt a 256#32) (IntOp.cmpi .sgt b 0#32))) 0#32 := rfl
  rw [e, WordCmp.cmpi_slt_eq, WordCmp.cmpi_sgt_eq, decide_eq_true (show a.toInt < (256#32 : BitVec 32).toInt from h1),
    decide_eq_true (show (0#32 : BitVec 32).toInt < b.toInt from h2)]
  decide
/-- and the second likewise. -/
theorem cond3_of (a b : BitVec 32) (h1 : a.toInt < 512) (h2 : 256 < b.toInt) : k0_cond3 a b = 1#1 := by
  have e : k0_cond3 a b = Scalar.cmpi .ne (Scalar.extui (Scalar.andi (IntOp.cmpi .slt a 512#32) (IntOp.cmpi .sgt b 256#32))) 0#32 := rfl
  rw [e, WordCmp.cmpi_slt_eq, WordCmp.cmpi_sgt_eq, decide_eq_true (show a.toInt < (512#32 : BitVec 32).toInt from h1),
    decide_eq_true (show (256#32 : BitVec 32).toInt < b.toInt from h2)]
  decide

/-- The counts bound a token's slot. -/
abbrev Bounded (a b : BitVec 32) (v : EReal) : Prop := v < 0 ∨ ((a.toInt : ℝ) : EReal) ≤ v ∧ v < ((b.toInt : ℝ) : EReal)

theorem bounded_lane {a b : BitVec 32} {n : ℕ} (hn : n < 512) (h : Bounded a b (lane n)) : a.toInt ≤ n ∧ (n : ℤ) < b.toInt := by
  unfold Bounded at h
  rw [lane_eq n hn] at h
  rcases h with h | ⟨h1, h2⟩
  · exact absurd h (not_lt.mpr (EReal.coe_nonneg.mpr (Nat.cast_nonneg n)))
  · exact ⟨by exact_mod_cast EReal.coe_le_coe_iff.mp h1, by exact_mod_cast EReal.coe_lt_coe_iff.mp h2⟩

/-- A skipped half has nothing of a token whose slot the counts bound. -/
theorem skip0 {a b : BitVec 32} {v w : EReal} (h : Bounded a b v) (hc : ¬k0_cond2 a b = 1#1) (row : Fin 512 → EReal)
    (s : Fin 512) (hs : s.val < 256) : term v w row s = 0 := by
  unfold term
  rw [if_neg, zero_mul]
  rintro rfl
  have := bounded_lane s.isLt h
  exact hc (cond2_of a b (by omega) (by omega))
theorem skip1 {a b : BitVec 32} {v w : EReal} (h : Bounded a b v) (hc : ¬k0_cond3 a b = 1#1) (row : Fin 512 → EReal)
    (s : Fin 512) (hs : 256 ≤ s.val) : term v w row s = 0 := by
  unfold term
  rw [if_neg, zero_mul]
  rintro rfl
  have := bounded_lane s.isLt h
  exact hc (cond3_of a b (by omega) (by omega))

/-- A point adds its expert's whole contribution. -/
theorem acc_apply (a b : BitVec 32) (slot aff : Vec Ideal S1x1x1x512 .f32) (y : Vec Ideal S1x1x512x4096 .bf16) (z : Vec Ideal S1x512x4096 .f32)
    (p : Fin 512) (d : Fin 4096) (h : Bounded a b (slot (ix4 0 0 0 p))) :
    acc2 a b slot aff y (acc1 a b slot aff y z) (ix3 0 p d)
      = z (ix3 0 p d) + ∑ s : Fin 512, term (slot (ix4 0 0 0 p)) (aff (ix4 0 0 0 p)) (fun s => y (ix4 0 0 s d)) s := by
  rw [sum_quarters]
  have e1 : acc1 a b slot aff y z (ix3 0 p d) = z (ix3 0 p d)
      + (∑ x : Fin 128, term (slot (ix4 0 0 0 p)) (aff (ix4 0 0 0 p)) (fun s => y (ix4 0 0 s d)) ⟨x, by omega⟩
        + ∑ x : Fin 128, term (slot (ix4 0 0 0 p)) (aff (ix4 0 0 0 p)) (fun s => y (ix4 0 0 s d)) ⟨128 + x, by omega⟩) := by
    unfold acc1
    split
    · exact pay7_apply slot aff z y p d
    · rename_i hc
      rw [Finset.sum_eq_zero fun (x : Fin 128) _ => skip0 h hc _ _ (show x.val < 256 by omega),
        Finset.sum_eq_zero fun (x : Fin 128) _ => skip0 h hc _ _ (show 128 + x.val < 256 by omega), add_zero, add_zero]
  rw [← add_assoc, ← e1]
  unfold acc2
  split
  · exact pay1_apply slot aff _ y p d
  · rename_i hc
    rw [Finset.sum_eq_zero fun (x : Fin 128) _ => skip1 h hc _ _ (show 256 ≤ 256 + x.val by omega),
      Finset.sum_eq_zero fun (x : Fin 128) _ => skip1 h hc _ _ (show 256 ≤ 256 + (128 + x.val) by omega), add_zero, add_zero]

variable (m : (ℓ : Loc nD τ sig) → Buf (Elt Ideal) ℓ)

/-- Where the windows and the two words of the table stand at a grid point. -/
theorem idx : ∀ t : Fin grid0.N, cc0_transform_0 (grid0.coords t) = ![t.val / 128, t.val % 16, 0, t.val / 16 % 8]
    ∧ cc0_transform_1 (grid0.coords t) = ![t.val / 128, t.val % 16, 0, t.val / 16 % 8]
    ∧ cc0_transform_2 (grid0.coords t) = ![t.val % 16, t.val / 128, 0, 0]
    ∧ cc0_transform_3 (grid0.coords t) = ![t.val / 128, t.val / 16 % 8, 0]
    ∧ cc0_transform_4 (grid0.coords t) = ![0, 0]
    ∧ cc0_transform_5 (grid0.coords t) = ![t.val / 128, 0, 5]
    ∧ cc0_transform_6 (grid0.coords t) = ![t.val / 128, t.val / 16 % 8, 0]
    ∧ k0_off1 (grid0.coords t) = ![(t.val / 128) * 2048 + (t.val % 16) * 128 + 4 * (t.val / 16 % 8)]
    ∧ k0_off2 (grid0.coords t) = ![(t.val / 128) * 2048 + (t.val % 16) * 128 + (4 + 4 * (t.val / 16 % 8))] := by
  decide +kernel

/-- The last conditional is taken exactly at the last expert. -/
theorem cond4_iff : ∀ t : Fin grid0.N, k0_cond4 (grid0.coords t) = 1#1 ↔ t.val % 16 = 15 := fun t => by
  have ht : t.val < 512 := Nat.lt_of_lt_of_eq t.isLt N_0
  have e2 : (grid0.coords t 2).val = t.val / 1 % 16 := Pipeline.Grid.coords_val t 2 (by decide) rfl
  simp only [k0_cond4, e2]
  word_cmp

/-- A grid point's batch, expert and token. -/
abbrev bt (t : ℕ) (h : t < 512) : Fin 4 := ⟨t / 128, by omega⟩
abbrev ex (t : ℕ) : Fin 16 := ⟨t % 16, Nat.mod_lt _ (by omega)⟩
abbrev tok (t : ℕ) (p : Fin 512) : Fin 4096 := ⟨t / 16 % 8 * 512 + p, by omega⟩

theorem iblk_0 (c : Dev nD) (t : Fin (cfgM m).N) (ht : t.val < 512) (p : Fin 512) :
    iblk m c 0 t (ix4 0 0 0 p) = m ((c : Thread nD τ).loc main_arg1) (ix4 (bt t ht) (ex t) 0 (tok t p)) := by
  have e := congrFun (idx t).1
  blk_ext [iblk, V]
  · exact e 0
  · exact e 1
  · exact e 2
  · exact congrArg (fun n : ℕ => n * 512 + p.val) (e 3)

theorem iblk_1 (c : Dev nD) (t : Fin (cfgM m).N) (ht : t.val < 512) (p : Fin 512) :
    iblk m c 1 t (ix4 0 0 0 p) = m ((c : Thread nD τ).loc main_arg2) (ix4 (bt t ht) (ex t) 0 (tok t p)) := by
  have e := congrFun (idx t).2.1
  blk_ext [iblk, V]
  · exact e 0
  · exact e 1
  · exact e 2
  · exact congrArg (fun n : ℕ => n * 512 + p.val) (e 3)

theorem iblk_2 (c : Dev nD) (t : Fin (cfgM m).N) (ht : t.val < 512) (s : Fin 512) (d : Fin 4096) :
    iblk m c 2 t (ix4 0 0 s d) = m ((c : Thread nD τ).loc main_arg3) (ix4 (ex t) (bt t ht) s d) := by
  have e := congrFun (idx t).2.2.1
  blk_ext [iblk, V]
  · exact e 0
  · exact e 1
  · exact (congrArg (fun n : ℕ => n * 512 + s.val) (e 2)).trans (by show 0 * 512 + s.val = s.val; omega)
  · exact (congrArg (fun n : ℕ => n * 4096 + d.val) (e 3)).trans (by show 0 * 4096 + d.val = d.val; omega)

theorem iblk_3 (c : Dev nD) (t : Fin (cfgM m).N) (ht : t.val < 512) (p : Fin 512) (d : Fin 4096) :
    iblk m c 3 t (ix3 0 p d) = m ((c : Thread nD τ).loc main_arg4) (ix3 (bt t ht) (tok t p) d) := by
  have e := congrFun (idx t).2.2.2.1
  blk_ext [iblk, V]
  · exact e 0
  · exact congrArg (fun n : ℕ => n * 512 + p.val) (e 1)
  · exact (congrArg (fun n : ℕ => n * 4096 + d.val) (e 2)).trans (by show 0 * 4096 + d.val = d.val; omega)

theorem iblk_4 (c : Dev nD) (t : Fin (cfgM m).N) (d : Fin 4096) :
    iblk m c 4 t (ix2 0 d) = m ((c : Thread nD τ).loc main_arg5) (ix2 0 d) := by
  have e := congrFun (idx t).2.2.2.2.1
  blk_ext [iblk, V]
  · exact e 0
  · exact (congrArg (fun n : ℕ => n * 4096 + d.val) (e 1)).trans (by show 0 * 4096 + d.val = d.val; omega)

theorem iblk_5 (c : Dev nD) (t : Fin (cfgM m).N) (ht : t.val < 512) (d : Fin 4096) :
    iblk m c 5 t (ix3 0 0 d) = m ((c : Thread nD τ).loc main_arg6) (ix3 ⟨t / 128, by omega⟩ 0 ⟨20480 + d, by omega⟩) := by
  have e := congrFun (idx t).2.2.2.2.2.1
  blk_ext [iblk, V]
  · exact e 0
  · exact e 1
  · exact (congrArg (fun n : ℕ => n * 4096 + d.val) (e 2)).trans (by show 5 * 4096 + d.val = 20480 + d.val; omega)

/-- A word of the table is its entry. -/
theorem word_at (c : Dev nD) (off : Fin 1 → Nat) (inb : ∀ a, off a + S1.size a ≤ S8192.size a) (k : Fin 8192) (h : off = ![k.val]) :
    word c (tbl m 0) (Rect.unit (s := S8192) off S1.size inb) numel1_S1 = m ((c : Thread nD τ).loc main_arg0) (ix1 k) := by
  obtain rfl : c = 0 := Subsingleton.elim _ _
  subst h
  refine congrArg (m (((0 : Dev nD) : Thread nD τ).loc main_arg0)) (funext fun a => Fin.ext ?_)
  fin_cases a
  show k.val + 1 * 0 = k.val
  omega

/-- A condition of the precondition's form that holds. -/
theorem bit_iff (p q r : Bool) (h : IntOp.ori (BitVec.ofBool p) (IntOp.andi (BitVec.ofBool q) (BitVec.ofBool r)) = 1#1) :
    p = true ∨ q = true ∧ r = true := by
  revert p q r; decide

/-- The precondition, at a grid point's token: its counts bound the token's slot. -/
theorem bounded (hp : Cert.Pre_ScatterIdeal_slots_within_counts m) (c : Dev nD) (t : Fin (cfgM m).N) (ht : t.val < 512) (p : Fin 512) :
    Bounded (lo c (grid0.coords t) (tbl m 0)) (hi c (grid0.coords t) (tbl m 0)) (iblk m c 0 t (ix4 0 0 0 p)) := by
  have h := congrFun (hp c) (ix4 (bt t ht) (ex t) ⟨t.val / 16 % 8, Nat.mod_lt _ (by omega)⟩ p)
  rw [iblk_0 m c t ht p, show lo c (grid0.coords t) (tbl m 0) = _ from word_at m c _ _ ⟨t.val / 128 * 2048 + t.val % 16 * 128 + 4 * (t.val / 16 % 8), by omega⟩ (idx t).2.2.2.2.2.2.2.1,
    show hi c (grid0.coords t) (tbl m 0) = _ from word_at m c _ _ ⟨t.val / 128 * 2048 + t.val % 16 * 128 + (4 + 4 * (t.val / 16 % 8)), by omega⟩ (idx t).2.2.2.2.2.2.2.2]
  revert h
  pointwise [Cert.Pre_slots_within_counts.fn]
  intro h
  rcases bit_iff _ _ _ h with h | ⟨h1, h2⟩
  · exact .inl (of_decide_eq_true h)
  · exact .inr ⟨of_decide_eq_true h1, of_decide_eq_true h2⟩

/-- The experts' contributions to a token, by their number. -/
def share (c : Dev nD) (b : Fin 4) (p d : Fin 4096) (n : ℕ) : EReal :=
  if h : n < 16 then contrib (m ((c : Thread nD τ).loc main_arg1)) (m ((c : Thread nD τ).loc main_arg2)) (m ((c : Thread nD τ).loc main_arg3)) b p d ⟨n, h⟩
  else 0

/-- A point adds its expert's contribution to what it found, or at the first expert to zero. -/
theorem added (hp : Cert.Pre_ScatterIdeal_slots_within_counts m) (c : Dev nD) (t : Fin (cfgM m).N) (ht : t.val < 512) (z : Vec Ideal S1x512x4096 .f32)
    (p : Fin 512) (d : Fin 4096) :
    acc2 (lo c (grid0.coords t) (tbl m 0)) (hi c (grid0.coords t) (tbl m 0)) (iblk m c 0 t) (iblk m c 1 t) (iblk m c 2 t)
      (acc1 (lo c (grid0.coords t) (tbl m 0)) (hi c (grid0.coords t) (tbl m 0)) (iblk m c 0 t) (iblk m c 1 t) (iblk m c 2 t) (acc0 (grid0.coords t) z)) (ix3 0 p d)
      = (if t.val % 16 = 0 then 0 else z (ix3 0 p d)) + share m c (bt t ht) (tok t p) d (t.val % 16) := by
  refine (acc_apply _ _ _ _ _ _ p d (bounded m hp c t ht p)).trans ?_
  refine congrArg₂ (fun a b : EReal => a + b) ?_ ?_
  · unfold acc0
    by_cases h : t.val % 16 = 0
    · rw [if_pos ((cond1_iff t).mpr h), if_pos h]
      exact Ideal.ofBits_zero_f32
    · rw [if_neg (fun h' => h ((cond1_iff t).mp h')), if_neg h]
  · unfold share
    rw [dif_pos (Nat.mod_lt _ (by omega))]
    unfold contrib term
    rw [iblk_0 m c t ht p, iblk_1 m c t ht p]
    refine Finset.sum_congr rfl fun s _ => ?_
    exact congrArg (fun v : EReal => _ * v) (iblk_2 m c t ht s d)

/-- Before the last expert the block holds the contributions so far. -/
theorem partialSum (hp : Cert.Pre_ScatterIdeal_slots_within_counts m) (c : Dev nD) (p : Fin 512) (d : Fin 4096) :
    ∀ k, k < 15 → ∀ (t : Fin (cfgM m).N) (ht : t.val < 512), t.val % 16 = k →
      outs m c t.val t.isLt (ix3 0 p d) = ∑ n ∈ Finset.range (k + 1), share m c (bt t ht) (tok t p) d n
  | 0, _, t, ht, h => by
    rw [outs_first m c t h (k0_pay3 (F := Ideal))]
    show point _ _ _ _ _ _ _ _ _ _ _ = _
    unfold point fin
    rw [if_neg (fun h' => by have := (cond4_iff t).mp h'; omega), added m hp c t ht, if_pos h, h, zero_add, Finset.sum_range_one]
  | k + 1, hk, t, ht, h => by
    have ih := partialSum hp c p d k (by omega) ⟨t.val - 1, Nat.lt_of_le_of_lt (Nat.sub_le _ _) t.isLt⟩ (by show t.val - 1 < 512; omega)
      (by show (t.val - 1) % 16 = k; omega)
    rw [outs_next m c t (by omega)]
    show point _ _ _ _ _ _ _ _ _ _ _ = _
    unfold point fin
    rw [if_neg (fun h' => by have := (cond4_iff t).mp h'; omega), added m hp c t ht, if_neg (by omega), h, Finset.sum_range_succ _ (k + 1)]
    refine congrArg (· + share m c (bt t ht) (tok t p) d (k + 1)) (ih.trans ?_)
    have e1 : bt (t.val - 1) (by omega) = bt t ht := Fin.ext (by show (t.val - 1) / 128 = t.val / 128; omega)
    have e2 : tok (t.val - 1) p = tok t p := Fin.ext (by show (t.val - 1) / 16 % 8 * 512 + p.val = t.val / 16 % 8 * 512 + p.val; omega)
    show ∑ n ∈ Finset.range (k + 1), share m c (bt (t.val - 1) _) (tok (t.val - 1) p) d n = _
    rw [e1, e2]

/-- At the last expert the total is the reference's. -/
theorem totals (hp : Cert.Pre_ScatterIdeal_slots_within_counts m) (c : Dev nD) (t : Fin (cfgM m).N) (ht : t.val < 512) (h : t.val % 16 = 15)
    (p : Fin 512) (d : Fin 4096) :
    acc2 (lo c (grid0.coords t) (tbl m 0)) (hi c (grid0.coords t) (tbl m 0)) (iblk m c 0 t) (iblk m c 1 t) (iblk m c 2 t)
      (acc1 (lo c (grid0.coords t) (tbl m 0)) (hi c (grid0.coords t) (tbl m 0)) (iblk m c 0 t) (iblk m c 1 t) (iblk m c 2 t)
        (acc0 (grid0.coords t) (outs m c (t.val - 1) (Nat.lt_of_le_of_lt (Nat.sub_le _ _) t.isLt)))) (ix3 0 p d)
      = total (m ((c : Thread nD τ).loc main_arg1)) (m ((c : Thread nD τ).loc main_arg2)) (m ((c : Thread nD τ).loc main_arg3)) (ix3 (bt t ht) (tok t p) d) := by
  have ih := partialSum m hp c p d 14 (by omega) ⟨t.val - 1, Nat.lt_of_le_of_lt (Nat.sub_le _ _) t.isLt⟩ (by show t.val - 1 < 512; omega)
      (by show (t.val - 1) % 16 = 14; omega)
  rw [added m hp c t ht, if_neg (by omega), h, total_apply]
  have e : ∀ e : Fin 16, contrib (m ((c : Thread nD τ).loc main_arg1)) (m ((c : Thread nD τ).loc main_arg2)) (m ((c : Thread nD τ).loc main_arg3)) (bt t ht) (tok t p) d e
      = share m c (bt t ht) (tok t p) d e.val := fun e => by
    unfold share; rw [dif_pos e.isLt]
  rw [Finset.sum_congr rfl fun x _ => e x, ← Finset.sum_range (fun n => share m c (bt t ht) (tok t p) d n), Finset.sum_range_succ _ 15]
  refine congrArg (· + share m c (bt t ht) (tok t p) d 15) (ih.trans ?_)
  have e1 : bt (t.val - 1) (by omega) = bt t ht := Fin.ext (by show (t.val - 1) / 128 = t.val / 128; omega)
  have e2 : tok (t.val - 1) p = tok t p := Fin.ext (by show (t.val - 1) / 16 % 8 * 512 + p.val = t.val / 16 % 8 * 512 + p.val; omega)
  show ∑ n ∈ Finset.range (14 + 1), share m c (bt (t.val - 1) _) (tok (t.val - 1) p) d n = _
  rw [e1, e2]

/-- The block written back at the last expert is the reference's. -/
theorem block (hp : Cert.Pre_ScatterIdeal_slots_within_counts m) (c : Dev nD) (t : Fin (cfgM m).N) (ht : t.val < 512) (h : t.val % 16 = 15)
    (p : Fin 512) (d : Fin 4096) : outs m c t.val t.isLt (ix3 0 p d)
      = combined (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 (bt t ht) (tok t p) d) := by
  rw [outs_next m c t (by omega)]
  show point _ _ _ _ _ _ _ _ _ _ _ = _
  unfold point fin
  rw [if_pos ((cond4_iff t).mpr h)]
  pointwise [k0_pay2, combined]
  simp only [totals m hp c t ht h]
  rw [iblk_3 m c t ht, iblk_4 m c t, iblk_5 m c t ht]

/-- Every block of the result array is written back at some grid point. -/
theorem covers : ((cfgM m).win 6).Covers :=
  ⟨fun a => by match a with | ⟨0, _⟩ => exact Nat.one_pos | ⟨1, _⟩ => exact Nat.succ_pos 511 | ⟨2, _⟩ => exact Nat.succ_pos 4095, fun β => by
    have h0 : (β (0 : Fin 3)).val < 4 := lt_of_lt_of_eq (β (0 : Fin 3)).isLt (show (4 + 1 - 1) / 1 = 4 by norm_num)
    have h1 : (β (1 : Fin 3)).val < 8 := lt_of_lt_of_eq (β (1 : Fin 3)).isLt (show (4096 + 512 - 1) / 512 = 8 by norm_num)
    have h2 : (β (2 : Fin 3)).val < 1 := lt_of_lt_of_eq (β (2 : Fin 3)).isLt (show (4096 + 4096 - 1) / 4096 = 1 by norm_num)
    have hN : (β (0 : Fin 3)).val * 128 + (β (1 : Fin 3)).val * 16 + 15 < (cfgM m).N := by show _ < 512; omega
    refine ⟨⟨(β (0 : Fin 3)).val * 128 + (β (1 : Fin 3)).val * 16 + 15, hN⟩, (flushed (adm m) _).mpr ?_, fun a => ⟨?_, .inl ?_⟩⟩
    · show ((β (0 : Fin 3)).val * 128 + (β (1 : Fin 3)).val * 16 + 15) % 16 = 15; omega
    · refine (congrFun (idx ⟨_, hN⟩).2.2.2.2.2.2.1 a).trans ?_
      match a with
      | ⟨0, _⟩ => show ((β (0 : Fin 3)).val * 128 + (β (1 : Fin 3)).val * 16 + 15) / 128 = (β (0 : Fin 3)).val; omega
      | ⟨1, _⟩ => show ((β (0 : Fin 3)).val * 128 + (β (1 : Fin 3)).val * 16 + 15) / 16 % 8 = (β (1 : Fin 3)).val; omega
      | ⟨2, _⟩ => show 0 = (β (2 : Fin 3)).val; omega
    · rfl⟩

/-- The kernel's result array is the reference's function of the arguments. -/
theorem final (hp : Cert.Pre_ScatterIdeal_slots_within_counts m) (c : Dev nD) : (dats m 0 c).arrAt 6 (Fin.last (cfgM m).N)
    = combined (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 6 _ (covers m) fun t hf y => ?_
  have ht : t.val < 512 := t.isLt
  have h15 := (flushed (adm m) t).mp hf
  blk_simp
  rw [after_6]
  obtain ⟨p, d, rfl⟩ : ∃ p : Fin 512, ∃ d : Fin 4096, y = ix3 (0 : Fin 1) p d := ⟨y (1 : Fin 3), y (2 : Fin 3), funext fun a => by
    match a with
    | ⟨0, _⟩ => exact Fin.ext (Nat.lt_one_iff.mp (y (0 : Fin 3)).isLt)
    | ⟨1, _⟩ => rfl
    | ⟨2, _⟩ => rfl⟩
  refine (block m hp c t ht h15 p d).trans (congrArg _ (funext fun a => Fin.ext ?_))
  have e := congrFun (idx t).2.2.2.2.2.2.1
  match a with
  | ⟨0, _⟩ =>
    show t.val / 128 = cc0_transform_6 (grid0.coords t) (0 : Fin 3) * 1 + 1 * 0
    rw [e 0]; show t.val / 128 = t.val / 128 * 1 + 1 * 0; omega
  | ⟨1, _⟩ =>
    show t.val / 16 % 8 * 512 + p.val = cc0_transform_6 (grid0.coords t) (1 : Fin 3) * 512 + 1 * p.val
    rw [e 1]; show t.val / 16 % 8 * 512 + p.val = t.val / 16 % 8 * 512 + 1 * p.val; omega
  | ⟨2, _⟩ =>
    show d.val = cc0_transform_6 (grid0.coords t) (2 : Fin 3) * 4096 + 1 * d.val
    rw [e 2]; show d.val = 0 * 4096 + 1 * d.val; omega

/-- The two programs, from the same arguments, end with the same result. -/
theorem algebraic : Cert.algebraic_ScatterIdeal_ScatterRefIdeal_pre_slots_within_counts := by
  intro m g m' g' hp hm
  refine ⟨fun c => combined (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)), ?_, ?_⟩
  · exact (θ_run defs _ _).mono (fun r h c => ⟨(h.1 c).1.trans (final m hp c), (h.1 c).2⟩) (run (F := Ideal) m g)
  · refine (θ_run Cert.ScatterRefIdeal.defs _ _).mono (fun r h c => ⟨(h c).1.trans ?_, (h c).2⟩)
      (Cert.ScatterRefIdeal.Value.run m' g')
    rw [(hm c).2.1, (hm c).2.2.1, (hm c).2.2.2.1, (hm c).2.2.2.2.1, (hm c).2.2.2.2.2.1, (hm c).2.2.2.2.2.2]
    rfl

set_option smartUnfolding false in
set_option maxHeartbeats 4000000 in
/-- The kernel and its ideal reading run to their ends, arguments unchanged, counters at zero: one run of one text. -/
theorem frame_kernel : Cert.quiescent_Scatter := fun m ρ _ =>
  (θ_run Cert.ScatterIdeal.defs _ _).mono (fun _ h => ⟨fun c => (h.1 c).2, h.2⟩) (run (F := Bits) m ρ)
theorem frame_ideal : Cert.quiescent_ScatterIdeal := fun m ρ _ =>
  (θ_run Cert.ScatterIdeal.defs _ _).mono (fun _ h => ⟨fun c => (h.1 c).2, h.2⟩) (run (F := Ideal) m ρ)

/-- The reference runs to its end, its arguments unchanged; it has no counter. -/
theorem frame_reference : Cert.quiescent_ScatterRefIdeal := fun m ρ _ =>
  (θ_run Cert.ScatterRefIdeal.defs _ _).mono (fun r h => ⟨fun c => (h c).2, sem_eq_zero_of_no_sems (by decide) r.2⟩)
    (Cert.ScatterRefIdeal.Value.run m ρ)

end Cert.Hand.Scatter

end
-- ==== Proof.AdaValue.lean ====
/-
  The call for the modulation: its result array, tile by tile, is the activated conditioning rows times the weight, and
  the bias added.
-/
module

public import proofs.«01_k».proof.Defs
public import proofs.«01_k».proof.Proof.Gen.AdaIdeal.Value
public import proofs.«01_k».proof.Proof.Gen.AdaRefIdeal.Run
public import proofs.«01_k».proof.Proof.Scalars
public import Idealize.ShloMosaic.Lib.Pipeline.ValueKit
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Hand.Ada

open Cert.AdaRefIdeal Cert.AdaRefIdeal.Gen in
/-- The reference's result, as a function of its arguments. -/
def modulation (c : FVec Ideal Cert.AdaRefIdeal.S8x4096 .f32) (w : FVec Ideal Cert.AdaRefIdeal.S1x4096x24576 .f32) (b : FVec Ideal Cert.AdaRefIdeal.S1x24576 .f32) :
    FVec Ideal Cert.AdaRefIdeal.S8x24576 .f32 :=
  addf (Host.dotGeneral dot_S8x4096_S4096x24576_S8x24576_1_0_0_1_n_n none (mulf c (Host.divf (broadcastInDim S8x4096 ![] bcast_S_S8x4096 (constant S_ .f32 0x3F800000#32)) (addf (broadcastInDim S8x4096 ![] bcast_S_S8x4096 (constant S_ .f32 0x3F800000#32)) (Host.exp (Host.negf c))))) (shapeCast _ w shapeCasts_S1x4096x24576_S4096x24576)) (broadcastInDim S8x24576 ![0, 1] bcast_S1x24576_S8x24576_0_1 (broadcastInDim S1x24576 ![1] bcast_S24576_S1x24576_1 (shapeCast _ b shapeCasts_S1x24576_S24576)))

open Cert.AdaIdeal Cert.AdaIdeal.Gen

variable (m : (ℓ : Loc nD τ sig) → Buf (Elt Ideal) ℓ)

/-- Where the windows stand at a grid point. -/
theorem idx : ∀ t : Fin cfg0.N, win0_0.index t = ![0, 0]
    ∧ win0_1.index t = ![0, t.val]
    ∧ win0_2.index t = ![0, t.val]
    ∧ win0_3.index t = ![0, t.val] :=
  (by decide +kernel : ∀ t : Fin grid0.N, win0_0.index t = ![0, 0]
    ∧ win0_1.index t = ![0, t.val]
    ∧ win0_2.index t = ![0, t.val]
    ∧ win0_3.index t = ![0, t.val])

/-- Every block of the result array is some grid point's. -/
theorem covers : (cfg0.win 3).Covers :=
  (cfg0.win 3).covers_of_index_surj rfl (by decide) fun β => by
    have h0 : (β (0 : Fin 2)).val < 1 := lt_of_lt_of_eq (β (0 : Fin 2)).isLt (by decide)
    have h1 : (β (1 : Fin 2)).val < 48 := lt_of_lt_of_eq (β (1 : Fin 2)).isLt (by decide)
    refine ⟨⟨(β (1 : Fin 2)).val, ?_⟩, fun a => ?_⟩
    · show _ < 48; omega
    · show win0_3.index _ a = _
      rw [(idx _).2.2.2]
      match a with
      | ⟨0, _⟩ => show 0 = (β (0 : Fin 2)).val; omega
      | ⟨1, _⟩ => show (β (1 : Fin 2)).val = (β (1 : Fin 2)).val; omega

/-- The call reads the weight without its leading axis. -/
theorem staged_weight (c : Dev nD) : V m c main_v0 = shapeCast (α := Ideal .f32) S4096x24576 (m ((c : Thread nD τ).loc main_arg1)) shapeCasts_S1x4096x24576_S4096x24576 := by
  unfold V
  after_results
  rfl

/-- The call reads the bias as one row, as it is given. -/
theorem staged_bias (c : Dev nD) (i : S1x24576.Idx) : V m c main_v2 i = m ((c : Thread nD τ).loc main_arg2) (ix2 (0 : Fin 1) (i 1)) := by
  unfold V
  after_results
  pointwise

/-- The call reads the conditioning rows as they are given. -/
theorem staged_rows (c : Dev nD) : V m c main_arg0 = m ((c : Thread nD τ).loc main_arg0) := V_main_arg0 m c

set_option maxHeartbeats 4000000 in
/-- The kernel's result array is the reference's function of the arguments. -/
theorem final (c : Dev nD) : (dats m 0 c).arrAt 3 cfg0.N
    = modulation (m ((c : Thread nD τ).loc main_arg0)) (m ((c : Thread nD τ).loc main_arg1)) (m ((c : Thread nD τ).loc main_arg2)) := by
  refine (dats m 0 c).arrAt_eq_of_covers 3 _ covers fun t hf y => ?_
  unfold modulation
  rw [← staged_weight]
  blk_simp
  rw [after0_3]
  frame_out
  pointwise [k0_pay1]
  refine congrArg₂ (fun a b : EReal => a + b) (Finset.sum_congr rfl fun x _ => congrArg₂ (fun a b : EReal => a * b) ?_ ?_) ?_
  · rw [Cert.Hand.zero_sub_eq, Cert.Hand.div_one_add_exp]
    blk_point [iblk, V, idx t]
  · blk_ext [iblk, idx t]
  · show V m c main_v2 _ = _
    refine (staged_bias m c _).trans (congrArg (m ((c : Thread nD τ).loc main_arg2)) ?_)
    blk_ext [idx t]

/-- The two programs, from the same arguments, end with the same result. -/
theorem algebraic : Cert.algebraic_AdaIdeal_AdaRefIdeal := by
  intro m g m' g' _ hm
  refine ⟨fun c => modulation (m ((c : Thread nD τ).loc main_arg0)) (m ((c : Thread nD τ).loc main_arg1)) (m ((c : Thread nD τ).loc main_arg2)), ?_, ?_⟩
  · exact (θ_run defs _ _).mono (fun r h c => ⟨(h c).1.trans (final m c), (h c).2⟩) (Cert.AdaIdeal.Value.run_blocks m g)
  · refine (θ_run Cert.AdaRefIdeal.defs _ _).mono (fun r h c => ⟨(h c).1.trans ?_, (h c).2⟩)
      (Cert.AdaRefIdeal.Value.run m' g')
    rw [(hm c).1, (hm c).2.1, (hm c).2.2]
    rfl

/-- The reference runs to its end, its arguments unchanged; it has no counter. -/
theorem frame_reference : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run m ρ)

end Cert.Hand.Ada

end
-- ==== Proof.PrenormValue.lean ====
/-
  The first norm's call: each block of 256 tokens, latent or context, is normalized, scaled and shifted by its row of the
  modulation.
-/
module

public import proofs.«01_k».proof.Defs
public import proofs.«01_k».proof.Proof.Gen.PrenormIdeal.Value
public import proofs.«01_k».proof.Proof.Gen.PrenormRefIdeal.Run
public import proofs.«01_k».proof.Proof.Scalars
public import Idealize.ShloMosaic.Lib.Pipeline.ValueKit
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Hand.Prenorm

open Cert.PrenormRefIdeal Cert.PrenormRefIdeal.Gen in
/-- The reference's latent tokens. -/
def latents (x : FVec Ideal Cert.PrenormRefIdeal.S4x4096x4096 .f32) (g : FVec Ideal Cert.PrenormRefIdeal.S1x4x4096 .f32) (mod : FVec Ideal Cert.PrenormRefIdeal.S8x24576 .f32) :
    FVec Ideal Cert.PrenormRefIdeal.S4x4096x4096 .f32 :=
  (addf (mulf (mulf (mulf x (broadcastInDim S4x4096x4096 ![0, 1, 2] bcast_S4x4096x1_S4x4096x4096_0_1_2 (Host.rsqrt (addf (Host.divf (broadcastInDim S4x4096x1 ![0, 1] bcast_S4x4096_S4x4096x1_0_1 (Host.reduceAdd (mulf x x) (constant S_ .f32 0x00000000#32) reducesTo_S4x4096x4096_S4x4096_d2 h_S_)) (broadcastInDim S4x4096x1 ![] bcast_S_S4x4096x1 (constant S_ .f32 0x45800000#32))) (broadcastInDim S4x4096x1 ![] bcast_S_S4x4096x1 (constant S_ .f32 0x358637BD#32)))))) (broadcastInDim S4x4096x4096 ![0, 1, 2] bcast_S1x1x4096_S4x4096x4096_0_1_2 (broadcastInDim S1x1x4096 ![2] bcast_S4096_S1x1x4096_2 (shapeCast _ (extractStridedSlice S1x1x4096 ![0, 0, 0] g slices_S1x4x4096_S1x1x4096_0_0_0) shapeCasts_S1x1x4096_S4096)))) (broadcastInDim S4x4096x4096 ![0, 1, 2] bcast_S4x1x4096_S4x4096x4096_0_1_2 (addf (broadcastInDim S4x1x4096 ![] bcast_S_S4x1x4096 (constant S_ .f32 0x3F800000#32)) (broadcastInDim S4x1x4096 ![0, 2] bcast_S4x4096_S4x1x4096_0_2 (shapeCast _ (extractStridedSlice S4x1x4096 ![0, 1, 0] (shapeCast _ mod shapeCasts_S8x24576_S8x6x4096) slices_S8x6x4096_S4x1x4096_0_1_0) shapeCasts_S4x1x4096_S4x4096))))) (broadcastInDim S4x4096x4096 ![0, 1, 2] bcast_S4x1x4096_S4x4096x4096_0_1_2 (broadcastInDim S4x1x4096 ![0, 2] bcast_S4x4096_S4x1x4096_0_2 (shapeCast _ (extractStridedSlice S4x1x4096 ![0, 0, 0] (shapeCast _ mod shapeCasts_S8x24576_S8x6x4096) slices_S8x6x4096_S4x1x4096_0_0_0) shapeCasts_S4x1x4096_S4x4096))))

open Cert.PrenormRefIdeal Cert.PrenormRefIdeal.Gen in
/-- The reference's context tokens. -/
def context (ctx : FVec Ideal Cert.PrenormRefIdeal.S4x256x4096 .f32) (g : FVec Ideal Cert.PrenormRefIdeal.S1x4x4096 .f32) (mod : FVec Ideal Cert.PrenormRefIdeal.S8x24576 .f32) :
    FVec Ideal Cert.PrenormRefIdeal.S4x256x4096 .f32 :=
  (addf (mulf (mulf (mulf ctx (broadcastInDim S4x256x4096 ![0, 1, 2] bcast_S4x256x1_S4x256x4096_0_1_2 (Host.rsqrt (addf (Host.divf (broadcastInDim S4x256x1 ![0, 1] bcast_S4x256_S4x256x1_0_1 (Host.reduceAdd (mulf ctx ctx) (constant S_ .f32 0x00000000#32) reducesTo_S4x256x4096_S4x256_d2 h_S_)) (broadcastInDim S4x256x1 ![] bcast_S_S4x256x1 (constant S_ .f32 0x45800000#32))) (broadcastInDim S4x256x1 ![] bcast_S_S4x256x1 (constant S_ .f32 0x358637BD#32)))))) (broadcastInDim S4x256x4096 ![0, 1, 2] bcast_S1x1x4096_S4x256x4096_0_1_2 (broadcastInDim S1x1x4096 ![2] bcast_S4096_S1x1x4096_2 (shapeCast _ (extractStridedSlice S1x1x4096 ![0, 0, 0] g slices_S1x4x4096_S1x1x4096_0_0_0) shapeCasts_S1x1x4096_S4096)))) (broadcastInDim S4x256x4096 ![0, 1, 2] bcast_S1x1x4096_S4x256x4096_0_1_2 (broadcastInDim S1x1x4096 ![2] bcast_S4096_S1x1x4096_2 (addf (broadcastInDim S4096 ![] bcast_S_S4096 (constant S_ .f32 0x3F800000#32)) (shapeCast _ (extractStridedSlice S1x1x4096 ![4, 1, 0] (shapeCast _ mod shapeCasts_S8x24576_S8x6x4096) slices_S8x6x4096_S1x1x4096_4_1_0) shapeCasts_S1x1x4096_S4096))))) (broadcastInDim S4x256x4096 ![0, 1, 2] bcast_S1x1x4096_S4x256x4096_0_1_2 (broadcastInDim S1x1x4096 ![2] bcast_S4096_S1x1x4096_2 (shapeCast _ (extractStridedSlice S1x1x4096 ![4, 0, 0] (shapeCast _ mod shapeCasts_S8x24576_S8x6x4096) slices_S8x6x4096_S1x1x4096_4_0_0) shapeCasts_S1x1x4096_S4096))))

open Cert.PrenormRefIdeal Cert.PrenormRefIdeal.Gen in
/-- The reference's result, as a function of its arguments. -/
def tokens (x : FVec Ideal Cert.PrenormRefIdeal.S4x4096x4096 .f32) (ctx : FVec Ideal Cert.PrenormRefIdeal.S4x256x4096 .f32) (g : FVec Ideal Cert.PrenormRefIdeal.S1x4x4096 .f32) (mod : FVec Ideal Cert.PrenormRefIdeal.S8x24576 .f32) :
    FVec Ideal Cert.PrenormRefIdeal.S4x4352x4096 .bf16 :=
  truncf .bf16 (concatenate S4x4352x4096 1 [⟨S4x4096x4096, latents x g mod⟩, ⟨S4x256x4096, context ctx g mod⟩] concatenates_S4x4096x4096_S4x256x4096_S4x4352x4096_d1) bitsLt_bf16_f32

open Cert.PrenormIdeal Cert.PrenormIdeal.Gen

variable (m : (ℓ : Loc nD τ sig) → Buf (Elt Ideal) ℓ)

/-- The modulation's row of a grid point: its sample's, or the context's. -/
abbrev row (t : Nat) : Nat := if t % 17 = 16 then 4 else t / 17

/-- Where the windows stand at a grid point. -/
theorem idx : ∀ t : Fin cfg0.N, win0_0.index t = ![t.val / 17, min (t.val % 17) 15, 0]
    ∧ win0_1.index t = ![t.val / 17, 0, 0]
    ∧ win0_2.index t = ![0, 0]
    ∧ win0_3.index t = ![row t.val, 0, 0]
    ∧ win0_4.index t = ![row t.val, 0, 1]
    ∧ win0_5.index t = ![t.val / 17, t.val % 17, 0] :=
  (by decide +kernel : ∀ t : Fin grid0.N, win0_0.index t = ![t.val / 17, min (t.val % 17) 15, 0]
    ∧ win0_1.index t = ![t.val / 17, 0, 0]
    ∧ win0_2.index t = ![0, 0]
    ∧ win0_3.index t = ![row t.val, 0, 0]
    ∧ win0_4.index t = ![row t.val, 0, 1]
    ∧ win0_5.index t = ![t.val / 17, t.val % 17, 0])

/-- Every block of the result array is some grid point's. -/
theorem covers : (cfg0.win 5).Covers :=
  (cfg0.win 5).covers_of_index_surj rfl (by decide) fun β => by
    have h0 : (β (0 : Fin 3)).val < 4 := lt_of_lt_of_eq (β (0 : Fin 3)).isLt (by decide)
    have h1 : (β (1 : Fin 3)).val < 17 := lt_of_lt_of_eq (β (1 : Fin 3)).isLt (by decide)
    have h2 : (β (2 : Fin 3)).val < 1 := lt_of_lt_of_eq (β (2 : Fin 3)).isLt (by decide)
    refine ⟨⟨(β (0 : Fin 3)).val * 17 + (β (1 : Fin 3)).val, ?_⟩, fun a => ?_⟩
    · show _ < 68; omega
    · show win0_5.index _ a = _
      rw [(idx _).2.2.2.2.2]
      match a with
      | ⟨0, _⟩ => show ((β (0 : Fin 3)).val * 17 + (β (1 : Fin 3)).val) / 17 = (β (0 : Fin 3)).val; omega
      | ⟨1, _⟩ => show ((β (0 : Fin 3)).val * 17 + (β (1 : Fin 3)).val) % 17 = (β (1 : Fin 3)).val; omega
      | ⟨2, _⟩ => show 0 = (β (2 : Fin 3)).val; omega

/-- The call reads the modulation as single rows. -/
theorem staged_mod (c : Dev nD) (i : S8x1x24576.Idx) : V m c main_v2 i = m ((c : Thread nD τ).loc main_arg3) (ix2 (i 0) (i 2)) := by
  unfold V
  after_results
  pointwise

/-- The call reads the norm's weight as one row. -/
theorem staged_weight (c : Dev nD) (i : S1x4096.Idx) : V m c main_v3 i = m ((c : Thread nD τ).loc main_arg2) (ix3 (0 : Fin 1) (0 : Fin 4) (i 1)) := by
  unfold V
  after_results
  pointwise

/-- One normalized element: the row, its weight, scale and shift. -/
def normed (v : Fin 4096 → EReal) (g sc sh : EReal) (d : Fin 4096) : EReal :=
  v d * Ideal.rsqrt (Ideal.div (∑ x, v x * v x) (Ideal.ofBits FTy.f32 1166016512#32) + Ideal.ofBits FTy.f32 897988541#32) * g
    * (1 + sc) + sh

theorem latents_apply (x : FVec Ideal Cert.PrenormRefIdeal.S4x4096x4096 .f32) (g : FVec Ideal Cert.PrenormRefIdeal.S1x4x4096 .f32) (mod : FVec Ideal Cert.PrenormRefIdeal.S8x24576 .f32) (b : Fin 4) (r d : Fin 4096) :
    latents x g mod (ix3 b r d) = normed (fun d => x (ix3 b r d)) (g (ix3 0 0 d)) (mod (ix2 ⟨b.val, by omega⟩ ⟨4096 + d.val, by omega⟩))
      (mod (ix2 ⟨b.val, by omega⟩ ⟨d.val, by omega⟩)) d := by
  pointwise [latents, normed]

theorem context_apply (x : FVec Ideal Cert.PrenormRefIdeal.S4x256x4096 .f32) (g : FVec Ideal Cert.PrenormRefIdeal.S1x4x4096 .f32) (mod : FVec Ideal Cert.PrenormRefIdeal.S8x24576 .f32) (b : Fin 4) (r : Fin 256) (d : Fin 4096) :
    context x g mod (ix3 b r d) = normed (fun d => x (ix3 b r d)) (g (ix3 0 0 d)) (mod (ix2 4 ⟨4096 + d.val, by omega⟩))
      (mod (ix2 4 ⟨d.val, by omega⟩)) d := by
  pointwise [context, normed]

theorem tokens_apply (x : FVec Ideal Cert.PrenormRefIdeal.S4x4096x4096 .f32) (ctx : FVec Ideal Cert.PrenormRefIdeal.S4x256x4096 .f32) (g : FVec Ideal Cert.PrenormRefIdeal.S1x4x4096 .f32) (mod : FVec Ideal Cert.PrenormRefIdeal.S8x24576 .f32) (b : Fin 4) (r : Fin 4352) (d : Fin 4096) :
    tokens x ctx g mod (ix3 b r d) = (if h : r.val < 4096 then latents x g mod (ix3 b ⟨r.val, h⟩ d) else context ctx g mod (ix3 b ⟨r.val - 4096, by omega⟩ d)) := by
  pointwise [tokens]

theorem pay4_apply (v0 : Vec Ideal S1x4096 .f32) (v2 : Vec Ideal S1x1x4096 .f32) (v4 : Vec Ideal S1x1x4096 .f32) (v12 : Vec Ideal S1x256x4096 .f32)
    (p : Fin 256) (d : Fin 4096) : k0_pay4 v0 v2 v4 v12 (ix3 0 p d) = normed (fun d => v12 (ix3 0 p d)) (v0 (ix2 0 d)) (v4 (ix3 0 0 d)) (v2 (ix3 0 0 d)) d := by
  pointwise [k0_pay4, k0_pay1, k0_pay2, k0_pay3, normed]

theorem pay5_apply (v0 : Vec Ideal S1x4096 .f32) (v2 : Vec Ideal S1x1x4096 .f32) (v4 : Vec Ideal S1x1x4096 .f32) (v12 : Vec Ideal S1x256x4096 .f32)
    (p : Fin 256) (d : Fin 4096) : k0_pay5 v0 v2 v4 v12 (ix3 0 p d) = normed (fun d => v12 (ix3 0 p d)) (v0 (ix2 0 d)) (v4 (ix3 0 0 d)) (v2 (ix3 0 0 d)) d := by
  pointwise [k0_pay5, k0_pay1, k0_pay2, k0_pay3, normed]

/-- The block of latent tokens a grid point reads. -/
theorem iblk_0 (c : Dev nD) (t : Fin cfg0.N) (ht : t.val < 68) (h : t.val % 17 ≤ 15) (p : Fin 256) (d : Fin 4096) :
    iblk m c 0 t (ix3 0 p d) = m ((c : Thread nD τ).loc main_arg0) (ix3 (⟨t.val / 17, by omega⟩ : Fin 4) (⟨t.val % 17 * 256 + p.val, by omega⟩ : Fin 4096) d) := by
  have e : win0_0.index t = ![t.val / 17, t.val % 17, 0] := (idx t).1.trans (by rw [Nat.min_eq_left h])
  blk_ext [iblk, V, e]

/-- The block of context tokens a grid point reads. -/
theorem iblk_1 (c : Dev nD) (t : Fin cfg0.N) (ht : t.val < 68) (p : Fin 256) (d : Fin 4096) :
    iblk m c 1 t (ix3 0 p d) = m ((c : Thread nD τ).loc main_arg1) (ix3 (⟨t.val / 17, by omega⟩ : Fin 4) p d) := by
  blk_ext [iblk, V, idx t]

/-- The norm's weight. -/
theorem iblk_2 (c : Dev nD) (t : Fin cfg0.N) (d : Fin 4096) :
    iblk m c 2 t (ix2 0 d) = m ((c : Thread nD τ).loc main_arg2) (ix3 (0 : Fin 1) (0 : Fin 4) d) := by
  refine (show iblk m c 2 t (ix2 0 d) = V m c main_v3 (ix2 0 d) by blk_ext [iblk, idx t]).trans (staged_weight m c _)

/-- The shift's row. -/
theorem iblk_3 (c : Dev nD) (t : Fin cfg0.N) (h : row t.val < 8) (d : Fin 4096) :
    iblk m c 3 t (ix3 0 0 d) = m ((c : Thread nD τ).loc main_arg3) (ix2 (⟨row t.val, h⟩ : Fin 8) (⟨d.val, by omega⟩ : Fin 24576)) := by
  refine (show iblk m c 3 t (ix3 0 0 d) = V m c main_v2 (ix3 (⟨row t.val, h⟩ : Fin 8) 0 (⟨d.val, by omega⟩ : Fin 24576)) by blk_ext [iblk, idx t]).trans (staged_mod m c _)

/-- The scale's row. -/
theorem iblk_4 (c : Dev nD) (t : Fin cfg0.N) (h : row t.val < 8) (d : Fin 4096) :
    iblk m c 4 t (ix3 0 0 d) = m ((c : Thread nD τ).loc main_arg3) (ix2 (⟨row t.val, h⟩ : Fin 8) (⟨4096 + d.val, by omega⟩ : Fin 24576)) := by
  refine (show iblk m c 4 t (ix3 0 0 d) = V m c main_v2 (ix3 (⟨row t.val, h⟩ : Fin 8) 0 (⟨4096 + d.val, by omega⟩ : Fin 24576)) by blk_ext [iblk, idx t]).trans (staged_mod m c _)

/-- What a grid point leaves in its block is the reference's. -/
theorem block (c : Dev nD) (t : Fin cfg0.N) (ht : t.val < 68) (p : Fin 256) (d : Fin 4096) :
    outsAt0 m c t.val t.isLt (ix3 0 p d) = tokens (m ((c : Thread nD τ).loc main_arg0)) (m ((c : Thread nD τ).loc main_arg1)) (m ((c : Thread nD τ).loc main_arg2)) (m ((c : Thread nD τ).loc main_arg3))
      (ix3 (⟨t.val / 17, by omega⟩ : Fin 4) (⟨t.val % 17 * 256 + p.val, by omega⟩ : Fin 4352) d) := by
  rw [tokens_apply]
  by_cases h0 : t.val % 17 ≤ 15
  · have hr : row t.val = t.val / 17 := if_neg (by omega)
    rw [outsAt0_A m c t h0 (by omega)]
    frame_out
    rw [dif_pos (show t.val % 17 * 256 + p.val < 4096 by omega), latents_apply, pay4_apply,
      iblk_2, iblk_3 m c t (by omega), iblk_4 m c t (by omega)]
    simp only [iblk_0 m c t ht h0, hr]
  · have h1 : t.val % 17 = 16 := by omega
    have hr : row t.val = 4 := if_pos h1
    rw [outsAt0_B m c t h0 h1]
    frame_out
    rw [dif_neg (show ¬ t.val % 17 * 256 + p.val < 4096 by omega), context_apply, pay5_apply,
      iblk_2, iblk_3 m c t (by omega), iblk_4 m c t (by omega)]
    have hp : (⟨t.val % 17 * 256 + p.val - 4096, by omega⟩ : Fin 256) = p := Fin.ext (by show t.val % 17 * 256 + p.val - 4096 = p.val; omega)
    simp only [iblk_1 m c t ht, hr, hp]
    rfl

/-- The kernel's result array is the reference's function of the arguments. -/
theorem final (c : Dev nD) : (dats m 0 c).arrAt 5 cfg0.N
    = tokens (m ((c : Thread nD τ).loc main_arg0)) (m ((c : Thread nD τ).loc main_arg1)) (m ((c : Thread nD τ).loc main_arg2)) (m ((c : Thread nD τ).loc main_arg3)) := by
  refine (dats m 0 c).arrAt_eq_of_covers 5 _ covers fun t hf y => ?_
  have ht : t.val < 68 := t.isLt
  blk_simp
  rw [after0_5]
  obtain ⟨p, d, rfl⟩ : ∃ p : Fin 256, ∃ d : Fin 4096, y = ix3 (0 : Fin 1) p d := ⟨y (1 : Fin 3), y (2 : Fin 3), funext fun a => by
    match a with
    | ⟨0, _⟩ => exact Fin.ext (Nat.lt_one_iff.mp (y (0 : Fin 3)).isLt)
    | ⟨1, _⟩ => rfl
    | ⟨2, _⟩ => rfl⟩
  refine (block m c t ht p d).trans (congrArg _ ?_)
  blk_ext [idx t]

/-- The two programs, from the same arguments, end with the same result. -/
theorem algebraic : Cert.algebraic_PrenormIdeal_PrenormRefIdeal := by
  intro m g m' g' _ hm
  refine ⟨fun c => tokens (m ((c : Thread nD τ).loc main_arg0)) (m ((c : Thread nD τ).loc main_arg1)) (m ((c : Thread nD τ).loc main_arg2)) (m ((c : Thread nD τ).loc main_arg3)), ?_, ?_⟩
  · exact (θ_run defs _ _).mono (fun r h c => ⟨(h c).1.trans (final m c), (h c).2⟩) (Cert.PrenormIdeal.Value.run_blocks m g)
  · refine (θ_run Cert.PrenormRefIdeal.defs _ _).mono (fun r h c => ⟨(h c).1.trans ?_, (h c).2⟩)
      (Cert.PrenormRefIdeal.Value.run m' g')
    rw [(hm c).1, (hm c).2.1, (hm c).2.2.1, (hm c).2.2.2]
    rfl

/-- The reference runs to its end, its arguments unchanged; it has no counter. -/
theorem frame_reference : Cert.quiescent_PrenormRefIdeal := fun m ρ _ =>
  (θ_run Cert.PrenormRefIdeal.defs _ _).mono (fun r h => ⟨fun c => (h c).2, sem_eq_zero_of_no_sems (by decide) r.2⟩)
    (Cert.PrenormRefIdeal.Value.run m ρ)

end Cert.Hand.Prenorm

end
-- ==== Proof.ReadoutValue.lean ====
/-
  The readout's call: for each of the two mixers, the two directions' outputs added, normalized head by head and gated.
-/
module

public import proofs.«01_k».proof.Defs
public import proofs.«01_k».proof.Proof.Gen.ReadoutIdeal.Value
public import proofs.«01_k».proof.Proof.Gen.ReadoutRefIdeal.Run
public import proofs.«01_k».proof.Proof.Scalars
public import Idealize.ShloMosaic.Lib.Pipeline.ValueKit
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Hand.Readout

open Cert.ReadoutRefIdeal Cert.ReadoutRefIdeal.Gen in
/-- The reference's first result: sixteen heads of 128 under the activated gate. -/
def heads16 (f k : FVec Ideal Cert.ReadoutRefIdeal.S4x4096x2048 .bf16) (p : FVec Ideal Cert.ReadoutRefIdeal.S4x4352x16384 .f32) (w : FVec Ideal Cert.ReadoutRefIdeal.S1x2048 .f32) :
    FVec Ideal Cert.ReadoutRefIdeal.S4x4096x2048 .bf16 :=
  truncf .bf16 (mulf (shapeCast _ (mulf (mulf (shapeCast _ (addf (extf .f32 f bitsLt_bf16_f32) (extf .f32 k bitsLt_bf16_f32)) shapeCasts_S4x4096x2048_S4x4096x16x128) (broadcastInDim S4x4096x16x128 ![0, 1, 2, 3] bcast_S4x4096x16x1_S4x4096x16x128_0_1_2_3 (Host.rsqrt (addf (Host.divf (broadcastInDim S4x4096x16x1 ![0, 1, 2] bcast_S4x4096x16_S4x4096x16x1_0_1_2 (Host.reduceAdd (mulf (shapeCast _ (addf (extf .f32 f bitsLt_bf16_f32) (extf .f32 k bitsLt_bf16_f32)) shapeCasts_S4x4096x2048_S4x4096x16x128) (shapeCast _ (addf (extf .f32 f bitsLt_bf16_f32) (extf .f32 k bitsLt_bf16_f32)) shapeCasts_S4x4096x2048_S4x4096x16x128)) (constant S_ .f32 0x00000000#32) reducesTo_S4x4096x16x128_S4x4096x16_d3 h_S_)) (broadcastInDim S4x4096x16x1 ![] bcast_S_S4x4096x16x1 (constant S_ .f32 0x43000000#32))) (broadcastInDim S4x4096x16x1 ![] bcast_S_S4x4096x16x1 (constant S_ .f32 0x358637BD#32)))))) (broadcastInDim S4x4096x16x128 ![0, 1, 2, 3] bcast_S1x1x16x128_S4x4096x16x128_0_1_2_3 (broadcastInDim S1x1x16x128 ![2, 3] bcast_S16x128_S1x1x16x128_2_3 (shapeCast _ w shapeCasts_S1x2048_S16x128)))) shapeCasts_S4x4096x16x128_S4x4096x2048) (mulf (extractStridedSlice S4x4096x2048 ![0, 0, 8192] p slices_S4x4352x16384_S4x4096x2048_0_0_8192) (Host.divf (broadcastInDim S4x4096x2048 ![] bcast_S_S4x4096x2048 (constant S_ .f32 0x3F800000#32)) (addf (broadcastInDim S4x4096x2048 ![] bcast_S_S4x4096x2048 (constant S_ .f32 0x3F800000#32)) (Host.exp (Host.negf (extractStridedSlice S4x4096x2048 ![0, 0, 8192] p slices_S4x4352x16384_S4x4096x2048_0_0_8192))))))) bitsLt_bf16_f32

open Cert.ReadoutRefIdeal Cert.ReadoutRefIdeal.Gen in
/-- The reference's second result: eight heads of 256 under the logistic gate. -/
def heads8 (f k : FVec Ideal Cert.ReadoutRefIdeal.S4x4096x2048 .bf16) (p : FVec Ideal Cert.ReadoutRefIdeal.S4x4352x16384 .f32) (w : FVec Ideal Cert.ReadoutRefIdeal.S1x2048 .f32) :
    FVec Ideal Cert.ReadoutRefIdeal.S4x4096x2048 .bf16 :=
  truncf .bf16 (mulf (shapeCast _ (mulf (mulf (shapeCast _ (addf (extf .f32 f bitsLt_bf16_f32) (extf .f32 k bitsLt_bf16_f32)) shapeCasts_S4x4096x2048_S4x4096x8x256) (broadcastInDim S4x4096x8x256 ![0, 1, 2, 3] bcast_S4x4096x8x1_S4x4096x8x256_0_1_2_3 (Host.rsqrt (addf (Host.divf (broadcastInDim S4x4096x8x1 ![0, 1, 2] bcast_S4x4096x8_S4x4096x8x1_0_1_2 (Host.reduceAdd (mulf (shapeCast _ (addf (extf .f32 f bitsLt_bf16_f32) (extf .f32 k bitsLt_bf16_f32)) shapeCasts_S4x4096x2048_S4x4096x8x256) (shapeCast _ (addf (extf .f32 f bitsLt_bf16_f32) (extf .f32 k bitsLt_bf16_f32)) shapeCasts_S4x4096x2048_S4x4096x8x256)) (constant S_ .f32 0x00000000#32) reducesTo_S4x4096x8x256_S4x4096x8_d3 h_S_)) (broadcastInDim S4x4096x8x1 ![] bcast_S_S4x4096x8x1 (constant S_ .f32 0x43800000#32))) (broadcastInDim S4x4096x8x1 ![] bcast_S_S4x4096x8x1 (constant S_ .f32 0x358637BD#32)))))) (broadcastInDim S4x4096x8x256 ![0, 1, 2, 3] bcast_S1x1x8x256_S4x4096x8x256_0_1_2_3 (broadcastInDim S1x1x8x256 ![2, 3] bcast_S8x256_S1x1x8x256_2_3 (shapeCast _ w shapeCasts_S1x2048_S8x256)))) shapeCasts_S4x4096x8x256_S4x4096x2048) (Host.divf (broadcastInDim S4x4096x2048 ![] bcast_S_S4x4096x2048 (constant S_ .f32 0x3F800000#32)) (addf (broadcastInDim S4x4096x2048 ![] bcast_S_S4x4096x2048 (constant S_ .f32 0x3F800000#32)) (Host.exp (Host.negf (extractStridedSlice S4x4096x2048 ![0, 0, 14336] p slices_S4x4352x16384_S4x4096x2048_0_0_14336)))))) bitsLt_bf16_f32

open Cert.ReadoutIdeal Cert.ReadoutIdeal.Gen

variable (m : (ℓ : Loc nD τ sig) → Buf (Elt Ideal) ℓ)

/-- Where the windows stand at a grid point. -/
theorem idx : ∀ t : Fin cfg0.N, win0_0.index t = ![t.val / 16, t.val % 16, 0]
    ∧ win0_1.index t = ![t.val / 16, t.val % 16, 0]
    ∧ win0_2.index t = ![t.val / 16, t.val % 16, 0]
    ∧ win0_3.index t = ![t.val / 16, t.val % 16, 0]
    ∧ win0_4.index t = ![t.val / 16, t.val % 16, 4]
    ∧ win0_5.index t = ![t.val / 16, t.val % 16, 7]
    ∧ win0_6.index t = ![0, 0]
    ∧ win0_7.index t = ![0, 0]
    ∧ win0_8.index t = ![t.val / 16, t.val % 16, 0]
    ∧ win0_9.index t = ![t.val / 16, t.val % 16, 0] :=
  (by decide +kernel : ∀ t : Fin grid0.N, win0_0.index t = ![t.val / 16, t.val % 16, 0]
    ∧ win0_1.index t = ![t.val / 16, t.val % 16, 0]
    ∧ win0_2.index t = ![t.val / 16, t.val % 16, 0]
    ∧ win0_3.index t = ![t.val / 16, t.val % 16, 0]
    ∧ win0_4.index t = ![t.val / 16, t.val % 16, 4]
    ∧ win0_5.index t = ![t.val / 16, t.val % 16, 7]
    ∧ win0_6.index t = ![0, 0]
    ∧ win0_7.index t = ![0, 0]
    ∧ win0_8.index t = ![t.val / 16, t.val % 16, 0]
    ∧ win0_9.index t = ![t.val / 16, t.val % 16, 0])

/-- Every block of the result array is some grid point's. -/
theorem covers8 : (cfg0.win 8).Covers :=
  (cfg0.win 8).covers_of_index_surj rfl (by decide) fun β => by
    have h0 : (β (0 : Fin 3)).val < 4 := lt_of_lt_of_eq (β (0 : Fin 3)).isLt (by decide)
    have h1 : (β (1 : Fin 3)).val < 16 := lt_of_lt_of_eq (β (1 : Fin 3)).isLt (by decide)
    have h2 : (β (2 : Fin 3)).val < 1 := lt_of_lt_of_eq (β (2 : Fin 3)).isLt (by decide)
    refine ⟨⟨(β (0 : Fin 3)).val * 16 + (β (1 : Fin 3)).val, ?_⟩, fun a => ?_⟩
    · show _ < 64; omega
    · show win0_8.index _ a = _
      rw [(idx _).2.2.2.2.2.2.2.2.1]
      match a with
      | ⟨0, _⟩ => show ((β (0 : Fin 3)).val * 16 + (β (1 : Fin 3)).val) / 16 = (β (0 : Fin 3)).val; omega
      | ⟨1, _⟩ => show ((β (0 : Fin 3)).val * 16 + (β (1 : Fin 3)).val) % 16 = (β (1 : Fin 3)).val; omega
      | ⟨2, _⟩ => show 0 = (β (2 : Fin 3)).val; omega

/-- Every block of the result array is some grid point's. -/
theorem covers9 : (cfg0.win 9).Covers :=
  (cfg0.win 9).covers_of_index_surj rfl (by decide) fun β => by
    have h0 : (β (0 : Fin 3)).val < 4 := lt_of_lt_of_eq (β (0 : Fin 3)).isLt (by decide)
    have h1 : (β (1 : Fin 3)).val < 16 := lt_of_lt_of_eq (β (1 : Fin 3)).isLt (by decide)
    have h2 : (β (2 : Fin 3)).val < 1 := lt_of_lt_of_eq (β (2 : Fin 3)).isLt (by decide)
    refine ⟨⟨(β (0 : Fin 3)).val * 16 + (β (1 : Fin 3)).val, ?_⟩, fun a => ?_⟩
    · show _ < 64; omega
    · show win0_9.index _ a = _
      rw [(idx _).2.2.2.2.2.2.2.2.2]
      match a with
      | ⟨0, _⟩ => show ((β (0 : Fin 3)).val * 16 + (β (1 : Fin 3)).val) / 16 = (β (0 : Fin 3)).val; omega
      | ⟨1, _⟩ => show ((β (0 : Fin 3)).val * 16 + (β (1 : Fin 3)).val) % 16 = (β (1 : Fin 3)).val; omega
      | ⟨2, _⟩ => show 0 = (β (2 : Fin 3)).val; omega

/-- The call reads the norm's weight as one row, as it is given. -/
theorem staged_6 (c : Dev nD) (i : S1x2048.Idx) : V m c main_v2 i = m ((c : Thread nD τ).loc main_arg5) (ix2 (0 : Fin 1) (i 1)) := by
  unfold V
  after_results
  pointwise

theorem iblk_6 (c : Dev nD) (t : Fin cfg0.N) (d : Fin 2048) :
    iblk m c 6 t (ix2 0 d) = m ((c : Thread nD τ).loc main_arg5) (ix2 0 d) := by
  refine (show iblk m c 6 t (ix2 0 d) = V m c main_v2 (ix2 0 d) by blk_ext [iblk, idx t]).trans (staged_6 m c _)

/-- The call reads the norm's weight as one row, as it is given. -/
theorem staged_7 (c : Dev nD) (i : S1x2048.Idx) : V m c main_v3 i = m ((c : Thread nD τ).loc main_arg6) (ix2 (0 : Fin 1) (i 1)) := by
  unfold V
  after_results
  pointwise

theorem iblk_7 (c : Dev nD) (t : Fin cfg0.N) (d : Fin 2048) :
    iblk m c 7 t (ix2 0 d) = m ((c : Thread nD τ).loc main_arg6) (ix2 0 d) := by
  refine (show iblk m c 7 t (ix2 0 d) = V m c main_v3 (ix2 0 d) by blk_ext [iblk, idx t]).trans (staged_7 m c _)

theorem iblk_0 (c : Dev nD) (t : Fin cfg0.N) (ht : t.val < 64) (p : Fin 256) (d : Fin 2048) :
    iblk m c 0 t (ix3 0 p d) = m ((c : Thread nD τ).loc main_arg0) (ix3 (⟨t.val / 16, by omega⟩ : Fin 4) (⟨t.val % 16 * 256 + p.val, by omega⟩ : Fin 4096) d) := by
  blk_ext [iblk, V, idx t]

theorem iblk_1 (c : Dev nD) (t : Fin cfg0.N) (ht : t.val < 64) (p : Fin 256) (d : Fin 2048) :
    iblk m c 1 t (ix3 0 p d) = m ((c : Thread nD τ).loc main_arg1) (ix3 (⟨t.val / 16, by omega⟩ : Fin 4) (⟨t.val % 16 * 256 + p.val, by omega⟩ : Fin 4096) d) := by
  blk_ext [iblk, V, idx t]

theorem iblk_2 (c : Dev nD) (t : Fin cfg0.N) (ht : t.val < 64) (p : Fin 256) (d : Fin 2048) :
    iblk m c 2 t (ix3 0 p d) = m ((c : Thread nD τ).loc main_arg2) (ix3 (⟨t.val / 16, by omega⟩ : Fin 4) (⟨t.val % 16 * 256 + p.val, by omega⟩ : Fin 4096) d) := by
  blk_ext [iblk, V, idx t]

theorem iblk_3 (c : Dev nD) (t : Fin cfg0.N) (ht : t.val < 64) (p : Fin 256) (d : Fin 2048) :
    iblk m c 3 t (ix3 0 p d) = m ((c : Thread nD τ).loc main_arg3) (ix3 (⟨t.val / 16, by omega⟩ : Fin 4) (⟨t.val % 16 * 256 + p.val, by omega⟩ : Fin 4096) d) := by
  blk_ext [iblk, V, idx t]

theorem iblk_4 (c : Dev nD) (t : Fin cfg0.N) (ht : t.val < 64) (p : Fin 256) (d : Fin 2048) :
    iblk m c 4 t (ix3 0 p d) = m ((c : Thread nD τ).loc main_arg4) (ix3 (⟨t.val / 16, by omega⟩ : Fin 4) (⟨t.val % 16 * 256 + p.val, by omega⟩ : Fin 4352) (⟨8192 + d.val, by omega⟩ : Fin 16384)) := by
  blk_ext [iblk, V, idx t]

theorem iblk_5 (c : Dev nD) (t : Fin cfg0.N) (ht : t.val < 64) (p : Fin 256) (d : Fin 2048) :
    iblk m c 5 t (ix3 0 p d) = m ((c : Thread nD τ).loc main_arg4) (ix3 (⟨t.val / 16, by omega⟩ : Fin 4) (⟨t.val % 16 * 256 + p.val, by omega⟩ : Fin 4352) (⟨14336 + d.val, by omega⟩ : Fin 16384)) := by
  blk_ext [iblk, V, idx t]

/-- One element of a head: its weight times the normalized sum, under the gate. -/
def gated128 (s : Fin 128 → EReal) (a w z : EReal) : EReal :=
  a * Ideal.rsqrt (Ideal.div (∑ x, s x * s x) (Ideal.ofBits FTy.f32 1124073472#32) + Ideal.ofBits FTy.f32 897988541#32) * w
    * (z * Ideal.div 1 (1 + Ideal.exp (-z)))

theorem heads16_apply (f k : FVec Ideal Cert.ReadoutRefIdeal.S4x4096x2048 .bf16) (p : FVec Ideal Cert.ReadoutRefIdeal.S4x4352x16384 .f32) (w : FVec Ideal Cert.ReadoutRefIdeal.S1x2048 .f32) (b : Fin 4) (r : Fin 4096) (d : Fin 2048) : heads16 f k p w (ix3 b r d)
    = gated128 (fun x => f (ix3 b r ⟨d.val / 128 * 128 + x.val, by omega⟩) + k (ix3 b r ⟨d.val / 128 * 128 + x.val, by omega⟩))
      (f (ix3 b r d) + k (ix3 b r d)) (w (ix2 0 d)) (p (ix3 b ⟨r.val, by omega⟩ ⟨8192 + d.val, by omega⟩)) := by
  pointwise [heads16, gated128]

theorem pay2_apply (x0 x1 : Vec Ideal S1x256x128 .bf16) (w : Vec Ideal S1x128 .f32) (z : Vec Ideal S1x256x128 .f32) (p : Fin 256) (j : Fin 128) :
    k0_pay2 x0 x1 w z (ix3 0 p j) = gated128 (fun x => x0 (ix3 0 p x) + x1 (ix3 0 p x)) (x0 (ix3 0 p j) + x1 (ix3 0 p j)) (w (ix2 0 j)) (z (ix3 0 p j)) := by
  pointwise [k0_pay2, gated128]
  rw [Cert.Hand.zero_sub_eq, Cert.Hand.div_one_add_exp]

/-- A block of the result, from the blocks read. -/
def block128 (x0 x1 : Vec Ideal S1x256x2048 .bf16) (w : Vec Ideal S1x2048 .f32) (z : Vec Ideal S1x256x2048 .f32) (p : Fin 256) (d : Fin 2048) : EReal :=
  gated128 (fun x => x0 (ix3 0 p ⟨d.val / 128 * 128 + x.val, by omega⟩) + x1 (ix3 0 p ⟨d.val / 128 * 128 + x.val, by omega⟩))
    (x0 (ix3 0 p d) + x1 (ix3 0 p d)) (w (ix2 0 d)) (z (ix3 0 p d))

/-- What the body stores for a head is that head's part of the block. -/
theorem piece128 (x0 x1 : Vec Ideal S1x256x2048 .bf16) (w : Vec Ideal S1x2048 .f32) (z : Vec Ideal S1x256x2048 .f32) (o : ℕ) (ho : o % 128 = 0) (hb : o + 128 ≤ 2048)
    (i1 : ∀ a, ![0, 0, o] a + S1x256x128.size a ≤ S1x256x2048.size a) (i2 : ∀ a, ![0, o] a + S1x128.size a ≤ S1x2048.size a) (x : S1x256x128.Idx) :
    k0_pay2 (View.ld x0 (Rect.unit (s := S1x256x2048) ![0, 0, o] S1x256x128.size i1)) (View.ld x1 (Rect.unit (s := S1x256x2048) ![0, 0, o] S1x256x128.size i1)) (View.ld w (Rect.unit (s := S1x2048) ![0, o] S1x128.size i2)) (View.ld z (Rect.unit (s := S1x256x2048) ![0, 0, o] S1x256x128.size i1)) x
      = (fun y : S1x256x2048.Idx => block128 x0 x1 w z (y 1) (y 2)) ((Rect.unit (s := S1x256x2048) ![0, 0, o] S1x256x128.size i1).emb x) := by
  obtain ⟨p, j, rfl⟩ : ∃ p : Fin 256, ∃ j : Fin 128, x = ix3 (0 : Fin 1) p j := ⟨x (1 : Fin 3), x (2 : Fin 3), funext fun a => by
    match a with
    | ⟨0, _⟩ => exact Fin.ext (Nat.lt_one_iff.mp (x (0 : Fin 3)).isLt)
    | ⟨1, _⟩ => rfl
    | ⟨2, _⟩ => rfl⟩
  have e : ∀ k : Fin 128, (Rect.unit (s := S1x256x2048) ![0, 0, o] S1x256x128.size i1).emb (ix3 (0 : Fin 1) p k) = ix3 (0 : Fin 1) p (⟨o + k.val, by omega⟩ : Fin 2048) := fun k => funext fun a => Fin.ext (by
    match a with
    | ⟨0, _⟩ => rfl
    | ⟨1, _⟩ => show 0 + 1 * p.val = p.val; omega
    | ⟨2, _⟩ => show o + 1 * k.val = o + k.val; omega)
  have e2 : (Rect.unit (s := S1x2048) ![0, o] S1x128.size i2).emb (ix2 (0 : Fin 1) j) = ix2 (0 : Fin 1) (⟨o + j.val, by omega⟩ : Fin 2048) := funext fun a => Fin.ext (by
    match a with
    | ⟨0, _⟩ => rfl
    | ⟨1, _⟩ => show o + 1 * j.val = o + j.val; omega)
  have h : ∀ k : Fin 128, (⟨(o + j.val) / 128 * 128 + k.val, by omega⟩ : Fin 2048) = ⟨o + k.val, by omega⟩ := fun k => Fin.ext (by
    show (o + j.val) / 128 * 128 + k.val = o + k.val; omega)
  rw [pay2_apply, e]
  show gated128 (fun k => x0 ((Rect.unit (s := S1x256x2048) ![0, 0, o] S1x256x128.size i1).emb (ix3 (0 : Fin 1) p k)) + x1 ((Rect.unit (s := S1x256x2048) ![0, 0, o] S1x256x128.size i1).emb (ix3 (0 : Fin 1) p k))) (x0 ((Rect.unit (s := S1x256x2048) ![0, 0, o] S1x256x128.size i1).emb (ix3 (0 : Fin 1) p j)) + x1 ((Rect.unit (s := S1x256x2048) ![0, 0, o] S1x256x128.size i1).emb (ix3 (0 : Fin 1) p j)))
    (w ((Rect.unit (s := S1x2048) ![0, o] S1x128.size i2).emb (ix2 (0 : Fin 1) j))) (z ((Rect.unit (s := S1x256x2048) ![0, 0, o] S1x256x128.size i1).emb (ix3 (0 : Fin 1) p j))) = block128 x0 x1 w z p (⟨o + j.val, by omega⟩ : Fin 2048)
  unfold block128
  simp only [e, e2, h]

set_option maxHeartbeats 4000000 in
/-- The body's stores together are the block. -/
theorem out128_apply (x0 x1 x2 x3 : Vec Ideal S1x256x2048 .bf16) (x4 x5 : Vec Ideal S1x256x2048 .f32) (x6 x7 : Vec Ideal S1x2048 .f32) (p : Fin 256) (d : Fin 2048) :
    out0_8 x0 x1 x2 x3 x4 x5 x6 x7 (ix3 0 p d) = block128 x0 x1 x6 x4 p d := by
  refine (View.canon_apply_of_pieces (fun y : S1x256x2048.Idx => block128 x0 x1 x6 x4 (y 1) (y 2)) _ ?_ (ix3 0 p d) (cover0_8 _ _ _ _ _ _ _ _ _ _ _ _ _ _ _ _ _)).trans rfl
  simp only [List.forall_mem_cons]
  exact ⟨fun x => piece128 x0 x1 x6 x4 1920 (by decide) (by decide) _ _ x,
    fun x => piece128 x0 x1 x6 x4 1792 (by decide) (by decide) _ _ x,
    fun x => piece128 x0 x1 x6 x4 1664 (by decide) (by decide) _ _ x,
    fun x => piece128 x0 x1 x6 x4 1536 (by decide) (by decide) _ _ x,
    fun x => piece128 x0 x1 x6 x4 1408 (by decide) (by decide) _ _ x,
    fun x => piece128 x0 x1 x6 x4 1280 (by decide) (by decide) _ _ x,
    fun x => piece128 x0 x1 x6 x4 1152 (by decide) (by decide) _ _ x,
    fun x => piece128 x0 x1 x6 x4 1024 (by decide) (by decide) _ _ x,
    fun x => piece128 x0 x1 x6 x4 896 (by decide) (by decide) _ _ x,
    fun x => piece128 x0 x1 x6 x4 768 (by decide) (by decide) _ _ x,
    fun x => piece128 x0 x1 x6 x4 640 (by decide) (by decide) _ _ x,
    fun x => piece128 x0 x1 x6 x4 512 (by decide) (by decide) _ _ x,
    fun x => piece128 x0 x1 x6 x4 384 (by decide) (by decide) _ _ x,
    fun x => piece128 x0 x1 x6 x4 256 (by decide) (by decide) _ _ x,
    fun x => piece128 x0 x1 x6 x4 128 (by decide) (by decide) _ _ x,
    fun x => piece128 x0 x1 x6 x4 0 (by decide) (by decide) _ _ x, fun _ h => absurd h List.not_mem_nil⟩

/-- What a grid point leaves in its block is the reference's. -/
theorem at128 (c : Dev nD) (t : Fin cfg0.N) (ht : t.val < 64) (p : Fin 256) (d : Fin 2048) :
    out0_8 (iblk m c 0 t) (iblk m c 1 t) (iblk m c 2 t) (iblk m c 3 t) (iblk m c 4 t) (iblk m c 5 t) (iblk m c 6 t) (iblk m c 7 t) (ix3 0 p d)
      = heads16 (m ((c : Thread nD τ).loc main_arg0)) (m ((c : Thread nD τ).loc main_arg1)) (m ((c : Thread nD τ).loc main_arg4)) (m ((c : Thread nD τ).loc main_arg5)) (ix3 (⟨t.val / 16, by omega⟩ : Fin 4) (⟨t.val % 16 * 256 + p.val, by omega⟩ : Fin 4096) d) := by
  rw [out128_apply, heads16_apply]
  unfold block128
  simp only [iblk_0 m c t ht, iblk_1 m c t ht, iblk_6 m c t, iblk_4 m c t ht]

/-- The kernel's result array is the reference's function of the arguments. -/
theorem final128 (c : Dev nD) : (dats m 0 c).arrAt 8 cfg0.N = heads16 (m ((c : Thread nD τ).loc main_arg0)) (m ((c : Thread nD τ).loc main_arg1)) (m ((c : Thread nD τ).loc main_arg4)) (m ((c : Thread nD τ).loc main_arg5)) := by
  refine (dats m 0 c).arrAt_eq_of_covers 8 _ covers8 fun t hf y => ?_
  have ht : t.val < 64 := t.isLt
  blk_simp
  rw [after0_8]
  obtain ⟨p, d, rfl⟩ : ∃ p : Fin 256, ∃ d : Fin 2048, y = ix3 (0 : Fin 1) p d := ⟨y (1 : Fin 3), y (2 : Fin 3), funext fun a => by
    match a with
    | ⟨0, _⟩ => exact Fin.ext (Nat.lt_one_iff.mp (y (0 : Fin 3)).isLt)
    | ⟨1, _⟩ => rfl
    | ⟨2, _⟩ => rfl⟩
  refine (at128 m c t ht p d).trans (congrArg _ ?_)
  blk_ext [idx t]

/-- One element of a head: its weight times the normalized sum, under the gate. -/
def gated256 (s : Fin 256 → EReal) (a w z : EReal) : EReal :=
  a * Ideal.rsqrt (Ideal.div (∑ x, s x * s x) (Ideal.ofBits FTy.f32 1132462080#32) + Ideal.ofBits FTy.f32 897988541#32) * w
    * (Ideal.div 1 (1 + Ideal.exp (-z)))

theorem heads8_apply (f k : FVec Ideal Cert.ReadoutRefIdeal.S4x4096x2048 .bf16) (p : FVec Ideal Cert.ReadoutRefIdeal.S4x4352x16384 .f32) (w : FVec Ideal Cert.ReadoutRefIdeal.S1x2048 .f32) (b : Fin 4) (r : Fin 4096) (d : Fin 2048) : heads8 f k p w (ix3 b r d)
    = gated256 (fun x => f (ix3 b r ⟨d.val / 256 * 256 + x.val, by omega⟩) + k (ix3 b r ⟨d.val / 256 * 256 + x.val, by omega⟩))
      (f (ix3 b r d) + k (ix3 b r d)) (w (ix2 0 d)) (p (ix3 b ⟨r.val, by omega⟩ ⟨14336 + d.val, by omega⟩)) := by
  pointwise [heads8, gated256]

theorem pay56_apply (x0 x1 : Vec Ideal S1x256x256 .bf16) (w : Vec Ideal S1x256 .f32) (z : Vec Ideal S1x256x256 .f32) (p : Fin 256) (j : Fin 256) :
    k0_pay56 x0 x1 w z (ix3 0 p j) = gated256 (fun x => x0 (ix3 0 p x) + x1 (ix3 0 p x)) (x0 (ix3 0 p j) + x1 (ix3 0 p j)) (w (ix2 0 j)) (z (ix3 0 p j)) := by
  pointwise [k0_pay56, gated256]
  rw [Cert.Hand.zero_sub_eq]

/-- A block of the result, from the blocks read. -/
def block256 (x0 x1 : Vec Ideal S1x256x2048 .bf16) (w : Vec Ideal S1x2048 .f32) (z : Vec Ideal S1x256x2048 .f32) (p : Fin 256) (d : Fin 2048) : EReal :=
  gated256 (fun x => x0 (ix3 0 p ⟨d.val / 256 * 256 + x.val, by omega⟩) + x1 (ix3 0 p ⟨d.val / 256 * 256 + x.val, by omega⟩))
    (x0 (ix3 0 p d) + x1 (ix3 0 p d)) (w (ix2 0 d)) (z (ix3 0 p d))

/-- What the body stores for a head is that head's part of the block. -/
theorem piece256 (x0 x1 : Vec Ideal S1x256x2048 .bf16) (w : Vec Ideal S1x2048 .f32) (z : Vec Ideal S1x256x2048 .f32) (o : ℕ) (ho : o % 256 = 0) (hb : o + 256 ≤ 2048)
    (i1 : ∀ a, ![0, 0, o] a + S1x256x256.size a ≤ S1x256x2048.size a) (i2 : ∀ a, ![0, o] a + S1x256.size a ≤ S1x2048.size a) (x : S1x256x256.Idx) :
    k0_pay56 (View.ld x0 (Rect.unit (s := S1x256x2048) ![0, 0, o] S1x256x256.size i1)) (View.ld x1 (Rect.unit (s := S1x256x2048) ![0, 0, o] S1x256x256.size i1)) (View.ld w (Rect.unit (s := S1x2048) ![0, o] S1x256.size i2)) (View.ld z (Rect.unit (s := S1x256x2048) ![0, 0, o] S1x256x256.size i1)) x
      = (fun y : S1x256x2048.Idx => block256 x0 x1 w z (y 1) (y 2)) ((Rect.unit (s := S1x256x2048) ![0, 0, o] S1x256x256.size i1).emb x) := by
  obtain ⟨p, j, rfl⟩ : ∃ p : Fin 256, ∃ j : Fin 256, x = ix3 (0 : Fin 1) p j := ⟨x (1 : Fin 3), x (2 : Fin 3), funext fun a => by
    match a with
    | ⟨0, _⟩ => exact Fin.ext (Nat.lt_one_iff.mp (x (0 : Fin 3)).isLt)
    | ⟨1, _⟩ => rfl
    | ⟨2, _⟩ => rfl⟩
  have e : ∀ k : Fin 256, (Rect.unit (s := S1x256x2048) ![0, 0, o] S1x256x256.size i1).emb (ix3 (0 : Fin 1) p k) = ix3 (0 : Fin 1) p (⟨o + k.val, by omega⟩ : Fin 2048) := fun k => funext fun a => Fin.ext (by
    match a with
    | ⟨0, _⟩ => rfl
    | ⟨1, _⟩ => show 0 + 1 * p.val = p.val; omega
    | ⟨2, _⟩ => show o + 1 * k.val = o + k.val; omega)
  have e2 : (Rect.unit (s := S1x2048) ![0, o] S1x256.size i2).emb (ix2 (0 : Fin 1) j) = ix2 (0 : Fin 1) (⟨o + j.val, by omega⟩ : Fin 2048) := funext fun a => Fin.ext (by
    match a with
    | ⟨0, _⟩ => rfl
    | ⟨1, _⟩ => show o + 1 * j.val = o + j.val; omega)
  have h : ∀ k : Fin 256, (⟨(o + j.val) / 256 * 256 + k.val, by omega⟩ : Fin 2048) = ⟨o + k.val, by omega⟩ := fun k => Fin.ext (by
    show (o + j.val) / 256 * 256 + k.val = o + k.val; omega)
  rw [pay56_apply, e]
  show gated256 (fun k => x0 ((Rect.unit (s := S1x256x2048) ![0, 0, o] S1x256x256.size i1).emb (ix3 (0 : Fin 1) p k)) + x1 ((Rect.unit (s := S1x256x2048) ![0, 0, o] S1x256x256.size i1).emb (ix3 (0 : Fin 1) p k))) (x0 ((Rect.unit (s := S1x256x2048) ![0, 0, o] S1x256x256.size i1).emb (ix3 (0 : Fin 1) p j)) + x1 ((Rect.unit (s := S1x256x2048) ![0, 0, o] S1x256x256.size i1).emb (ix3 (0 : Fin 1) p j)))
    (w ((Rect.unit (s := S1x2048) ![0, o] S1x256.size i2).emb (ix2 (0 : Fin 1) j))) (z ((Rect.unit (s := S1x256x2048) ![0, 0, o] S1x256x256.size i1).emb (ix3 (0 : Fin 1) p j))) = block256 x0 x1 w z p (⟨o + j.val, by omega⟩ : Fin 2048)
  unfold block256
  simp only [e, e2, h]

set_option maxHeartbeats 4000000 in
/-- The body's stores together are the block. -/
theorem out256_apply (x0 x1 x2 x3 : Vec Ideal S1x256x2048 .bf16) (x4 x5 : Vec Ideal S1x256x2048 .f32) (x6 x7 : Vec Ideal S1x2048 .f32) (p : Fin 256) (d : Fin 2048) :
    out0_9 x0 x1 x2 x3 x4 x5 x6 x7 (ix3 0 p d) = block256 x2 x3 x7 x5 p d := by
  refine (View.canon_apply_of_pieces (fun y : S1x256x2048.Idx => block256 x2 x3 x7 x5 (y 1) (y 2)) _ ?_ (ix3 0 p d) (cover0_9 _ _ _ _ _ _ _ _ _)).trans rfl
  simp only [List.forall_mem_cons]
  exact ⟨fun x => piece256 x2 x3 x7 x5 1792 (by decide) (by decide) _ _ x,
    fun x => piece256 x2 x3 x7 x5 1536 (by decide) (by decide) _ _ x,
    fun x => piece256 x2 x3 x7 x5 1280 (by decide) (by decide) _ _ x,
    fun x => piece256 x2 x3 x7 x5 1024 (by decide) (by decide) _ _ x,
    fun x => piece256 x2 x3 x7 x5 768 (by decide) (by decide) _ _ x,
    fun x => piece256 x2 x3 x7 x5 512 (by decide) (by decide) _ _ x,
    fun x => piece256 x2 x3 x7 x5 256 (by decide) (by decide) _ _ x,
    fun x => piece256 x2 x3 x7 x5 0 (by decide) (by decide) _ _ x, fun _ h => absurd h List.not_mem_nil⟩

/-- What a grid point leaves in its block is the reference's. -/
theorem at256 (c : Dev nD) (t : Fin cfg0.N) (ht : t.val < 64) (p : Fin 256) (d : Fin 2048) :
    out0_9 (iblk m c 0 t) (iblk m c 1 t) (iblk m c 2 t) (iblk m c 3 t) (iblk m c 4 t) (iblk m c 5 t) (iblk m c 6 t) (iblk m c 7 t) (ix3 0 p d)
      = heads8 (m ((c : Thread nD τ).loc main_arg2)) (m ((c : Thread nD τ).loc main_arg3)) (m ((c : Thread nD τ).loc main_arg4)) (m ((c : Thread nD τ).loc main_arg6)) (ix3 (⟨t.val / 16, by omega⟩ : Fin 4) (⟨t.val % 16 * 256 + p.val, by omega⟩ : Fin 4096) d) := by
  rw [out256_apply, heads8_apply]
  unfold block256
  simp only [iblk_2 m c t ht, iblk_3 m c t ht, iblk_7 m c t, iblk_5 m c t ht]

/-- The kernel's result array is the reference's function of the arguments. -/
theorem final256 (c : Dev nD) : (dats m 0 c).arrAt 9 cfg0.N = heads8 (m ((c : Thread nD τ).loc main_arg2)) (m ((c : Thread nD τ).loc main_arg3)) (m ((c : Thread nD τ).loc main_arg4)) (m ((c : Thread nD τ).loc main_arg6)) := by
  refine (dats m 0 c).arrAt_eq_of_covers 9 _ covers9 fun t hf y => ?_
  have ht : t.val < 64 := t.isLt
  blk_simp
  rw [after0_9]
  obtain ⟨p, d, rfl⟩ : ∃ p : Fin 256, ∃ d : Fin 2048, y = ix3 (0 : Fin 1) p d := ⟨y (1 : Fin 3), y (2 : Fin 3), funext fun a => by
    match a with
    | ⟨0, _⟩ => exact Fin.ext (Nat.lt_one_iff.mp (y (0 : Fin 3)).isLt)
    | ⟨1, _⟩ => rfl
    | ⟨2, _⟩ => rfl⟩
  refine (at256 m c t ht p d).trans (congrArg _ ?_)
  blk_ext [idx t]

/-- The two programs, from the same arguments, end with the same results. -/
theorem algebraic : Cert.algebraic_ReadoutIdeal_ReadoutRefIdeal := by
  intro m g m' g' _ hm
  refine ⟨fun c => heads16 (m ((c : Thread nD τ).loc main_arg0)) (m ((c : Thread nD τ).loc main_arg1)) (m ((c : Thread nD τ).loc main_arg4)) (m ((c : Thread nD τ).loc main_arg5)), fun c => heads8 (m ((c : Thread nD τ).loc main_arg2)) (m ((c : Thread nD τ).loc main_arg3)) (m ((c : Thread nD τ).loc main_arg4)) (m ((c : Thread nD τ).loc main_arg6)), ?_, ?_⟩
  · exact (θ_run defs _ _).mono (fun r h c => ⟨(h c).1.trans (final128 m c), (h c).2.1.trans (final256 m c), (h c).2.2⟩) (Cert.ReadoutIdeal.Value.run_blocks m g)
  · refine (θ_run Cert.ReadoutRefIdeal.defs _ _).mono (fun r h c => ⟨(h c).1.trans ?_, (h c).2.1.trans ?_, (h c).2.2⟩)
      (Cert.ReadoutRefIdeal.Value.run m' g')
    · rw [(hm c).1, (hm c).2.1, (hm c).2.2.2.2.1, (hm c).2.2.2.2.2.1]
      rfl
    · rw [(hm c).2.2.1, (hm c).2.2.2.1, (hm c).2.2.2.2.1, (hm c).2.2.2.2.2.2]
      rfl

/-- The reference runs to its end, its arguments unchanged; it has no counter. -/
theorem frame_reference : Cert.quiescent_ReadoutRefIdeal := fun m ρ _ =>
  (θ_run Cert.ReadoutRefIdeal.defs _ _).mono (fun r h => ⟨fun c => (h c).2.2, sem_eq_zero_of_no_sems (by decide) r.2⟩)
    (Cert.ReadoutRefIdeal.Value.run m ρ)

end Cert.Hand.Readout

end
-- ==== Proof.ResidBody.lean ====
/-
  The residual's call: the mixer's output is normalized, gated and added to the tokens; the sum is normalized, scaled and
  shifted for the experts; and a softmax over the router's scores gives each expert's share of a token.
-/
module

public import proofs.«01_k».proof.Defs
public import proofs.«01_k».proof.Proof.Gen.ResidIdeal.Value
public import proofs.«01_k».proof.Proof.Gen.ResidRefIdeal.Run
public import Idealize.ShloMosaic.Lib.Pipeline.ValueKit
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Hand.Resid

open Cert.ResidRefIdeal Cert.ResidRefIdeal.Gen in
/-- The reference's residual: the tokens and the gated, normalized output of the mixer. -/
def residual (x : FVec Ideal Cert.ResidRefIdeal.S4x4096x4096 .f32) (mix : FVec Ideal Cert.ResidRefIdeal.S4x4096x4096 .bf16) (g : FVec Ideal Cert.ResidRefIdeal.S1x4x4096 .f32) (mod : FVec Ideal Cert.ResidRefIdeal.S8x24576 .f32) : FVec Ideal Cert.ResidRefIdeal.S4x4096x4096 .f32 :=
  addf x (mulf (broadcastInDim S4x4096x4096 ![0, 1, 2] bcast_S4x1x4096_S4x4096x4096_0_1_2 (broadcastInDim S4x1x4096 ![0, 2] bcast_S4x4096_S4x1x4096_0_2 (shapeCast _ (extractStridedSlice S4x1x4096 ![0, 2, 0] (shapeCast _ mod shapeCasts_S8x24576_S8x6x4096) slices_S8x6x4096_S4x1x4096_0_2_0) shapeCasts_S4x1x4096_S4x4096))) (mulf (mulf (extf .f32 mix bitsLt_bf16_f32) (broadcastInDim S4x4096x4096 ![0, 1, 2] bcast_S4x4096x1_S4x4096x4096_0_1_2 (Host.rsqrt (addf (Host.divf (broadcastInDim S4x4096x1 ![0, 1] bcast_S4x4096_S4x4096x1_0_1 (Host.reduceAdd (mulf (extf .f32 mix bitsLt_bf16_f32) (extf .f32 mix bitsLt_bf16_f32)) (constant S_ .f32 0x00000000#32) reducesTo_S4x4096x4096_S4x4096_d2 h_S_)) (broadcastInDim S4x4096x1 ![] bcast_S_S4x4096x1 (constant S_ .f32 0x45800000#32))) (broadcastInDim S4x4096x1 ![] bcast_S_S4x4096x1 (constant S_ .f32 0x358637BD#32)))))) (broadcastInDim S4x4096x4096 ![0, 1, 2] bcast_S1x1x4096_S4x4096x4096_0_1_2 (broadcastInDim S1x1x4096 ![2] bcast_S4096_S1x1x4096_2 (shapeCast _ (extractStridedSlice S1x1x4096 ![0, 1, 0] g slices_S1x4x4096_S1x1x4096_0_1_0) shapeCasts_S1x1x4096_S4096)))))

open Cert.ResidRefIdeal Cert.ResidRefIdeal.Gen in
/-- What the reference's experts read of the residual. -/
def modulated (h : FVec Ideal Cert.ResidRefIdeal.S4x4096x4096 .f32) (g : FVec Ideal Cert.ResidRefIdeal.S1x4x4096 .f32) (mod : FVec Ideal Cert.ResidRefIdeal.S8x24576 .f32) : FVec Ideal Cert.ResidRefIdeal.S4x4096x4096 .f32 :=
  (addf (mulf (mulf (mulf h (broadcastInDim S4x4096x4096 ![0, 1, 2] bcast_S4x4096x1_S4x4096x4096_0_1_2 (Host.rsqrt (addf (Host.divf (broadcastInDim S4x4096x1 ![0, 1] bcast_S4x4096_S4x4096x1_0_1 (Host.reduceAdd (mulf h h) (constant S_ .f32 0x00000000#32) reducesTo_S4x4096x4096_S4x4096_d2 h_S_)) (broadcastInDim S4x4096x1 ![] bcast_S_S4x4096x1 (constant S_ .f32 0x45800000#32))) (broadcastInDim S4x4096x1 ![] bcast_S_S4x4096x1 (constant S_ .f32 0x358637BD#32)))))) (broadcastInDim S4x4096x4096 ![0, 1, 2] bcast_S1x1x4096_S4x4096x4096_0_1_2 (broadcastInDim S1x1x4096 ![2] bcast_S4096_S1x1x4096_2 (shapeCast _ (extractStridedSlice S1x1x4096 ![0, 2, 0] g slices_S1x4x4096_S1x1x4096_0_2_0) shapeCasts_S1x1x4096_S4096)))) (broadcastInDim S4x4096x4096 ![0, 1, 2] bcast_S4x1x4096_S4x4096x4096_0_1_2 (addf (broadcastInDim S4x1x4096 ![] bcast_S_S4x1x4096 (constant S_ .f32 0x3F800000#32)) (broadcastInDim S4x1x4096 ![0, 2] bcast_S4x4096_S4x1x4096_0_2 (shapeCast _ (extractStridedSlice S4x1x4096 ![0, 4, 0] (shapeCast _ mod shapeCasts_S8x24576_S8x6x4096) slices_S8x6x4096_S4x1x4096_0_4_0) shapeCasts_S4x1x4096_S4x4096))))) (broadcastInDim S4x4096x4096 ![0, 1, 2] bcast_S4x1x4096_S4x4096x4096_0_1_2 (broadcastInDim S4x1x4096 ![0, 2] bcast_S4x4096_S4x1x4096_0_2 (shapeCast _ (extractStridedSlice S4x1x4096 ![0, 3, 0] (shapeCast _ mod shapeCasts_S8x24576_S8x6x4096) slices_S8x6x4096_S4x1x4096_0_3_0) shapeCasts_S4x1x4096_S4x4096))))

open Cert.ResidRefIdeal Cert.ResidRefIdeal.Gen in
/-- The reference's router scores, minus infinity where a lane has no expert. -/
def scores (v : FVec Ideal Cert.ResidRefIdeal.S4x4096x4096 .f32) (w : FVec Ideal Cert.ResidRefIdeal.S1x4096x16 .f32) : FVec Ideal Cert.ResidRefIdeal.S4x4096x128 .f32 :=
  (pad S4x4096x128 ![0, 0, 0] ![0, 0, 112] ![0, 0, 0] (Host.dotGeneral dot_S4x4096x4096_S4096x16_S4x4096x16_2_0_01_1_n_n none v (shapeCast _ w shapeCasts_S1x4096x16_S4096x16)) (id (constant S_ .f32 0xFF800000#32)) pads_S4x4096x16_S4x4096x128_000_000_01120 h_S_)

open Cert.ResidRefIdeal Cert.ResidRefIdeal.Gen in
/-- The reference's softmax over the lanes. -/
def shares (s : FVec Ideal Cert.ResidRefIdeal.S4x4096x128 .f32) : FVec Ideal Cert.ResidRefIdeal.S4x4096x128 .f32 :=
  Host.divf (Host.exp (subf s (broadcastInDim S4x4096x128 ![0, 1, 2] bcast_S4x4096x1_S4x4096x128_0_1_2 (broadcastInDim S4x4096x1 ![0, 1] bcast_S4x4096_S4x4096x1_0_1 (maximumf (broadcastInDim S4x4096 ![] bcast_S_S4x4096 (constant S_ .f32 0xFF800000#32)) (Host.reduce FloatOps.maximumf s (constant S_ .f32 0xFF800000#32) reducesTo_S4x4096x128_S4x4096_d2 h_S_)))))) (broadcastInDim S4x4096x128 ![0, 1, 2] bcast_S4x4096x1_S4x4096x128_0_1_2 (broadcastInDim S4x4096x1 ![0, 1] bcast_S4x4096_S4x4096x1_0_1 (Host.reduceAdd (Host.exp (subf s (broadcastInDim S4x4096x128 ![0, 1, 2] bcast_S4x4096x1_S4x4096x128_0_1_2 (broadcastInDim S4x4096x1 ![0, 1] bcast_S4x4096_S4x4096x1_0_1 (maximumf (broadcastInDim S4x4096 ![] bcast_S_S4x4096 (constant S_ .f32 0xFF800000#32)) (Host.reduce FloatOps.maximumf s (constant S_ .f32 0xFF800000#32) reducesTo_S4x4096x128_S4x4096_d2 h_S_)))))) (constant S_ .f32 0x00000000#32) reducesTo_S4x4096x128_S4x4096_d2 h_S_)))

open Cert.ResidRefIdeal Cert.ResidRefIdeal.Gen in
/-- What the experts read, in the format the reference returns. -/
def tokens (x : FVec Ideal Cert.ResidRefIdeal.S4x4096x4096 .f32) (mix : FVec Ideal Cert.ResidRefIdeal.S4x4096x4096 .bf16) (g : FVec Ideal Cert.ResidRefIdeal.S1x4x4096 .f32) (mod : FVec Ideal Cert.ResidRefIdeal.S8x24576 .f32) : FVec Ideal Cert.ResidRefIdeal.S4x4096x4096 .bf16 :=
  truncf .bf16 (modulated (residual x mix g mod) g mod) bitsLt_bf16_f32

/-- The reference's affinities, as a function of its arguments. -/
def affinity (x : FVec Ideal Cert.ResidRefIdeal.S4x4096x4096 .f32) (mix : FVec Ideal Cert.ResidRefIdeal.S4x4096x4096 .bf16) (g : FVec Ideal Cert.ResidRefIdeal.S1x4x4096 .f32) (mod : FVec Ideal Cert.ResidRefIdeal.S8x24576 .f32) (w : FVec Ideal Cert.ResidRefIdeal.S1x4096x16 .f32) : FVec Ideal Cert.ResidRefIdeal.S4x4096x128 .f32 :=
  shares (scores (modulated (residual x mix g mod) g mod) w)

/-- One element of the residual: the token's, and the gated element of the normalized row. -/
def sumAt (x v g gate : Fin 4096 → EReal) (d : Fin 4096) : EReal :=
  x d + gate d * (v d * Ideal.rsqrt (Ideal.div (∑ k, v k * v k) (Ideal.ofBits FTy.f32 1166016512#32) + Ideal.ofBits FTy.f32 897988541#32) * g d)

/-- One normalized element: the row, its weight, scale and shift. -/
def normedAt (v g sc sh : Fin 4096 → EReal) (d : Fin 4096) : EReal :=
  v d * Ideal.rsqrt (Ideal.div (∑ k, v k * v k) (Ideal.ofBits FTy.f32 1166016512#32) + Ideal.ofBits FTy.f32 897988541#32) * g d
    * (1 + sc d) + sh d

/-- One lane's score. -/
def scoreAt (v : Fin 4096 → EReal) (w : Fin 4096 → Fin 16 → EReal) (e : Fin 128) : EReal :=
  if h : e.val < 16 then ∑ k, v k * w k ⟨e.val, h⟩ else Ideal.ofBits FTy.f32 4286578688#32

/-- One lane of the softmax. -/
def shareAt (s : Fin 128 → EReal) (e : Fin 128) : EReal :=
  Ideal.div (Ideal.exp (s e - Finset.univ.fold max (Ideal.ofBits FTy.f32 4286578688#32) s))
    (∑ k, Ideal.exp (s k - Finset.univ.fold max (Ideal.ofBits FTy.f32 4286578688#32) s))

theorem residual_apply (x : FVec Ideal Cert.ResidRefIdeal.S4x4096x4096 .f32) (mix : FVec Ideal Cert.ResidRefIdeal.S4x4096x4096 .bf16) (g : FVec Ideal Cert.ResidRefIdeal.S1x4x4096 .f32) (mod : FVec Ideal Cert.ResidRefIdeal.S8x24576 .f32) (b : Fin 4) (r d : Fin 4096) :
    residual x mix g mod (ix3 b r d) = sumAt (fun d => x (ix3 b r d)) (fun d => mix (ix3 b r d)) (fun d => g (ix3 0 1 d))
      (fun d => mod (ix2 ⟨b.val, by omega⟩ ⟨8192 + d.val, by omega⟩)) d := by
  pointwise [residual, sumAt]

theorem modulated_apply (h : FVec Ideal Cert.ResidRefIdeal.S4x4096x4096 .f32) (g : FVec Ideal Cert.ResidRefIdeal.S1x4x4096 .f32) (mod : FVec Ideal Cert.ResidRefIdeal.S8x24576 .f32) (b : Fin 4) (r d : Fin 4096) :
    modulated h g mod (ix3 b r d) = normedAt (fun d => h (ix3 b r d)) (fun d => g (ix3 0 2 d))
      (fun d => mod (ix2 ⟨b.val, by omega⟩ ⟨16384 + d.val, by omega⟩)) (fun d => mod (ix2 ⟨b.val, by omega⟩ ⟨12288 + d.val, by omega⟩)) d := by
  pointwise [modulated, normedAt]

theorem scores_apply (v : FVec Ideal Cert.ResidRefIdeal.S4x4096x4096 .f32) (w : FVec Ideal Cert.ResidRefIdeal.S1x4096x16 .f32) (b : Fin 4) (r : Fin 4096) (e : Fin 128) :
    scores v w (ix3 b r e) = scoreAt (fun d => v (ix3 b r d)) (fun k e => w (ix3 0 k e)) e := by
  pointwise [scores, scoreAt]
  rfl

theorem shares_apply (s : FVec Ideal Cert.ResidRefIdeal.S4x4096x128 .f32) (b : Fin 4) (r : Fin 4096) (e : Fin 128) :
    shares s (ix3 b r e) = shareAt (fun e => s (ix3 b r e)) e := by
  have hm : max (Ideal.ofBits FTy.f32 4286578688#32) (Finset.univ.fold max (Ideal.ofBits FTy.f32 4286578688#32) fun x => s (ix3 b r x))
      = Finset.univ.fold max (Ideal.ofBits FTy.f32 4286578688#32) fun x => s (ix3 b r x) :=
    max_eq_right ((Finset.le_fold_max _).2 (Or.inl le_rfl))
  pointwise [shares, shareAt]
  rw [hm]

open Cert.ResidIdeal Cert.ResidIdeal.Gen

theorem pay2_apply (v0 : Vec Ideal S1x256x4096 .f32) (v2 : Vec Ideal S1x1x4096 .f32) (v4 : Vec Ideal S1x256x4096 .bf16) (v7 : Vec Ideal S1x4096 .f32)
    (p : Fin 256) (d : Fin 4096) : k0_pay2 v0 v2 v4 v7 (ix2 p d)
      = sumAt (fun d => v0 (ix3 0 p d)) (fun d => v4 (ix3 0 p d)) (fun d => v7 (ix2 0 d)) (fun d => v2 (ix3 0 0 d)) d := by
  pointwise [k0_pay2, sumAt]

theorem pay3_apply (v0 : Vec Ideal S1x256x4096 .f32) (v2 : Vec Ideal S1x1x4096 .f32) (v4 : Vec Ideal S1x256x4096 .bf16) (v7 : Vec Ideal S1x4096 .f32)
    (p : Fin 256) (d : Fin 4096) : k0_pay3 v0 v2 v4 v7 (ix3 0 p d)
      = sumAt (fun d => v0 (ix3 0 p d)) (fun d => v4 (ix3 0 p d)) (fun d => v7 (ix2 0 d)) (fun d => v2 (ix3 0 0 d)) d := by
  refine Eq.trans ?_ (pay2_apply v0 v2 v4 v7 p d)
  pointwise [k0_pay3]

theorem pay7_apply (v0 : Vec Ideal S1x256x4096 .f32) (v2 : Vec Ideal S1x1x4096 .f32) (v4 : Vec Ideal S1x256x4096 .bf16) (v7 : Vec Ideal S1x4096 .f32)
    (v27 : Vec Ideal S1x4096 .f32) (v41 v47 : Vec Ideal S1x1x4096 .f32) (p : Fin 256) (d : Fin 4096) :
    k0_pay7 (k0_pay2 v0 v2 v4 v7) (k0_pay4 v27) (k0_pay5 v0 v2 v4 v7) k0_pay6 v41 v47 (ix2 p d)
      = normedAt (sumAt (fun d => v0 (ix3 0 p d)) (fun d => v4 (ix3 0 p d)) (fun d => v7 (ix2 0 d)) (fun d => v2 (ix3 0 0 d)))
        (fun d => v27 (ix2 0 d)) (fun d => v41 (ix3 0 0 d)) (fun d => v47 (ix3 0 0 d)) d := by
  have e : (fun d => k0_pay2 v0 v2 v4 v7 (ix2 p d)) = sumAt (fun d => v0 (ix3 0 p d)) (fun d => v4 (ix3 0 p d)) (fun d => v7 (ix2 0 d)) (fun d => v2 (ix3 0 0 d)) :=
    funext fun d => pay2_apply v0 v2 v4 v7 p d
  rw [← e]
  pointwise [k0_pay7, k0_pay4, k0_pay5, k0_pay6, normedAt]

theorem pay8_apply (v23 : FVec Ideal S256x4096 .f32) (v28 : FVec Ideal S1x4096 .f32) (v33 v34 : FVec Ideal S256x1 .f32)
    (v41 v47 : Vec Ideal S1x1x4096 .f32) (p : Fin 256) (d : Fin 4096) :
    k0_pay8 v23 v28 v33 v34 v41 v47 (ix3 0 p d) = k0_pay7 v23 v28 v33 v34 v41 v47 (ix2 p d) := by
  pointwise [k0_pay8]

/-- The mask over the lanes is by the lane's number. -/
theorem masked (x : Fin 128) (a b : EReal) :
    Scalar.select (IntOp.cmpi CmpIPredicate.slt (BitVec.ofNat 32 x.val) 16#32) a b = if x.val < 16 then a else b := by
  have h : ∀ x : Fin 128, IntOp.cmpi CmpIPredicate.slt (BitVec.ofNat 32 x.val) 16#32 = if x.val < 16 then 1#1 else 0#1 := by decide
  rw [h x]
  by_cases hx : x.val < 16
  · rw [if_pos hx, if_pos hx]; rfl
  · rw [if_neg hx, if_neg hx]; rfl

theorem pay9_apply (v23 : FVec Ideal S256x4096 .f32) (v28 : FVec Ideal S1x4096 .f32) (v33 v34 : FVec Ideal S256x1 .f32)
    (v41 v47 : Vec Ideal S1x1x4096 .f32) (v55 : Vec Ideal S4096x128 .f32) (p : Fin 256) (e : Fin 128) :
    k0_pay1 (k0_pay9 v23 v28 v33 v34 v41 v47 v55) (ix3 0 p e)
      = shareAt (fun e => if e.val < 16 then ∑ k, k0_pay7 v23 v28 v33 v34 v41 v47 (ix2 p k) * v55 (ix2 k e) else Ideal.ofBits FTy.f32 4286578688#32) e := by
  pointwise [k0_pay1, k0_pay9]
  simp only [masked]
  rfl

end Cert.Hand.Resid

end
-- ==== Proof.ResidValue.lean ====
/-
  The residual's call against its reference: the three results' blocks, grid point by grid point.
-/
module

public import proofs.«01_k».proof.Proof.ResidBody

@[expose] public section

set_option maxRecDepth 16384

noncomputable section

open Idealize.ShloMosaic Idealize.ShloMosaic.TcCoe Idealize.SL.Sem
open Idealize.ShloMosaic.Pipeline (Dat)

namespace Cert.Hand.Resid

open Cert.ResidIdeal Cert.ResidIdeal.Gen

variable (m : (ℓ : Loc nD τ sig) → Buf (Elt Ideal) ℓ)

/-- Where the windows stand at a grid point. -/
theorem idx : ∀ t : Fin cfg0.N, win0_0.index t = ![t.val / 16, t.val % 16, 0]
    ∧ win0_1.index t = ![t.val / 16, t.val % 16, 0]
    ∧ win0_2.index t = ![0, 0]
    ∧ win0_3.index t = ![0, 0]
    ∧ win0_4.index t = ![t.val / 16, 0, 2]
    ∧ win0_5.index t = ![t.val / 16, 0, 3]
    ∧ win0_6.index t = ![t.val / 16, 0, 4]
    ∧ win0_7.index t = ![0, 0]
    ∧ win0_8.index t = ![t.val / 16, t.val % 16, 0]
    ∧ win0_9.index t = ![t.val / 16, t.val % 16, 0]
    ∧ win0_10.index t = ![t.val / 16, t.val % 16, 0] :=
  (by decide +kernel : ∀ t : Fin grid0.N, win0_0.index t = ![t.val / 16, t.val % 16, 0]
    ∧ win0_1.index t = ![t.val / 16, t.val % 16, 0]
    ∧ win0_2.index t = ![0, 0]
    ∧ win0_3.index t = ![0, 0]
    ∧ win0_4.index t = ![t.val / 16, 0, 2]
    ∧ win0_5.index t = ![t.val / 16, 0, 3]
    ∧ win0_6.index t = ![t.val / 16, 0, 4]
    ∧ win0_7.index t = ![0, 0]
    ∧ win0_8.index t = ![t.val / 16, t.val % 16, 0]
    ∧ win0_9.index t = ![t.val / 16, t.val % 16, 0]
    ∧ win0_10.index t = ![t.val / 16, t.val % 16, 0])

/-- Every block of the result array is some grid point's. -/
theorem covers8 : (cfg0.win 8).Covers :=
  (cfg0.win 8).covers_of_index_surj rfl (by decide) fun β => by
    have h0 : (β (0 : Fin 3)).val < 4 := lt_of_lt_of_eq (β (0 : Fin 3)).isLt (by decide)
    have h1 : (β (1 : Fin 3)).val < 16 := lt_of_lt_of_eq (β (1 : Fin 3)).isLt (by decide)
    have h2 : (β (2 : Fin 3)).val < 1 := lt_of_lt_of_eq (β (2 : Fin 3)).isLt (by decide)
    refine ⟨⟨(β (0 : Fin 3)).val * 16 + (β (1 : Fin 3)).val, ?_⟩, fun a => ?_⟩
    · show _ < 64; omega
    · show win0_8.index _ a = _
      rw [(idx _).2.2.2.2.2.2.2.2.1]
      match a with
      | ⟨0, _⟩ => show ((β (0 : Fin 3)).val * 16 + (β (1 : Fin 3)).val) / 16 = (β (0 : Fin 3)).val; omega
      | ⟨1, _⟩ => show ((β (0 : Fin 3)).val * 16 + (β (1 : Fin 3)).val) % 16 = (β (1 : Fin 3)).val; omega
      | ⟨2, _⟩ => show 0 = (β (2 : Fin 3)).val; omega

/-- Every block of the result array is some grid point's. -/
theorem covers9 : (cfg0.win 9).Covers :=
  (cfg0.win 9).covers_of_index_surj rfl (by decide) fun β => by
    have h0 : (β (0 : Fin 3)).val < 4 := lt_of_lt_of_eq (β (0 : Fin 3)).isLt (by decide)
    have h1 : (β (1 : Fin 3)).val < 16 := lt_of_lt_of_eq (β (1 : Fin 3)).isLt (by decide)
    have h2 : (β (2 : Fin 3)).val < 1 := lt_of_lt_of_eq (β (2 : Fin 3)).isLt (by decide)
    refine ⟨⟨(β (0 : Fin 3)).val * 16 + (β (1 : Fin 3)).val, ?_⟩, fun a => ?_⟩
    · show _ < 64; omega
    · show win0_9.index _ a = _
      rw [(idx _).2.2.2.2.2.2.2.2.2.1]
      match a with
      | ⟨0, _⟩ => show ((β (0 : Fin 3)).val * 16 + (β (1 : Fin 3)).val) / 16 = (β (0 : Fin 3)).val; omega
      | ⟨1, _⟩ => show ((β (0 : Fin 3)).val * 16 + (β (1 : Fin 3)).val) % 16 = (β (1 : Fin 3)).val; omega
      | ⟨2, _⟩ => show 0 = (β (2 : Fin 3)).val; omega

/-- Every block of the result array is some grid point's. -/
theorem covers10 : (cfg0.win 10).Covers :=
  (cfg0.win 10).covers_of_index_surj rfl (by decide) fun β => by
    have h0 : (β (0 : Fin 3)).val < 4 := lt_of_lt_of_eq (β (0 : Fin 3)).isLt (by decide)
    have h1 : (β (1 : Fin 3)).val < 16 := lt_of_lt_of_eq (β (1 : Fin 3)).isLt (by decide)
    have h2 : (β (2 : Fin 3)).val < 1 := lt_of_lt_of_eq (β (2 : Fin 3)).isLt (by decide)
    refine ⟨⟨(β (0 : Fin 3)).val * 16 + (β (1 : Fin 3)).val, ?_⟩, fun a => ?_⟩
    · show _ < 64; omega
    · show win0_10.index _ a = _
      rw [(idx _).2.2.2.2.2.2.2.2.2.2]
      match a with
      | ⟨0, _⟩ => show ((β (0 : Fin 3)).val * 16 + (β (1 : Fin 3)).val) / 16 = (β (0 : Fin 3)).val; omega
      | ⟨1, _⟩ => show ((β (0 : Fin 3)).val * 16 + (β (1 : Fin 3)).val) % 16 = (β (1 : Fin 3)).val; omega
      | ⟨2, _⟩ => show 0 = (β (2 : Fin 3)).val; omega

/-- The call reads the modulation as single rows. -/
theorem staged_mod (c : Dev nD) (i : S8x1x24576.Idx) : V m c main_v6 i = m ((c : Thread nD τ).loc main_arg3) (ix2 (i 0) (i 2)) := by
  unfold V
  simp only [hostOps0, hostOps0_1, hostOps0_2, List.flatten_cons, List.flatten_nil, List.append_nil, List.cons_append, List.nil_append]
  after_results
  pointwise

/-- The call reads the first norm's weight as one row. -/
theorem staged_weight1 (c : Dev nD) (i : S1x4096.Idx) : V m c main_v7 i = m ((c : Thread nD τ).loc main_arg2) (ix3 (0 : Fin 1) (1 : Fin 4) (i 1)) := by
  unfold V
  simp only [hostOps0, hostOps0_1, hostOps0_2, List.flatten_cons, List.flatten_nil, List.append_nil, List.cons_append, List.nil_append]
  after_results
  pointwise

/-- The call reads the second norm's weight as one row. -/
theorem staged_weight2 (c : Dev nD) (i : S1x4096.Idx) : V m c main_v8 i = m ((c : Thread nD τ).loc main_arg2) (ix3 (0 : Fin 1) (2 : Fin 4) (i 1)) := by
  unfold V
  simp only [hostOps0, hostOps0_1, hostOps0_2, List.flatten_cons, List.flatten_nil, List.append_nil, List.cons_append, List.nil_append]
  after_results
  pointwise

/-- A lane of the padded router's weight that has an expert. -/
theorem padded (w : FVec Ideal S1x4096x16 .f32) (z : FVec Ideal S_ .f32) (k : Fin 4096) (e : Fin 128) (he : e.val < 16) :
    pad (s := S4096x16) S4096x128 ![0, 0] ![0, 112] ![0, 0] (shapeCast S4096x16 w shapeCasts_S1x4096x16_S4096x16) z
      pads_S4096x16_S4096x128_000_01120 h_S_ (ix2 k e) = w (ix3 (0 : Fin 1) k (⟨e.val, he⟩ : Fin 16)) := by
  pointwise
  rw [dif_pos he]

/-- The call reads the router's weight with its columns padded to the lanes. -/
theorem staged_router (c : Dev nD) (k : Fin 4096) (e : Fin 128) (he : e.val < 16) :
    V m c main_v1 (ix2 k e) = m ((c : Thread nD τ).loc main_arg4) (ix3 (0 : Fin 1) k (⟨e.val, he⟩ : Fin 16)) := by
  unfold V
  simp only [hostOps0, hostOps0_1, hostOps0_2, List.flatten_cons, List.flatten_nil, List.append_nil, List.cons_append, List.nil_append]
  after_results
  exact padded _ _ k e he

/-- The block of tokens a grid point reads. -/
theorem iblk_0 (c : Dev nD) (t : Fin cfg0.N) (ht : t.val < 64) (p : Fin 256) (d : Fin 4096) :
    iblk m c 0 t (ix3 0 p d) = m ((c : Thread nD τ).loc main_arg0) (ix3 (⟨t.val / 16, by omega⟩ : Fin 4) (⟨t.val % 16 * 256 + p.val, by omega⟩ : Fin 4096) d) := by
  refine (show iblk m c 0 t (ix3 0 p d) = V m c main_arg0 (ix3 (⟨t.val / 16, by omega⟩ : Fin 4) (⟨t.val % 16 * 256 + p.val, by omega⟩ : Fin 4096) d) by blk_ext [iblk, idx t]).trans (congrFun (V_main_arg0 m c) _)

/-- The block of the mixer output a grid point reads. -/
theorem iblk_1 (c : Dev nD) (t : Fin cfg0.N) (ht : t.val < 64) (p : Fin 256) (d : Fin 4096) :
    iblk m c 1 t (ix3 0 p d) = m ((c : Thread nD τ).loc main_arg1) (ix3 (⟨t.val / 16, by omega⟩ : Fin 4) (⟨t.val % 16 * 256 + p.val, by omega⟩ : Fin 4096) d) := by
  refine (show iblk m c 1 t (ix3 0 p d) = V m c main_arg1 (ix3 (⟨t.val / 16, by omega⟩ : Fin 4) (⟨t.val % 16 * 256 + p.val, by omega⟩ : Fin 4096) d) by blk_ext [iblk, idx t]).trans (congrFun (V_main_arg1 m c) _)

/-- A norm's weight. -/
theorem iblk_2 (c : Dev nD) (t : Fin cfg0.N) (d : Fin 4096) :
    iblk m c 2 t (ix2 0 d) = m ((c : Thread nD τ).loc main_arg2) (ix3 (0 : Fin 1) (1 : Fin 4) d) := by
  refine (show iblk m c 2 t (ix2 0 d) = V m c main_v7 (ix2 0 d) by blk_ext [iblk, idx t]).trans (staged_weight1 m c _)

/-- A norm's weight. -/
theorem iblk_3 (c : Dev nD) (t : Fin cfg0.N) (d : Fin 4096) :
    iblk m c 3 t (ix2 0 d) = m ((c : Thread nD τ).loc main_arg2) (ix3 (0 : Fin 1) (2 : Fin 4) d) := by
  refine (show iblk m c 3 t (ix2 0 d) = V m c main_v8 (ix2 0 d) by blk_ext [iblk, idx t]).trans (staged_weight2 m c _)

/-- The gate's row. -/
theorem iblk_4 (c : Dev nD) (t : Fin cfg0.N) (ht : t.val < 64) (d : Fin 4096) :
    iblk m c 4 t (ix3 0 0 d) = m ((c : Thread nD τ).loc main_arg3) (ix2 (⟨t.val / 16, by omega⟩ : Fin 8) (⟨8192 + d.val, by omega⟩ : Fin 24576)) := by
  refine (show iblk m c 4 t (ix3 0 0 d) = V m c main_v6 (ix3 (⟨t.val / 16, by omega⟩ : Fin 8) 0 (⟨8192 + d.val, by omega⟩ : Fin 24576)) by blk_ext [iblk, idx t]).trans (staged_mod m c _)

/-- The shift's row. -/
theorem iblk_5 (c : Dev nD) (t : Fin cfg0.N) (ht : t.val < 64) (d : Fin 4096) :
    iblk m c 5 t (ix3 0 0 d) = m ((c : Thread nD τ).loc main_arg3) (ix2 (⟨t.val / 16, by omega⟩ : Fin 8) (⟨12288 + d.val, by omega⟩ : Fin 24576)) := by
  refine (show iblk m c 5 t (ix3 0 0 d) = V m c main_v6 (ix3 (⟨t.val / 16, by omega⟩ : Fin 8) 0 (⟨12288 + d.val, by omega⟩ : Fin 24576)) by blk_ext [iblk, idx t]).trans (staged_mod m c _)

/-- The scale's row. -/
theorem iblk_6 (c : Dev nD) (t : Fin cfg0.N) (ht : t.val < 64) (d : Fin 4096) :
    iblk m c 6 t (ix3 0 0 d) = m ((c : Thread nD τ).loc main_arg3) (ix2 (⟨t.val / 16, by omega⟩ : Fin 8) (⟨16384 + d.val, by omega⟩ : Fin 24576)) := by
  refine (show iblk m c 6 t (ix3 0 0 d) = V m c main_v6 (ix3 (⟨t.val / 16, by omega⟩ : Fin 8) 0 (⟨16384 + d.val, by omega⟩ : Fin 24576)) by blk_ext [iblk, idx t]).trans (staged_mod m c _)

/-- The router's weight. -/
theorem iblk_7 (c : Dev nD) (t : Fin cfg0.N) (k : Fin 4096) (e : Fin 128) (he : e.val < 16) :
    iblk m c 7 t (ix2 k e) = m ((c : Thread nD τ).loc main_arg4) (ix3 (0 : Fin 1) k (⟨e.val, he⟩ : Fin 16)) := by
  refine (show iblk m c 7 t (ix2 k e) = V m c main_v1 (ix2 k e) by blk_ext [iblk, idx t]).trans (staged_router m c k e he)

/-- A grid point's row of the residual is the reference's. -/
theorem sum_row (c : Dev nD) (t : Fin cfg0.N) (ht : t.val < 64) (p : Fin 256) :
    sumAt (fun d => iblk m c 0 t (ix3 0 p d)) (fun d => iblk m c 1 t (ix3 0 p d)) (fun d => iblk m c 2 t (ix2 0 d)) (fun d => iblk m c 4 t (ix3 0 0 d))
      = fun d => residual (m ((c : Thread nD τ).loc main_arg0)) (m ((c : Thread nD τ).loc main_arg1)) (m ((c : Thread nD τ).loc main_arg2)) (m ((c : Thread nD τ).loc main_arg3)) (ix3 (⟨t.val / 16, by omega⟩ : Fin 4) (⟨t.val % 16 * 256 + p.val, by omega⟩ : Fin 4096) d) := by
  funext d
  rw [residual_apply]
  simp only [iblk_0 m c t ht, iblk_1 m c t ht, iblk_2, iblk_4 m c t ht]

/-- A grid point's row of what the experts read is the reference's. -/
theorem normed_row (c : Dev nD) (t : Fin cfg0.N) (ht : t.val < 64) (p : Fin 256) :
    normedAt (sumAt (fun d => iblk m c 0 t (ix3 0 p d)) (fun d => iblk m c 1 t (ix3 0 p d)) (fun d => iblk m c 2 t (ix2 0 d)) (fun d => iblk m c 4 t (ix3 0 0 d)))
        (fun d => iblk m c 3 t (ix2 0 d)) (fun d => iblk m c 6 t (ix3 0 0 d)) (fun d => iblk m c 5 t (ix3 0 0 d))
      = fun d => modulated (residual (m ((c : Thread nD τ).loc main_arg0)) (m ((c : Thread nD τ).loc main_arg1)) (m ((c : Thread nD τ).loc main_arg2)) (m ((c : Thread nD τ).loc main_arg3))) (m ((c : Thread nD τ).loc main_arg2)) (m ((c : Thread nD τ).loc main_arg3)) (ix3 (⟨t.val / 16, by omega⟩ : Fin 4) (⟨t.val % 16 * 256 + p.val, by omega⟩ : Fin 4096) d) := by
  funext d
  rw [modulated_apply, sum_row m c t ht p]
  simp only [iblk_3, iblk_5 m c t ht, iblk_6 m c t ht]

/-- What a grid point leaves in its block of the residual. -/
theorem block8 (c : Dev nD) (t : Fin cfg0.N) (ht : t.val < 64) (p : Fin 256) (d : Fin 4096) :
    out0_8 (iblk m c 0 t) (iblk m c 1 t) (iblk m c 2 t) (iblk m c 3 t) (iblk m c 4 t) (iblk m c 5 t) (iblk m c 6 t) (iblk m c 7 t) (ix3 0 p d)
      = residual (m ((c : Thread nD τ).loc main_arg0)) (m ((c : Thread nD τ).loc main_arg1)) (m ((c : Thread nD τ).loc main_arg2)) (m ((c : Thread nD τ).loc main_arg3)) (ix3 (⟨t.val / 16, by omega⟩ : Fin 4) (⟨t.val % 16 * 256 + p.val, by omega⟩ : Fin 4096) d) := by
  unfold out0_8
  frame_out
  exact (pay3_apply _ _ _ _ p d).trans (congrFun (sum_row m c t ht p) d)

/-- What a grid point leaves in its block of the experts' tokens. -/
theorem block9 (c : Dev nD) (t : Fin cfg0.N) (ht : t.val < 64) (p : Fin 256) (d : Fin 4096) :
    out0_9 (iblk m c 0 t) (iblk m c 1 t) (iblk m c 2 t) (iblk m c 3 t) (iblk m c 4 t) (iblk m c 5 t) (iblk m c 6 t) (iblk m c 7 t) (ix3 0 p d)
      = tokens (m ((c : Thread nD τ).loc main_arg0)) (m ((c : Thread nD τ).loc main_arg1)) (m ((c : Thread nD τ).loc main_arg2)) (m ((c : Thread nD τ).loc main_arg3)) (ix3 (⟨t.val / 16, by omega⟩ : Fin 4) (⟨t.val % 16 * 256 + p.val, by omega⟩ : Fin 4096) d) := by
  unfold out0_9 k0_pay10 k0_pay11 k0_pay12 k0_pay13
  frame_out
  exact (pay8_apply _ _ _ _ _ _ p d).trans ((pay7_apply _ _ _ _ _ _ _ p d).trans (congrFun (normed_row m c t ht p) d))

/-- What a grid point leaves in its block of the affinities. -/
theorem block10 (c : Dev nD) (t : Fin cfg0.N) (ht : t.val < 64) (p : Fin 256) (e : Fin 128) :
    out0_10 (iblk m c 0 t) (iblk m c 1 t) (iblk m c 2 t) (iblk m c 3 t) (iblk m c 4 t) (iblk m c 5 t) (iblk m c 6 t) (iblk m c 7 t) (ix3 0 p e)
      = affinity (m ((c : Thread nD τ).loc main_arg0)) (m ((c : Thread nD τ).loc main_arg1)) (m ((c : Thread nD τ).loc main_arg2)) (m ((c : Thread nD τ).loc main_arg3)) (m ((c : Thread nD τ).loc main_arg4)) (ix3 (⟨t.val / 16, by omega⟩ : Fin 4) (⟨t.val % 16 * 256 + p.val, by omega⟩ : Fin 4096) e) := by
  unfold out0_10 k0_pay10 k0_pay11 k0_pay12 k0_pay13
  frame_out
  refine (pay9_apply _ _ _ _ _ _ _ p e).trans ?_
  rw [affinity, shares_apply]
  refine congrArg (fun s => shareAt s e) (funext fun e => ?_)
  rw [scores_apply, scoreAt]
  by_cases he : e.val < 16
  · rw [if_pos he, dif_pos he]
    refine Finset.sum_congr rfl fun k _ => congrArg₂ (· * ·) ?_ (iblk_7 m c t k e he)
    exact (pay7_apply _ _ _ _ _ _ _ p k).trans (congrFun (normed_row m c t ht p) k)
  · rw [if_neg he, dif_neg he]

/-- The result array is the reference's function of the arguments. -/
theorem final8 (c : Dev nD) : (dats m 0 c).arrAt 8 cfg0.N = residual (m ((c : Thread nD τ).loc main_arg0)) (m ((c : Thread nD τ).loc main_arg1)) (m ((c : Thread nD τ).loc main_arg2)) (m ((c : Thread nD τ).loc main_arg3)) := by
  refine (dats m 0 c).arrAt_eq_of_covers 8 _ covers8 fun t hf y => ?_
  have ht : t.val < 64 := t.isLt
  blk_simp
  rw [after0_8]
  obtain ⟨p, d, rfl⟩ : ∃ p : Fin 256, ∃ d : Fin 4096, y = ix3 (0 : Fin 1) p d := ⟨y (1 : Fin 3), y (2 : Fin 3), funext fun a => by
    match a with
    | ⟨0, _⟩ => exact Fin.ext (Nat.lt_one_iff.mp (y (0 : Fin 3)).isLt)
    | ⟨1, _⟩ => rfl
    | ⟨2, _⟩ => rfl⟩
  refine (block8 m c t ht p d).trans (congrArg _ ?_)
  blk_ext [idx t]

/-- The result array is the reference's function of the arguments. -/
theorem final9 (c : Dev nD) : (dats m 0 c).arrAt 9 cfg0.N = tokens (m ((c : Thread nD τ).loc main_arg0)) (m ((c : Thread nD τ).loc main_arg1)) (m ((c : Thread nD τ).loc main_arg2)) (m ((c : Thread nD τ).loc main_arg3)) := by
  refine (dats m 0 c).arrAt_eq_of_covers 9 _ covers9 fun t hf y => ?_
  have ht : t.val < 64 := t.isLt
  blk_simp
  rw [after0_9]
  obtain ⟨p, d, rfl⟩ : ∃ p : Fin 256, ∃ d : Fin 4096, y = ix3 (0 : Fin 1) p d := ⟨y (1 : Fin 3), y (2 : Fin 3), funext fun a => by
    match a with
    | ⟨0, _⟩ => exact Fin.ext (Nat.lt_one_iff.mp (y (0 : Fin 3)).isLt)
    | ⟨1, _⟩ => rfl
    | ⟨2, _⟩ => rfl⟩
  refine (block9 m c t ht p d).trans (congrArg _ ?_)
  blk_ext [idx t]

/-- The result array is the reference's function of the arguments. -/
theorem final10 (c : Dev nD) : (dats m 0 c).arrAt 10 cfg0.N = affinity (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ covers10 fun t hf y => ?_
  have ht : t.val < 64 := t.isLt
  blk_simp
  rw [after0_10]
  obtain ⟨p, d, rfl⟩ : ∃ p : Fin 256, ∃ d : Fin 128, y = ix3 (0 : Fin 1) p d := ⟨y (1 : Fin 3), y (2 : Fin 3), funext fun a => by
    match a with
    | ⟨0, _⟩ => exact Fin.ext (Nat.lt_one_iff.mp (y (0 : Fin 3)).isLt)
    | ⟨1, _⟩ => rfl
    | ⟨2, _⟩ => rfl⟩
  refine (block10 m c t ht p d).trans (congrArg _ ?_)
  blk_ext [idx t]

/-- The two programs, from the same arguments, end with the same results. -/
theorem algebraic : Cert.algebraic_ResidIdeal_ResidRefIdeal := by
  intro m g m' g' _ hm
  refine ⟨fun c => residual (m ((c : Thread nD τ).loc main_arg0)) (m ((c : Thread nD τ).loc main_arg1)) (m ((c : Thread nD τ).loc main_arg2)) (m ((c : Thread nD τ).loc main_arg3)), fun c => tokens (m ((c : Thread nD τ).loc main_arg0)) (m ((c : Thread nD τ).loc main_arg1)) (m ((c : Thread nD τ).loc main_arg2)) (m ((c : Thread nD τ).loc main_arg3)), fun c => affinity (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · exact (θ_run defs _ _).mono (fun r h c => ⟨(h c).1.trans (final8 m c), (h c).2.1.trans (final9 m c), (h c).2.2.1.trans (final10 m c), (h c).2.2.2⟩) (Cert.ResidIdeal.Value.run_blocks m g)
  · refine (θ_run Cert.ResidRefIdeal.defs _ _).mono (fun r h c => ⟨(h c).1.trans ?_, (h c).2.1.trans ?_, (h c).2.2.1.trans ?_, (h c).2.2.2⟩)
      (Cert.ResidRefIdeal.Value.run m' g')
    · rw [(hm c).1, (hm c).2.1, (hm c).2.2.1, (hm c).2.2.2.1]
      rfl
    · unfold Cert.ResidRefIdeal.Value.res_main_v64
      rw [(hm c).1, (hm c).2.1, (hm c).2.2.1, (hm c).2.2.2.1]
      rfl
    · unfold Cert.ResidRefIdeal.Value.res_main_v63
      rw [(hm c).1, (hm c).2.1, (hm c).2.2.1, (hm c).2.2.2.1, (hm c).2.2.2.2]
      rfl

/-- The reference runs to its end, its arguments unchanged; it has no counter. -/
theorem frame_reference : Cert.quiescent_ResidRefIdeal := fun m ρ _ =>
  (θ_run Cert.ResidRefIdeal.defs _ _).mono (fun r h => ⟨fun c => (h c).2.2.2, sem_eq_zero_of_no_sems (by decide) r.2⟩)
    (Cert.ResidRefIdeal.Value.run m ρ)

end Cert.Hand.Resid

end
-- ==== Proof.GatherBody.lean ====
module

public import proofs.«01_k».proof.Proof.Gen.GatherIdeal.Launch
public import proofs.«01_k».proof.Proof.Gen.GatherIdeal.Skeleton
public import Idealize.ShloMosaic.Lib.Pipeline.FrameBody
public import Idealize.ShloMosaic.Lib.Batch
public import Idealize.ShloMosaic.Lib.Ring
public import Idealize.ShloMosaic.Lib.VecWindow
public import Idealize.ShloMosaic.Lib.Tactic
public import Idealize.ShloMosaic.Lib.WordCmp
public import Idealize.ShloMosaic.Lib.Pipeline.ValueKit

@[expose] public section

set_option maxRecDepth 16384

noncomputable section

namespace Cert.Hand.Gather

open Cert.GatherIdeal Cert.GatherIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- The table of chosen tokens, the packed rows, and the rows gathered. -/
abbrev tabM : Memref sig .tc .smem S32768 .i32 := Memref.whole main_v0
abbrev htabM : tabM.IsWhole := Memref.isWhole_whole _
abbrev rowsM : Memref sig .tc .hbm S16384x2048 .i32 := Memref.whole main_v1
abbrev hrowsM : rowsM.IsWhole := Memref.isWhole_whole _
abbrev gotM : Memref sig .tc .vmem S512x2048 .i32 := Memref.whole cc0_scratch0
abbrev hgotM : gotM.IsWhole := Memref.isWhole_whole _

/-- Half of the table held. -/
abbrev tabPt (c : Dev nD) (f : S32768.Idx → BitVec 32) : sProp 𝕄 := tabM.view.loc (c : Thread nD τ) ↦{fullShare.right} f

/-- Word `n` of the table. -/
def word (f : S32768.Idx → BitVec 32) (n : ℕ) : BitVec 32 := f fun | 0 => ⟨n % 32768, Nat.mod_lt _ (by decide)⟩

/-- The packed row that transfer `t` of a grid point reads. -/
def row (i : grid0.Coords) (f : S32768.Idx → BitVec 32) (t : ℕ) : ℕ :=
  (4096 * (i 0).val + (word f (8192 * (i 0).val + 512 * (i 1).val + t)).toNat) % 16384
theorem row_lt (i : grid0.Coords) (f : S32768.Idx → BitVec 32) (t : ℕ) : row i f t < 16384 := Nat.mod_lt _ (by decide)

/-- What the gathered rows hold once every transfer has landed. -/
def got (i : grid0.Coords) (f : S32768.Idx → BitVec 32) (g : S16384x2048.Idx → BitVec 32) : S512x2048.Idx → BitVec 32 :=
  fun y => g fun | 0 => ⟨row i f (y 0).val, row_lt i f _⟩ | 1 => ⟨(y 1).val, (y 1).isLt⟩

/-- The elements of one packed row, and of one gathered row. -/
def srcSet (r : ℕ) : Finset S16384x2048.Idx := Finset.univ.filter fun y => (y 0).val = r
def dstSet (t : ℕ) : Finset S512x2048.Idx := Finset.univ.filter fun y => (y 0).val = t

theorem mem_srcSet (r : ℕ) (y : S16384x2048.Idx) : y ∈ srcSet r ↔ (y 0).val = r := by simp [srcSet]
theorem mem_dstSet (t : ℕ) (y : S512x2048.Idx) : y ∈ dstSet t ↔ (y 0).val = t := by simp [dstSet]

abbrev srcM (r : ℕ) (h : ∀ a, (![r, 0] : Fin 2 → ℕ) a + S1x2048.size a ≤ S16384x2048.size a) : Memref sig .tc .hbm S1x2048 .i32 :=
  rowsM.slice (Rect.unit (s := S16384x2048) ![r, 0] S1x2048.size h) (fun _ => rfl)
abbrev dstM (t : ℕ) (h : ∀ a, (![t, 0] : Fin 2 → ℕ) a + S1x2048.size a ≤ S512x2048.size a) : Memref sig .tc .vmem S1x2048 .i32 :=
  gotM.slice (Rect.unit (s := S512x2048) ![t, 0] S1x2048.size h) (fun _ => rfl)

theorem srcM_set (r : ℕ) (h) : (srcM r h).view.set = srcSet r := by
  refine (View.set_slice_whole _ _).trans (Finset.ext fun y => ?_)
  rw [mem_srcSet]
  refine Rect.mem_set_unit.trans ⟨fun H => ?_, fun H a => ?_⟩
  · have a0 : r ≤ (y 0).val ∧ (y 0).val < r + 1 := H 0
    omega
  · have h1 : (y 1).val < 2048 := (y 1).isLt
    fin_cases a
    · show r ≤ (y 0).val ∧ (y 0).val < r + 1; omega
    · show 0 ≤ (y 1).val ∧ (y 1).val < 0 + 2048; omega
theorem dstM_set (t : ℕ) (h) : (dstM t h).view.set = dstSet t := by
  refine (View.set_slice_whole _ _).trans (Finset.ext fun y => ?_)
  rw [mem_dstSet]
  refine Rect.mem_set_unit.trans ⟨fun H => ?_, fun H a => ?_⟩
  · have a0 : t ≤ (y 0).val ∧ (y 0).val < t + 1 := H 0
    omega
  · have h1 : (y 1).val < 2048 := (y 1).isLt
    fin_cases a
    · show t ≤ (y 0).val ∧ (y 0).val < t + 1; omega
    · show 0 ≤ (y 1).val ∧ (y 1).val < 0 + 2048; omega

section Points

variable (c : Dev nD) (i : grid0.Coords) (f : S32768.Idx → BitVec 32) (g : S16384x2048.Idx → BitVec 32)

/-- Transfer `t`'s share of its packed row, and its gathered row at given contents. -/
abbrev srcPt (t : ℕ) : sProp 𝕄 := rowsM.view.loc (c : Thread nD τ) ↦[srcSet (row i f t)]{Transfers.shareTokN fullShare t} g
abbrev dstPt (x : S512x2048.Idx → BitVec 32) (t : ℕ) : sProp 𝕄 := gotM.view.loc (c : Thread nD τ) ↦[dstSet t]{fullShare} x

/-- What transfer `t` delivers. -/
abbrev D (t : Fin 512) : sProp 𝕄 := iprop(dstPt c (got i f g) t.val ∗ srcPt c i f g t.val)
instance D_storable (t : Fin 512) : BI.Storable (upEmb : UEmb _ 𝕄) (D c i f g t) := by
  unfold D; infer_instance

/-- What one row credits the counter with. -/
abbrev NN : ℕ := 256
theorem amount_dst (t : ℕ) (h) : (dstM t h).view.amount (.dma cc0_scratch1.sem) = NN := by
  rfl

/-- The batch of a grid point's transfers: `j` issued, `u` units taken. -/
abbrev batch (j u : ℕ) : sProp 𝕄 :=
  Transfers.Batch (countersEmb (U := Pipeline.UD sig nD τ)) (c : Thread nD τ) (.dma cc0_scratch1.sem) () NN (D c i f g) j u

omit [FloatOps F] in
/-- A row as a transfer leaves it is the row of `got`. -/
theorem landed (x : S512x2048.Idx → BitVec 32) (t : ℕ) (hS) (hD) :
    ∀ y ∈ dstSet t, (dstM t hD).view.write (Elt F) x ((srcM (row i f t) hS).view.read (Elt F) g) Finset.univ y = got i f g y := by
  intro y hy
  rw [← dstM_set t hD] at hy
  obtain ⟨z, -, rfl⟩ := Finset.mem_map.mp hy
  rw [View.write_emb_of_mem _ _ (Finset.mem_univ z)]
  show g _ = g _
  refine congrArg g (funext fun a => Fin.ext ?_)
  have h0 : (z 0).val = 0 := Nat.lt_one_iff.mp (z 0).isLt
  fin_cases a
  · show row i f t + 1 * (z 0).val = row i f (t + 1 * (z 0).val)
    rw [h0]; rfl
  · show 0 + 1 * (z 1).val = 0 + 1 * (z 1).val
    rfl

/-- One transfer issued. -/
theorem issue_one {α : Type} (x : S512x2048.Idx → BitVec 32) (t u : ℕ) (ht : t < 512) (hu : u ≤ t * NN)
    {offS offD : Fin 2 → ℕ} (eS : offS = ![row i f t, 0]) (eD : offD = ![t, 0])
    (hS : ∀ a, offS a + S1x2048.size a ≤ S16384x2048.size a) (hD : ∀ a, offD a + S1x2048.size a ≤ S512x2048.size a)
    {hw hw' ht'}
    (K : PUnit → Prog (TpuEff nD τ sig (Elt F) Λ₀ .tc) α) (Q : α → sProp 𝕄) :
    iprop(srcPt c i f g t ∗ dstPt c x t ∗ batch c i f g t u)
      ⊢ iprop((batch c i f g (t + 1) u -∗ wp frame (wpE (defs₀ (F := F)) Variants.none c none) Set.univ (K ⟨⟩) Q)
          -∗ wp frame (wpE (defs₀ (F := F)) Variants.none c none) Set.univ
              (.op (.enqueueDma (rowsM.slice (Rect.unit (s := S16384x2048) offS S1x2048.size hS) (fun _ => rfl))
                (.here (gotM.slice (Rect.unit (s := S512x2048) offD S1x2048.size hD) (fun _ => rfl))) (.dma cc0_scratch1.sem) hw hw' ht') K) Q) := by
  subst eS eD
  have h := Transfers.wp_dmaBatch (countersEmb (U := Pipeline.UD sig nD τ)) (defs := defs₀ (F := F)) Variants.none (c : Thread nD τ) none
    (src := srcM (row i f t) hS) (via := .same) (dst := dstM t hD) (sm := .dma cc0_scratch1.sem) (hsrc := hw) (hdst := hw') (hsem := ht')
    (k := K) (Q := Q) (q := Transfers.shareTokN fullShare t) (fs := g) (Sd := dstSet t) (fd := x) (D := D c i f g) (j := t) (u := u)
    () NN (amount_dst t hD) (le_of_eq (dstM_set t hD)) ht hu
    (by
      rw [srcM_set]
      refine sep_mono_l (Entails.of_eq (pointsTo_congr ?_))
      exact landed i f g x t hS hD)
  rw [srcM_set] at h
  exact h

end Points

/-! ## The words -/

/-- The word loaded at a one-word rectangle of the table. -/
abbrev loaded (f : S32768.Idx → BitVec 32) (r : Rect S32768) (h : r.shape.numel = 1) : BitVec 32 :=
  tabM.view.readAt (Elt F) r.toLoadRect f (Shape.Idx.first (s := r.shape) (h.symm ▸ Nat.one_pos))

omit [FloatOps F] in
theorem loaded_eq (f : S32768.Idx → BitVec 32) (n : ℕ) {off : Fin 1 → ℕ} (e : off = ![n]) (inb : ∀ a, off a + S1.size a ≤ S32768.size a) :
    loaded (F := F) f (Rect.unit (s := S32768) off S1.size inb) numel1_S1 = word f n := by
  subst e
  have hn : n + 1 ≤ 32768 := inb 0
  refine congrArg f (funext fun a => Fin.ext ?_)
  fin_cases a
  show n + 1 * 0 = n % 32768
  rw [Nat.mod_eq_of_lt (by omega)]; omega

theorem off3_eq (i : grid0.Coords) (w : BitVec 32) (hw : w.toNat < 4096) : k0_off3 i w = ![4096 * (i 0).val + w.toNat, 0] := by
  have hi : (i 0).val < 4 := (i 0).isLt
  have e : (BitVec.ofNat 32 (i 0).val * 4096#32 + w).toNat = 4096 * (i 0).val + w.toNat := by
    simp only [BitVec.toNat_add, BitVec.toNat_mul, BitVec.toNat_ofNat]; omega
  exact congrArg (fun n => ![n, 0]) e
theorem off6_eq (i : grid0.Coords) (w : BitVec 32) (hw : w.toNat < 4096) : k0_off6 i w = ![4096 * (i 0).val + w.toNat, 0] := off3_eq i w hw

theorem row_eq (i : grid0.Coords) (f : S32768.Idx → BitVec 32) (hok : ∀ n, (word f n).toNat < 4096) (t : ℕ) :
    row i f t = 4096 * (i 0).val + (word f (8192 * (i 0).val + 512 * (i 1).val + t)).toNat := by
  have hi : (i 0).val < 4 := (i 0).isLt
  have := hok (8192 * (i 0).val + 512 * (i 1).val + t)
  exact Nat.mod_eq_of_lt (by omega)

theorem chk1 (i : grid0.Coords) (w : BitVec 32) (hw : w.toNat < 4096) : k0_chk1 i w := by
  have hi : (i 0).val < 4 := (i 0).isLt
  unfold k0_chk1
  rw [off3_eq i w hw]
  intro a; fin_cases a
  · show 4096 * (i 0).val + w.toNat + 1 ≤ 16384; omega
  · show 0 + 2048 ≤ 2048; omega
theorem chk2 (i : grid0.Coords) (w : BitVec 32) (hw : w.toNat < 4096) : k0_chk2 i w := chk1 i w hw

theorem trips1 : k0_t1_loop.trips = 256 := by decide
theorem trips2 : k0_t2_loop.trips = 512 := by decide

/-! ## The loop that issues -/

section Loops

variable (c : Dev nD) (i : grid0.Coords) (f : S32768.Idx → BitVec 32) (g : S16384x2048.Idx → BitVec 32) (hok : ∀ n, (word f n).toNat < 4096)

/-- Before trip `k`: two transfers issued a trip, the later ones' rows in hand. -/
def issueAt (x : S512x2048.Idx → BitVec 32) (k : ℕ) (_ : Unit) : sProp 𝕄 :=
  iprop(batch c i f g (2 * k) 0 ∗ bigSep (Ring.rangeSet 512 (2 * k) 512) (fun t => srcPt c i f g t.val)
    ∗ bigSep (Ring.rangeSet 512 (2 * k) 512) (fun t => dstPt c x t.val) ∗ tabPt c f)

include hok in
set_option maxHeartbeats 1000000 in
theorem issue_step (x : S512x2048.Idx → BitVec 32) (arg4 : Memref sig .tc .vmem S1x1x512x4096 .bf16) (harg4 : arg4.IsWhole)
    (k : Fin k0_t1_loop.trips) (acc : Unit) :
    issueAt c i f g x k acc ⊢ wp frame (wpE (defs₀ (F := F)) Variants.none c none) Set.univ
      (k0_t1_body i tabM htabM rowsM hrowsM arg4 harg4 gotM hgotM cc0_scratch1 k acc) (issueAt c i f g x (k.val + 1)) := by
  have hk : k.val < 256 := trips1 ▸ k.isLt
  have e1 : loaded (F := F) f (Rect.unit (s := S32768) (k0_off1 i k) S1.size (k0_off1_inb i k)) numel1_S1
      = word f (8192 * (i 0).val + 512 * (i 1).val + 2 * k.val) := loaded_eq f _ (k0_off1_eq i k) _
  have e2 : loaded (F := F) f (Rect.unit (s := S32768) (k0_off4 i k) S1.size (k0_off4_inb i k)) numel1_S1
      = word f (8192 * (i 0).val + 512 * (i 1).val + (2 * k.val + 1)) := loaded_eq f _ (k0_off4_eq i k) _
  have w1 : (loaded (F := F) f (Rect.unit (s := S32768) (k0_off1 i k) S1.size (k0_off1_inb i k)) numel1_S1).toNat < 4096 := by
    rw [e1]; exact hok _
  have w2 : (loaded (F := F) f (Rect.unit (s := S32768) (k0_off4 i k) S1.size (k0_off4_inb i k)) numel1_S1).toNat < 4096 := by
    rw [e2]; exact hok _
  have c1 := chk1 i _ w1
  have c2 := chk2 i _ w2
  have r1 := (off3_eq i _ w1).trans (congrArg (fun n => ![n, 0]) (show _ = row i f (2 * k.val) by rw [row_eq i f hok, e1]))
  have r2 := (off6_eq i _ w2).trans (congrArg (fun n => ![n, 0]) (show _ = row i f (2 * k.val + 1) by rw [row_eq i f hok, e2]))
  unfold issueAt
  rw [Ring.bigSep_rangeSet_head (Φ := fun t : Fin 512 => srcPt c i f g t.val) (lo := 2 * k.val) (by omega) (by omega),
    Ring.bigSep_rangeSet_head (Φ := fun t : Fin 512 => srcPt c i f g t.val) (lo := 2 * k.val + 1) (by omega) (by omega),
    Ring.bigSep_rangeSet_head (Φ := fun t : Fin 512 => dstPt (F := F) c x t.val) (lo := 2 * k.val) (by omega) (by omega),
    Ring.bigSep_rangeSet_head (Φ := fun t : Fin 512 => dstPt (F := F) c x t.val) (lo := 2 * k.val + 1) (by omega) (by omega),
    show 2 * (k.val + 1) = 2 * k.val + 1 + 1 by omega]
  iintro ⟨HB, ⟨HS0, HS1, HSs⟩, ⟨HD0, HD1, HDs⟩, HT⟩
  unfold k0_t1_body
  sl_exec (disch := sl_exact c1)
  iapply (issue_one c i f g x (2 * k.val) 0 (by omega) (Nat.zero_le _) r1 (k0_off2_eq k) _ _ _ _) $$ [HS0 HD0 HB]
  · isplitl [HS0]; · iexact HS0
    isplitl [HD0]; · iexact HD0
    iexact HB
  iintro HB
  sl_exec (disch := sl_exact c2)
  iapply (issue_one c i f g x (2 * k.val + 1) 0 (by omega) (Nat.zero_le _) r2 (k0_off5_eq k) _ _ _ _) $$ [HS1 HD1 HB]
  · isplitl [HS1]; · iexact HS1
    isplitl [HD1]; · iexact HD1
    iexact HB
  iintro HB
  sl_step
  isplitl [HB]; · iexact HB
  isplitl [HSs]; · iexact HSs
  isplitl [HDs]; · iexact HDs
  iexact HT

/-! ## The loop that waits -/

/-- Before trip `k`: that many rows' credit taken, or after the last every delivery. -/
def drainAt (k : ℕ) (_ : Unit) : sProp 𝕄 :=
  iprop((∃ W, owes (c : Thread nD τ) 0 W)
    ∗ (if k < 512 then batch c i f g 512 (k * NN)
       else iprop(semVal ((c : Thread nD τ), SemLoc.dma cc0_scratch1.sem) 0 ∗ bigSep Finset.univ (D c i f g))))

set_option maxHeartbeats 1000000 in
theorem drain_step (arg4 : Memref sig .tc .vmem S1x1x512x4096 .bf16) (harg4 : arg4.IsWhole) (k : Fin k0_t2_loop.trips) (acc : Unit) :
    drainAt c i f g k acc ⊢ wp frame (wpE (defs₀ (F := F)) Variants.none c none) Set.univ
      (k0_t2_body i tabM htabM rowsM hrowsM arg4 harg4 gotM hgotM cc0_scratch1 k acc) (drainAt c i f g (k.val + 1)) := by
  have hk : k.val < 512 := trips2 ▸ k.isLt
  unfold drainAt
  simp only [if_pos hk]
  rcases Nat.lt_or_ge (k.val + 1) 512 with h1 | h1
  · simp only [if_pos h1]
    iintro ⟨⟨%W, HO⟩, HB⟩
    unfold k0_t2_body
    sl_exec
    sl_step
    isplitl [HO]; · iexists _; iexact HO
    rw [show (k.val + 1) * NN = k.val * NN + NN from Nat.succ_mul _ _]
    iexact HB
  · simp only [if_neg (Nat.not_lt.mpr h1)]
    iintro ⟨⟨%W, HO⟩, HB⟩
    unfold k0_t2_body
    sl_exec
    sl_step
    isplitl [HO]; · iexists _; iexact HO
    isplitl [HB]; · iexact HB
    iexact HB_all

end Loops

/-! ## The whole body -/

/-- The block left by the two halves' stores. -/
def joined (p q : Vec F S1x1x512x2048 .bf16) : Vec F S1x1x512x4096 .bf16 := fun y =>
  if h : (y 3).val < 2048 then p (ix4 0 0 (y 2) ⟨(y 3).val, h⟩)
  else q (ix4 0 0 (y 2) ⟨(y 3).val - 2048, by have h3 : (y 3).val < 4096 := (y 3).isLt; omega⟩)

/-- What a grid point leaves in the result's block. -/
def point (i : grid0.Coords) (f : S32768.Idx → BitVec 32) (g : S16384x2048.Idx → BitVec 32) : Vec F S1x1x512x4096 .bf16 :=
  joined (k0_pay1 (got i f g)) (k0_pay2 (got i f g))

theorem stores_joined [∀ e, Nonempty (Elt F e)] {sp : Space} (v : View sig .tc sp S1x1x512x4096 .bf16) (z : v.ty.Contents (Elt F))
    (p q : Vec F S1x1x512x2048 .bf16) :
    v.read (Elt F) (v.writes (Elt F) z
      [⟨Rect.unit (s := S1x1x512x4096) ![0, 0, 0, 2048] S1x1x512x2048.size inb_S1x1x512x4096_S1x1x512x2048_0_0_0_2048, q⟩,
       ⟨Rect.unit (s := S1x1x512x4096) ![0, 0, 0, 0] S1x1x512x2048.size inb_S1x1x512x4096_S1x1x512x2048_0_0_0_0, p⟩]) = joined p q := by
  funext y
  have h0 : (y 0).val < 1 := (y 0).isLt
  have h1 : (y 1).val < 1 := (y 1).isLt
  have h2 : (y 2).val < 512 := (y 2).isLt
  have h3 : (y 3).val < 4096 := (y 3).isLt
  have hc : ∃ r ∈ ([⟨Rect.unit (s := S1x1x512x4096) ![0, 0, 0, 2048] S1x1x512x2048.size inb_S1x1x512x4096_S1x1x512x2048_0_0_0_2048, q⟩,
       ⟨Rect.unit (s := S1x1x512x4096) ![0, 0, 0, 0] S1x1x512x2048.size inb_S1x1x512x4096_S1x1x512x2048_0_0_0_0, p⟩] : List (View.Piece (Elt F) S1x1x512x4096 .bf16)), y ∈ r.1.set := by
    by_cases h : (y 3).val < 2048
    · refine ⟨_, List.mem_cons_of_mem _ List.mem_cons_self, (Rect.mem_set_unit (inb := inb_S1x1x512x4096_S1x1x512x2048_0_0_0_0)).mpr fun a => ?_⟩
      fin_cases a
      · show 0 ≤ (y 0).val ∧ (y 0).val < 0 + 1; omega
      · show 0 ≤ (y 1).val ∧ (y 1).val < 0 + 1; omega
      · show 0 ≤ (y 2).val ∧ (y 2).val < 0 + 512; omega
      · show 0 ≤ (y 3).val ∧ (y 3).val < 0 + 2048; omega
    · refine ⟨_, List.mem_cons_self, (Rect.mem_set_unit (inb := inb_S1x1x512x4096_S1x1x512x2048_0_0_0_2048)).mpr fun a => ?_⟩
      fin_cases a
      · show 0 ≤ (y 0).val ∧ (y 0).val < 0 + 1; omega
      · show 0 ≤ (y 1).val ∧ (y 1).val < 0 + 1; omega
      · show 0 ≤ (y 2).val ∧ (y 2).val < 0 + 512; omega
      · show 2048 ≤ (y 3).val ∧ (y 3).val < 2048 + 2048; omega
  rw [View.read_writes_apply_eq_canon v z y _ hc]
  refine View.canon_apply_of_pieces (joined p q) _ (fun r hr x => ?_) y hc
  rcases List.mem_cons.mp hr with rfl | hr
  · have x3 : (x 3).val < 2048 := (x 3).isLt
    have n : ¬2048 + 1 * (x 3).val < 2048 := by omega
    refine Eq.trans ?_ (dif_neg n).symm
    refine congrArg q (funext fun a => Fin.ext ?_)
    have x0 : (x 0).val = 0 := Nat.lt_one_iff.mp (x 0).isLt
    have x1 : (x 1).val = 0 := Nat.lt_one_iff.mp (x 1).isLt
    fin_cases a
    · exact x0
    · exact x1
    · show (x 2).val = 0 + 1 * (x 2).val; omega
    · show (x 3).val = 2048 + 1 * (x 3).val - 2048; omega
  · obtain rfl := List.mem_singleton.mp hr
    have x3 : (x 3).val < 2048 := (x 3).isLt
    have n : 0 + 1 * (x 3).val < 2048 := by omega
    refine Eq.trans ?_ (dif_pos n).symm
    refine congrArg p (funext fun a => Fin.ext ?_)
    have x0 : (x 0).val = 0 := Nat.lt_one_iff.mp (x 0).isLt
    have x1 : (x 1).val = 0 := Nat.lt_one_iff.mp (x 1).isLt
    fin_cases a
    · exact x0
    · exact x1
    · show (x 2).val = 0 + 1 * (x 2).val; omega
    · show (x 3).val = 0 + 1 * (x 3).val; omega

section Run

variable (c : Dev nD) (i : grid0.Coords) (f : S32768.Idx → BitVec 32) (g : S16384x2048.Idx → BitVec 32)

theorem dst_disjoint (b b' : Fin 512) (h : b ≠ b') : Disjoint (dstSet b.val) (dstSet b'.val) := by
  rw [Finset.disjoint_left]; intro y hy hy'; rw [mem_dstSet] at hy hy'; exact h (Fin.ext (by omega))
theorem dst_cover (ℓ : Loc nD τ sig) (e : ℓ = gotM.view.loc (c : Thread nD τ)) :
    Finset.univ.biUnion (fun b : Fin 512 => e ▸ dstSet b.val) = (Finset.univ : Finset (Idx ℓ)) := by
  subst e
  exact Finset.eq_univ_of_forall fun y => Finset.mem_biUnion.mpr ⟨y 0, Finset.mem_univ _, (mem_dstSet _ _).mpr rfl⟩

omit [FloatOps F] in
/-- The gathered rows whole are its rows. -/
theorem got_rows (x : S512x2048.Idx → BitVec 32) :
    (gotM.view.loc (c : Thread nD τ) ↦{fullShare} x : sProp 𝕄) = bigSep (Ring.rangeSet 512 0 512) (fun t : Fin 512 => dstPt c x t.val) := by
  have h := Ring.pointsTo_blocks (Ix := Unit) (Val := Elt F) (Name := ℕ) (U := Pipeline.UD sig nD τ) (Lvl := ℕ)
    (ℓ := gotM.view.loc (c : Thread nD τ)) (fun b : Fin 512 => dstSet b.val) dst_disjoint (dst_cover c _ rfl) (q := fullShare) x
  rw [Ring.rangeSet_univ]
  exact h

/-- What of the packed rows no transfer reads: each transfer's share of the other rows, and the share left over. -/
def rowsRest : sProp 𝕄 :=
  iprop((rowsM.view.loc (c : Thread nD τ) ↦{Transfers.shareDrop fullShare 512} g)
    ∗ bigSep (Finset.range 512) (fun t => rowsM.view.loc (c : Thread nD τ) ↦[Finset.univ \ srcSet (row i f t)]{Transfers.shareTokN fullShare t} g))

omit [FloatOps F] in
/-- The packed rows whole are each transfer's share of its row, and the rest. -/
theorem rows_split : (rowsM.view.loc (c : Thread nD τ) ↦{fullShare} g : sProp 𝕄)
    ⊣⊢ iprop(bigSep (Ring.rangeSet 512 0 512) (fun t : Fin 512 => srcPt c i f g t.val) ∗ rowsRest c i f g) := by
  have e : (fun t : ℕ => (rowsM.view.loc (c : Thread nD τ) ↦{Transfers.shareTokN fullShare t} g : sProp 𝕄))
      = fun t => iprop(srcPt c i f g t ∗ rowsM.view.loc (c : Thread nD τ) ↦[Finset.univ \ srcSet (row i f t)]{Transfers.shareTokN fullShare t} g) :=
    funext fun t => Entails.antisymm (pointsTo_split_subset (Finset.subset_univ _)).1 (pointsTo_split_subset (Finset.subset_univ _)).2
  have e' := Ring.bigSep_rangeSet_eq_range (M := 𝕄) (NB := 512) (lo := 0) (hi := 512) (Φ := fun t : Fin 512 => srcPt c i f g t.val) le_rfl
    (fun t => srcPt c i f g t) (fun k hk => by show srcPt c i f g k = srcPt c i f g (0 + k); rw [Nat.zero_add])
  have h := Transfers.pointsTo_toks_range (Ix := Unit) (Val := Elt F) (Name := ℕ) (U := Pipeline.UD sig nD τ) (Lvl := ℕ)
    (ℓ := rowsM.view.loc (c : Thread nD τ)) (S := Finset.univ) (f := g) fullShare 512
  unfold rowsRest
  rw [e', Nat.sub_zero]
  have e2 : bigSep (Finset.range 512) (fun t : ℕ => (rowsM.view.loc (c : Thread nD τ) ↦{Transfers.shareTokN fullShare t} g : sProp 𝕄))
      = iprop(bigSep (Finset.range 512) (fun t => srcPt c i f g t) ∗ bigSep (Finset.range 512) (fun t => rowsM.view.loc (c : Thread nD τ) ↦[Finset.univ \ srcSet (row i f t)]{Transfers.shareTokN fullShare t} g)) := by
    rw [e]; exact BI.bigSep_sep _ _ _
  rw [e2] at h
  constructor
  · refine h.1.trans ?_
    iintro ⟨A, B, C⟩
    isplitl [B]; · iexact B
    isplitl [A] <;> iassumption
  · refine BIBase.Entails.trans ?_ h.2
    iintro ⟨B, A, C⟩
    isplitl [A]; · iexact A
    isplitl [B] <;> iassumption

omit [FloatOps F] in
/-- Every delivery: the rows gathered, and the shares of the packed rows back. -/
theorem delivered : (bigSep Finset.univ (D (F := F) c i f g) : sProp 𝕄)
    ⊢ iprop((gotM.view.loc (c : Thread nD τ) ↦{fullShare} got i f g) ∗ bigSep (Ring.rangeSet 512 0 512) (fun t : Fin 512 => srcPt c i f g t.val)) := by
  rw [got_rows, Ring.rangeSet_univ]
  exact Entails.of_eq (BI.bigSep_sep _ _ _)

set_option maxHeartbeats 4000000 in
/-- The body at any point, its tokens in range. -/
theorem body_run [∀ e, Nonempty (Elt F e)] (hok : ∀ n, (word f n).toNat < 4096) (arg4 : Memref sig .tc .vmem S1x1x512x4096 .bf16) (harg4 : arg4.IsWhole)
    (x : S512x2048.Idx → BitVec 32) (z : Vec F S1x1x512x4096 .bf16) (W : Waits sig Unit) (K : PUnit → sProp 𝕄) :
    iprop(owns (c : Thread nD τ) arg4 fullShare z ∗ tabPt c f ∗ (rowsM.view.loc (c : Thread nD τ) ↦{fullShare} g)
        ∗ (gotM.view.loc (c : Thread nD τ) ↦{fullShare} x) ∗ semVal ((c : Thread nD τ), SemLoc.dma cc0_scratch1.sem) 0 ∗ owes (c : Thread nD τ) 0 W
        ∗ (iprop(owns (c : Thread nD τ) arg4 fullShare (point i f g) ∗ tabPt c f ∗ (rowsM.view.loc (c : Thread nD τ) ↦{fullShare} g)
            ∗ (gotM.view.loc (c : Thread nD τ) ↦{fullShare} got i f g) ∗ semVal ((c : Thread nD τ), SemLoc.dma cc0_scratch1.sem) 0
            ∗ ∃ W, owes (c : Thread nD τ) 0 W) -∗ K ⟨⟩))
      ⊢ wp frame (wpE (defs₀ (F := F)) Variants.none c none) Set.univ
          (cc0_ec_gather i tabM htabM rowsM hrowsM arg4 harg4 gotM hgotM cc0_scratch1) K := by
  simp only [cc0_ec_gather_eq_skeleton]; unfold cc0_ec_gather_skel
  unfold owns
  iintro ⟨⟨%f4, %hf4, H4⟩, HT, HR, HG, Hc, HO, Hk⟩
  obtain rfl := harg4.eq_unread hf4
  ihave HR' := (rows_split c i f g).1 $$ HR
  icases HR' with ⟨HS, HRr⟩
  ihave HD := (Entails.of_eq (got_rows (F := F) c x)) $$ HG
  imod (Transfers.batch_alloc' (Lvl := ℕ) (countersEmb (U := Pipeline.UD sig nD τ)) (c : Thread nD τ) () NN (D (F := F) c i f g) (sm := .dma cc0_scratch1.sem) (E := Set.univ)) $$ Hc with HB
  sl_for (issueAt c i f g x) $$ [HB HS HD HT]
  · intro k acc; exact issue_step c i f g hok x arg4 harg4 k acc
  · unfold issueAt
    isplitl [HB]; · iexact HB
    isplitl [HS]; · iexact HS
    isplitl [HD]; · iexact HD
    iexact HT
  iintro %acc HL
  ihave HL' := (show issueAt (F := F) c i f g x k0_t1_loop.trips acc ⊢ iprop(batch c i f g 512 0 ∗ tabPt c f) from by
      unfold issueAt; rw [trips1]; iintro ⟨HB, -, -, HT⟩
      isplitl [HB] <;> iassumption) $$ HL
  icases HL' with ⟨HB, HT⟩
  sl_for (drainAt c i f g) $$ [HB HO]
  · intro k acc; exact drain_step c i f g arg4 harg4 k acc
  · unfold drainAt
    rw [if_pos (by decide)]
    isplitl [HO]; · iexists _; iexact HO
    rw [show 0 * NN = 0 from rfl]
    iexact HB
  iintro %acc' HL
  ihave HL' := (show drainAt (F := F) c i f g k0_t2_loop.trips acc' ⊢ iprop((∃ W, owes (c : Thread nD τ) 0 W)
      ∗ semVal ((c : Thread nD τ), SemLoc.dma cc0_scratch1.sem) 0 ∗ bigSep Finset.univ (D c i f g)) from by
      unfold drainAt; rw [trips2, if_neg (by decide)]) $$ HL
  icases HL' with ⟨HO, Hc, Hall⟩
  ihave Hd := (delivered (F := F) c i f g) $$ Hall
  icases Hd with ⟨HG, HS⟩
  sl_exec
  sl_step
  iapply Hk
  isplitl [H4]
  · iexists _; isplitr; swap; (· iexact H4)
    ipureintro
    sl_unfold_run_names
    have e : ∀ h : ∀ a, (![0, 0] : Fin 2 → ℕ) a + S512x2048.size a ≤ S512x2048.size a,
        gotM.view.readAt (Elt F) (Rect.unit (s := S512x2048) ![0, 0] S512x2048.size h).toLoadRect (got i f g) = got i f g := fun h => by
      funext y
      refine congrArg (got i f g) (funext fun a => Fin.ext ?_)
      fin_cases a
      · show 0 + 1 * (y 0).val = (y 0).val; omega
      · show 0 + 1 * (y 1).val = (y 1).val; omega
    rw [e]
    exact stores_joined arg4.view _ _ _
  isplitl [HT]; · iexact HT
  isplitl [HS HRr]
  · iapply (rows_split c i f g).2
    isplitl [HS] <;> iassumption
  isplitl [HG]; · iexact HG
  isplitl [Hc]; · iexact Hc
  iexact HO

end Run

end Cert.Hand.Gather

end
-- ==== Proof.GatherFrame.lean ====
module

public import proofs.«01_k».proof.Proof.GatherBody
public import Idealize.ShloMosaic.Lib.Pipeline.FrameBody
public import Idealize.ShloMosaic.Lib.Tactic
public import Idealize.ShloMosaic.Lib.Pipeline.ValueKit

@[expose] public section

set_option maxRecDepth 16384

noncomputable section

namespace Cert.Hand.Gather

open Cert.GatherIdeal Cert.GatherIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffers when the region is entered: the two arguments reshaped, the rest as launched. -/
def V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation writes an argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))

/-- The table and the packed rows are the arguments reshaped. -/
theorem V_main_v0 (c : Dev nD) : V m c main_v0 = shapeCast S32768 (s := S4x16x512) (m ((c : Thread nD τ).loc main_arg0)) shapeCasts_S4x16x512_S32768 := rfl
theorem V_main_v1 (c : Dev nD) : V m c main_v1 = shapeCast S16384x2048 (s := S4x4096x2048) (m ((c : Thread nD τ).loc main_arg1)) shapeCasts_S4x4096x2048_S16384x2048 := rfl

/-- The table's contents when the region is entered; there is one device. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No block's place depends on the table, so its contents are admissible whatever they are. -/
abbrev adm : (pcfg0 (F := F)).Adm := ⟨tbl m, trivial⟩
abbrev cfgM : Pipeline.Cfg sig Λ₀ := cfg0 (adm m)

theorem ΦT_eq (c : Dev nD) : (Pipeline.ΦT pre0 (tbl m) c : sProp 𝕄) = iprop(tabPt c (tbl m 0)) := by
  unfold Pipeline.ΦT Pipeline.prefHeld
  rw [show (Finset.univ : Finset (Fin 1)) = {(0 : Fin 1)} from by decide, bigSep_singleton]
  rfl

/-- The kernel's own counter. -/
abbrev osem : Unit → SemLoc sig := fun _ => .dma cc0_scratch1.sem
theorem ownSemFacts : Pipeline.OwnSemFacts spec0 osem := by decide
/-- The buffer its transfers read. -/
abbrev H : Finset (Ref sig .tc) := {main_v1}
theorem hH : H ⊆ Pipeline.restRefsP sig pre0 spec0 := by decide

theorem ΦD_eq' (c : Dev nD) : (Pipeline.ΦD osem spec0 H (V m) c : sProp 𝕄)
    = iprop((∃ x : S512x2048.Idx → BitVec 32, gotM.view.loc (c : Thread nD τ) ↦{fullShare} x) ∗ (∃ r, prngReg c r)
      ∗ semVal ((c : Thread nD τ), SemLoc.dma cc0_scratch1.sem) 0 ∗ (rowsM.view.loc (c : Thread nD τ) ↦{fullShare} V m c main_v1)) := by
  rw [Pipeline.ΦD_eq, scopedRest0_eq, Pipeline.ownSems0_eq_of_list c osem [()] (by decide) (by decide)]
  rw [show (H : Finset (Ref sig .tc)) = {main_v1} from rfl, bigSep_singleton]
  rfl

/-- The pipeline's contents: the result's block at each point. -/
def dats (_ : Fin 1) (c : Dev nD) : Dat τ (Elt F) Unit ℕ (Pipeline.UD sig nD τ) ℕ (cfgM m) c where
  A w := V m c (Pipeline.arrRef spec0 w)
  after w t := match w with
    | ⟨0, _⟩ => point (grid0.coords t) (tbl m 0) (V m c main_v1)
  Φ _ := iprop(Pipeline.ΦD osem spec0 H (V m) c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after_0 (c : Dev nD) (t : Fin (cfgM m).N) : (dats m 0 c).after 0 t = point (grid0.coords t) (tbl m 0) (V m c main_v1) := by
  dsimp only [dats]; try rfl

abbrev ms0 (t : Fin (cfgM m).N) : Memref sig .tc .vmem S1x1x512x4096 .bf16 := spec0_0.stage ((cfgM m).slots t 0)
abbrev hs0 (t : Fin (cfgM m).N) : (ms0 m t).IsWhole := hstage0_0 (((cfgM m).slots t 0).cast nbuf0_0)

/-- The body at a grid point, on the current staging buffer. -/
abbrev bodyAt (t : Fin (cfgM m).N) : Prog (TpuEff nD τ sig (Elt F) Λ₀ .tc) PUnit :=
  cc0_ec_gather (grid0.coords t) tabM htabM rowsM hrowsM (ms0 m t) (hs0 m t) gotM hgotM cc0_scratch1

variable (hok : ∀ n, (word (tbl m 0) n).toNat < 4096)

include hok in
set_option maxHeartbeats 1200000 in
theorem sound_body [∀ e, Nonempty (Elt F e)] (c : Dev nD) (t : Fin (cfgM m).N) :
    iprop((dats m 0 c).Φ t.castSucc ∗ (dats m 0 c).owesAt () t.castSucc
      ∗ (∃ d, owns (c : Thread nD τ) (ms0 m t) fullShare ((dats m 0 c).before 0 t d)))
    ⊢ wp frame (wpE (defs₀ (F := F)) Variants.none c none) Set.univ (bodyAt m t) (fun _ =>
      iprop((dats m 0 c).Φ t.succ ∗ (dats m 0 c).owesAt () t.succ
      ∗ owns (c : Thread nD τ) (ms0 m t) fullShare ((dats m 0 c).after 0 t))) := by
  unfold bodyAt
  rw [after_0]
  rw [show (dats m 0 c).Φ t.castSucc = iprop(Pipeline.ΦD osem spec0 H (V m) c ∗ Pipeline.ΦT pre0 (tbl m) c) from rfl,
    show (dats m 0 c).Φ t.succ = iprop(Pipeline.ΦD osem spec0 H (V m) c ∗ Pipeline.ΦT pre0 (tbl m) c) from rfl, ΦT_eq, ΦD_eq']
  unfold Dat.owesAt Pipeline.owesWithin
  rw [show (dats m 0 c).owed t.castSucc = 0 from rfl, show (dats m 0 c).owed t.succ = 0 from rfl]
  iintro ⟨⟨⟨⟨%x, HG⟩, Hp, Hc, HR⟩, HT⟩, ⟨%W, %hW, HO⟩, ⟨%d0, H0⟩⟩
  iapply (body_run c (grid0.coords t) (tbl m 0) (V m c main_v1) hok (ms0 m t) (hs0 m t) x _ W _)
  isplitl [H0]; · iexact H0
  isplitl [HT]; · iexact HT
  isplitl [HR]; · iexact HR
  isplitl [HG]; · iexact HG
  isplitl [Hc]; · iexact Hc
  isplitl [HO]; · iexact HO
  iintro ⟨H0, HT, HR, HG, Hc, ⟨%W', HO⟩⟩
  isplitl [HG Hp Hc HR HT]
  · isplitl [HG Hp Hc HR]
    · isplitl [HG]; · iexists _; iexact HG
      isplitl [Hp]; · iexact Hp
      isplitl [Hc]; · iexact Hc
      iexact HR
    iexact HT
  isplitl [HO]
  · iexists W'; isplitr; · ipureintro; exact fun _ _ => Or.inl trivial
    iexact HO
  iexact H0

theorem defs₀_row (t : Fin (cfgM m).N) :
    defs₀ (F := F) .tc (cfgM m).body ((cfgM m).bodyArgs t ((cfgM m).slots t)) = bodyAt m t := by
  unfold defs₀; rw [Defs.onTc_tc]

include hok in
theorem body_obligation [∀ e, Nonempty (Elt F e)] (c : Dev nD) : BodyObligation (dats (F := F) m 0 c) (defs₀ (F := F)) Variants.none () Set.univ := fun t => by
  rw [bigSep_W0, bigSep_W0, defs₀_row m]
  exact sound_body m hok c t

include hok in
set_option backward.isDefEq.respectTransparency.types false in
/-- Every run ends with the result at the pipeline's contents and every counter at zero. -/
theorem run_main [∀ e, Nonempty (Elt F e)] : θ_run defs (onTc (τ := τ) (main (F := F))) (s₀ m ρ)
    (fun r => (Pipeline.FramePost (Pipeline.pin pcfgs fun _ => adm m) (dats m) 0 (V m)) r ∧ r.2.sem = fun _ => 0) :=
  Pipeline.θ_run_frameP_dma (Q' := _) pcfgs (fun _ => adm m) (dats m) (0 : Fin 1) launch0 osem defs₀ Variants.none ownSemFacts H hH m ρ main
    (hbody := fun c => (body_obligation m hok c).loose) (hshare := fun c => (dats m 0 c).share_full fun _ => rfl)
    (howed := fun _ _ => rfl) (V := V m) (hmain := hmain m Variants.none) (hA := A_eq m) (hpf := V_pre m)
    (hin := fun _ => .rfl) (hout := fun c => show iprop(Pipeline.ΦD osem spec0 H (V m) c ∗ Pipeline.ΦT pre0 (tbl m) c) ⊢ Pipeline.ΦD osem spec0 H (V m) c from by
      iintro ⟨A, -⟩; iexact A)

include hok in
/-- The final state: the result's array at its contents, both arguments as launched, every counter zero. -/
theorem run [∀ e, Nonempty (Elt F e)] : θ_run defs (onTc (τ := τ) (main (F := F))) ⟨m, fun _ => 0, ρ⟩ (fun r => (∀ c : Dev nD,
      r.2.mem ((c.tc : Thread nD τ).loc main_v2) = (dats m 0 c).arrAt 0 (Fin.last (cfgM m).N)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1 0,
      ((h.1 c).2 main_arg0 (by decide : main_arg0 ∈ Pipeline.restRefs sig spec0)).trans (V_main_arg0 m c),
      ((h.1 c).2 main_arg1 (by decide : main_arg1 ∈ Pipeline.restRefs sig spec0)).trans (V_main_arg1 m c)⟩, h.2⟩) (run_main m ρ hok)

end Cert.Hand.Gather

end
-- ==== Proof.GatherValue.lean ====
/-
  The chosen tokens gathered: the kernel's result is the reference's gather of the packed rows, split into its two
  halves.
-/
module

public import proofs.«01_k».proof.Defs
public import proofs.«01_k».proof.Proof.GatherFrame
public import proofs.«01_k».proof.Proof.Gen.GatherRefIdeal.Run
public import proofs.«01_k».proof.Proof.Gen.Pre_tokens_in_range
public import proofs.«01_k».proof.Proof.Gen.Gather
public import Idealize.ShloMosaic.Lib.Pipeline.ValueKit
public import Idealize.ShloMosaic.Lib.Pipeline.Covers
public import Idealize.ShloMosaic.Lib.Pointwise
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.Hand.Gather

open Cert.GatherRefIdeal Cert.GatherRefIdeal.Gen in
/-- The reference's packed rows of the chosen tokens. -/
def rows (x : IVec Cert.GatherRefIdeal.S4x16x512 32) (v : IVec Cert.GatherRefIdeal.S4x4096x2048 32) : IVec Cert.GatherRefIdeal.S4x16x512x2048 32 :=
  Host.gather gather_S4x4096x2048_S4x16x512x1_S4x16x512x2048_3_1_0_0_1_3_112048 v (broadcastInDim S4x16x512x1 ![0, 1, 2] bcast_S4x16x512_S4x16x512x1_0_1_2 (select (cmpi .slt x (broadcastInDim S4x16x512 ![] bcast_S_S4x16x512 (constantI S_ 32 0#32))) (addi x (broadcastInDim S4x16x512 ![] bcast_S_S4x16x512 (constantI S_ 32 4096#32))) x))

open Cert.GatherRefIdeal Cert.GatherRefIdeal.Gen in
/-- The reference's result, as a function of its arguments. -/
def chosen (x : IVec Cert.GatherRefIdeal.S4x16x512 32) (v : IVec Cert.GatherRefIdeal.S4x4096x2048 32) : FVec Ideal Cert.GatherRefIdeal.S16x4x512x4096 .bf16 :=
  truncf .bf16 (transpose S16x4x512x4096 [1, 0, 2, 3] (concatenate S4x16x512x4096 3 [⟨S4x16x512x2048, (bitcastToFloat (F := Ideal) .f32 (Host.shli (rows x v) (broadcastInDim S4x16x512x2048 ![] bcast_S_S4x16x512x2048 (constantI S_ 32 16#32))))⟩, ⟨S4x16x512x2048, (bitcastToFloat (F := Ideal) .f32 (andi (rows x v) (broadcastInDim S4x16x512x2048 ![] bcast_S_S4x16x512x2048 (constantI S_ 32 4294901760#32))))⟩] concatenates_S4x16x512x2048_S4x16x512x2048_S4x16x512x4096_d3) transposes_S4x16x512x4096_S16x4x512x4096_1_0_2_3) bitsLt_bf16_f32

/-- The two halves of a packed word, as floats. -/
def lowHalf (w : BitVec 32) : EReal := Ideal.ofBits .f32 (IntOp.shli .host w 16#32)
def highHalf (w : BitVec 32) : EReal := Ideal.ofBits .f32 (IntOp.andi w 4294901760#32)

/-- A word that passes the precondition's test is a token's number. -/
theorem word_in_range (w : BitVec 32) (h : IntOp.andi (IntOp.cmpi .sge w 0#32) (IntOp.cmpi .slt w 4096#32) = 1#1) : w.toNat < 4096 := by
  have e : ∀ p q : Bool, IntOp.andi (BitVec.ofBool p) (BitVec.ofBool q) = 1#1 → p = true ∧ q = true := by decide
  obtain ⟨h0, h1⟩ := e _ _ h
  have a : (0#32).toInt ≤ w.toInt := of_decide_eq_true h0
  have b : w.toInt < (4096#32).toInt := of_decide_eq_true h1
  rw [show (0#32).toInt = 0 from by decide] at a
  rw [show (4096#32).toInt = 4096 from by decide] at b
  have e : w.toInt = if 2 * w.toNat < 2 ^ 32 then (w.toNat : ℤ) else (w.toNat : ℤ) - (2 ^ 32 : ℕ) := BitVec.toInt_eq_toNat_cond w
  have n := w.isLt
  split at e <;> omega

/-- The precondition bounds every chosen token. -/
theorem bounded {F : FTy → Type} [FloatOps F] {x : IVec Cert.GatherRefIdeal.S4x16x512 32} {v : IVec Cert.GatherRefIdeal.S4x4096x2048 32}
    (h : Cert.Pre_tokens_in_range.fn (F := F) x v = fun _ => 1#1) (y) : (x y).toNat < 4096 :=
  word_in_range _ (congrFun h y)

theorem toInt_of_lt (w : BitVec 32) (h : w.toNat < 4096) : w.toInt = (w.toNat : ℤ) := BitVec.toInt_eq_toNat_of_lt (by omega)

open Cert.GatherRefIdeal Cert.GatherRefIdeal.Gen in
/-- The index the gather reads for an element. -/
theorem start_apply (x : IVec Cert.GatherRefIdeal.S4x16x512 32) (hx : ∀ y, (x y).toNat < 4096) (b : Fin 4) (e : Fin 16) (s : Fin 512) :
    (broadcastInDim S4x16x512x1 ![0, 1, 2] bcast_S4x16x512_S4x16x512x1_0_1_2 (select (cmpi .slt x (broadcastInDim S4x16x512 ![] bcast_S_S4x16x512 (constantI S_ 32 0#32))) (addi x (broadcastInDim S4x16x512 ![] bcast_S_S4x16x512 (constantI S_ 32 4096#32))) x)) (ix4 b e s (0 : Fin 1))
      = x (ix3 b e s) := by
  pointwise []
  have h : ¬(x (ix3 b e s)).toInt < (0#32).toInt := by
    rw [toInt_of_lt _ (hx _), show (0#32).toInt = 0 from by decide]; omega
  have h' : IntOp.cmpi .slt (x (ix3 b e s)) 0#32 = 0#1 := by
    show BitVec.ofBool ((x (ix3 b e s)).slt 0#32) = 0#1
    rw [BitVec.slt_eq_decide, decide_eq_false h]; rfl
  rw [h']
  rfl

open Cert.GatherRefIdeal Cert.GatherRefIdeal.Gen in
/-- An element of a gathered row: the chosen token's. -/
theorem rows_apply (x : IVec Cert.GatherRefIdeal.S4x16x512 32) (v : IVec Cert.GatherRefIdeal.S4x4096x2048 32) (hx : ∀ y, (x y).toNat < 4096)
    (b : Fin 4) (e : Fin 16) (s : Fin 512) (d : Fin 2048) : rows x v (ix4 b e s d) = v (ix3 b ⟨(x (ix3 b e s)).toNat, hx _⟩ d) := by
  have hs := start_apply x hx b e s
  unfold rows
  revert hs
  generalize (broadcastInDim S4x16x512x1 ![0, 1, 2] bcast_S4x16x512_S4x16x512x1_0_1_2 (select (cmpi .slt x (broadcastInDim S4x16x512 ![] bcast_S_S4x16x512 (constantI S_ 32 0#32))) (addi x (broadcastInDim S4x16x512 ![] bcast_S_S4x16x512 (constantI S_ 32 4096#32))) x)) = z
  intro hs
  generalize hG : gather_S4x4096x2048_S4x16x512x1_S4x16x512x2048_3_1_0_0_1_3_112048 = G
  unfold Host.gather
  congr 1
  funext a
  refine Fin.ext ?_
  show G.start (ix4 b e s d) z a + G.batchCoord (ix4 b e s d) a + G.offCoord (ix4 b e s d) a = _
  subst hG
  have ha : a = 0 ∨ a = 1 ∨ a = 2 := by
    match a with
    | ⟨0, _⟩ => exact .inl rfl
    | ⟨1, _⟩ => exact .inr (.inl rfl)
    | ⟨2, _⟩ => exact .inr (.inr rfl)
  rcases ha with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ GatherDims.operandBatchingDims gather_S4x4096x2048_S4x16x512x1_S4x16x512x2048_3_1_0_0_1_3_112048 from List.mem_singleton.mpr rfl)]
    rfl
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ GatherDims.startIndexMap gather_S4x4096x2048_S4x16x512x1_S4x16x512x2048_3_1_0_0_1_3_112048 from List.mem_singleton.mpr rfl)]
    have hsi : ∀ k, GatherDims.siIdx gather_S4x4096x2048_S4x16x512x1_S4x16x512x2048_3_1_0_0_1_3_112048 (ix4 b e s d) k = ix4 b e s (0 : Fin 1) := fun k => by
      funext b; refine Fin.ext ?_
      match b with
      | ⟨0, _⟩ => rfl
      | ⟨1, _⟩ => rfl
      | ⟨2, _⟩ => rfl
      | ⟨3, _⟩ => exact Nat.lt_one_iff.mp (show k.val < 1 from k.isLt)
    rw [hsi, hs]
    show min (x (ix3 b e s)).toInt.toNat (4096 - 1) = (x (ix3 b e s)).toNat
    have := hx (ix3 b e s)
    rw [toInt_of_lt _ this, Int.toNat_natCast]; omega
  · rw [GatherDims.batchCoord_eq_zero _ _ _ (by decide)]
    have h0 : GatherDims.start gather_S4x4096x2048_S4x16x512x1_S4x16x512x2048_3_1_0_0_1_3_112048 (ix4 b e s d) z (2 : Fin 3) = 0 := by
      unfold GatherDims.start
      rw [dif_neg (show ¬(2 : Fin 3) ∈ GatherDims.startIndexMap gather_S4x4096x2048_S4x16x512x1_S4x16x512x2048_3_1_0_0_1_3_112048 from by decide)]
    refine (congrArg (fun n => n + 0 + _) h0).trans ?_
    simp only [Nat.zero_add]
    unfold GatherDims.offCoord
    rw [dif_pos (show (2 : Fin 3) ∈ GatherDims.sKept gather_S4x4096x2048_S4x16x512x1_S4x16x512x2048_3_1_0_0_1_3_112048 from by decide)]
    rfl

open Cert.GatherRefIdeal Cert.GatherRefIdeal.Gen in
/-- The reference's result at an element of the first and of the second half. -/
theorem chosen_low (x : IVec Cert.GatherRefIdeal.S4x16x512 32) (v : IVec Cert.GatherRefIdeal.S4x4096x2048 32)
    (b : Fin 4) (e : Fin 16) (s : Fin 512) (d : Fin 4096) (h : d.val < 2048) :
    chosen x v (ix4 e b s d) = lowHalf (rows x v (ix4 b e s ⟨d.val, h⟩)) := by
  pointwise [chosen]
  rw [dif_pos h]
  rfl
theorem chosen_high (x : IVec Cert.GatherRefIdeal.S4x16x512 32) (v : IVec Cert.GatherRefIdeal.S4x4096x2048 32)
    (b : Fin 4) (e : Fin 16) (s : Fin 512) (d : Fin 4096) (h : ¬d.val < 2048) :
    chosen x v (ix4 e b s d) = highHalf (rows x v (ix4 b e s ⟨d.val - 2048, by omega⟩)) := by
  pointwise [chosen]
  rw [dif_neg h]
  rfl

open Cert.GatherIdeal Cert.GatherIdeal.Gen

/-- The kernel's two stored values at an element. -/
theorem pay1_apply (g : IVec S512x2048 32) (s : Fin 512) (d : Fin 2048) : k0_pay1 (F := Ideal) g (ix4 0 0 s d) = lowHalf (g (ix2 s d)) := by
  pointwise [k0_pay1]
  rfl
theorem pay2_apply (g : IVec S512x2048 32) (s : Fin 512) (d : Fin 2048) : k0_pay2 (F := Ideal) g (ix4 0 0 s d) = highHalf (g (ix2 s d)) := by
  pointwise [k0_pay2]
  rfl

section Kernel
variable {F : FTy → Type} [FloatOps F] (m : (ℓ : Loc nD τ sig) → Buf (Elt F) ℓ)

/-- Every word of the table is one of the chosen tokens. -/
theorem words_bounded (h : ∀ y, (m (((0 : Dev nD) : Thread nD τ).loc main_arg0) y).toNat < 4096) (n : ℕ) : (word (tbl m 0) n).toNat < 4096 := h _

/-- A grid point's coordinates and its block's place. -/
theorem idx : ∀ t : Fin grid0.N, (grid0.coords t 0).val = t.val / 16 ∧ (grid0.coords t 1).val = t.val % 16
    ∧ cc0_transform_1 (grid0.coords t) = ![t.val % 16, t.val / 16, 0, 0] := by
  decide +kernel

/-- The word a transfer's row is read from. -/
theorem word_at (b : Fin 4) (e : Fin 16) (s : Fin 512) :
    word (tbl m 0) (8192 * b.val + 512 * e.val + s.val) = m (((0 : Dev nD) : Thread nD τ).loc main_arg0) (ix3 b e s) := by
  show V m 0 main_v0 _ = _
  rw [V_main_v0]
  refine shapeCast_apply _ _ _ _ ?_
  rw [Shape.rowMajor_val_three, Shape.rowMajor_val_one]
  show (b.val * 16 + e.val) * 512 + s.val = (8192 * b.val + 512 * e.val + s.val) % 32768
  have := b.isLt; have := e.isLt; have := s.isLt
  omega

/-- The gathered rows of a grid point. -/
theorem got_apply (h : ∀ y, (m (((0 : Dev nD) : Thread nD τ).loc main_arg0) y).toNat < 4096) (c : Dev nD) (i : grid0.Coords) (b : Fin 4) (e : Fin 16)
    (h0 : (i 0).val = b.val) (h1 : (i 1).val = e.val) (s : Fin 512) (d : Fin 2048) :
    got i (tbl m 0) (V m c main_v1) (ix2 s d)
      = m ((c : Thread nD τ).loc main_arg1) (ix3 b ⟨(m (((0 : Dev nD) : Thread nD τ).loc main_arg0) (ix3 b e s)).toNat, h _⟩ d) := by
  unfold got
  rw [V_main_v1]
  refine shapeCast_apply _ _ _ _ ?_
  rw [Shape.rowMajor_val_three, Shape.rowMajor_val_two]
  show (b.val * 4096 + (m (((0 : Dev nD) : Thread nD τ).loc main_arg0) (ix3 b e s)).toNat) * 2048 + d.val = row i (tbl m 0) s.val * 2048 + d.val
  rw [row_eq i _ (words_bounded m h), h0, h1, word_at]
  omega

/-- Every grid point writes its block back. -/
theorem flushed (a : (pcfg0 (F := F)).Adm) : ∀ t : Fin (cfg0 a).N, ((cfg0 a).win 0).flush t = true ↔ t.val % 1 = 0 :=
  (fun t => Pipeline.Window.flushOf_reads cc0_transform_1 reads0_0 hreads0_0 1 (by decide) (by decide) (Pipeline.Window.sep_of_coord cc0_transform_1 1 0 (fun _ => rfl) (by decide)) (P := 1) (m := 0) (by decide) rfl t : ∀ t : Fin grid0.N, Pipeline.Window.flushOf grid0 true cc0_transform_1 t = true ↔ t.val % 1 = 0)

/-- Every block of the result is written back. -/
theorem covers : ((cfgM m).win 0).Covers :=
  ⟨fun a => by match a with | ⟨0, _⟩ => exact Nat.one_pos | ⟨1, _⟩ => exact Nat.one_pos | ⟨2, _⟩ => exact Nat.succ_pos 511 | ⟨3, _⟩ => exact Nat.succ_pos 4095, fun β => by
    have h0 : (β (0 : Fin 4)).val < 16 := lt_of_lt_of_eq (β (0 : Fin 4)).isLt (show (16 + 1 - 1) / 1 = 16 by norm_num)
    have h1 : (β (1 : Fin 4)).val < 4 := lt_of_lt_of_eq (β (1 : Fin 4)).isLt (show (4 + 1 - 1) / 1 = 4 by norm_num)
    have h2 : (β (2 : Fin 4)).val < 1 := lt_of_lt_of_eq (β (2 : Fin 4)).isLt (show (512 + 512 - 1) / 512 = 1 by norm_num)
    have h3 : (β (3 : Fin 4)).val < 1 := lt_of_lt_of_eq (β (3 : Fin 4)).isLt (show (4096 + 4096 - 1) / 4096 = 1 by norm_num)
    have hN : (β (1 : Fin 4)).val * 16 + (β (0 : Fin 4)).val < (cfgM m).N := by show _ < 64; omega
    refine ⟨⟨(β (1 : Fin 4)).val * 16 + (β (0 : Fin 4)).val, hN⟩, ?_, fun a => ⟨?_, .inl ?_⟩⟩
    · exact (flushed (adm m) _).mpr (Nat.mod_one _)
    · refine (congrFun (idx ⟨_, hN⟩).2.2 a).trans ?_
      match a with
      | ⟨0, _⟩ => show ((β (1 : Fin 4)).val * 16 + (β (0 : Fin 4)).val) % 16 = (β (0 : Fin 4)).val; omega
      | ⟨1, _⟩ => show ((β (1 : Fin 4)).val * 16 + (β (0 : Fin 4)).val) / 16 = (β (1 : Fin 4)).val; omega
      | ⟨2, _⟩ => show 0 = (β (2 : Fin 4)).val; omega
      | ⟨3, _⟩ => show 0 = (β (3 : Fin 4)).val; omega
    · rfl⟩

end Kernel

variable (m : (ℓ : Loc nD τ sig) → Buf (Elt Ideal) ℓ)

/-- The block a grid point leaves is the reference's. -/
theorem block (h : ∀ y, (m (((0 : Dev nD) : Thread nD τ).loc main_arg0) y).toNat < 4096) (c : Dev nD) (i : grid0.Coords) (b : Fin 4) (e : Fin 16)
    (h0 : (i 0).val = b.val) (h1 : (i 1).val = e.val) (s : Fin 512) (d : Fin 4096) :
    point (F := Ideal) i (tbl m 0) (V m c main_v1) (ix4 0 0 s d)
      = chosen (m (((0 : Dev nD) : Thread nD τ).loc main_arg0)) (m ((c : Thread nD τ).loc main_arg1)) (ix4 e b s d) := by
  unfold point joined
  by_cases hd : d.val < 2048
  · refine (dif_pos hd).trans ?_
    rw [chosen_low _ _ b e s d hd, rows_apply _ _ h]
    refine (pay1_apply _ s ⟨d.val, hd⟩).trans ?_
    rw [got_apply m h c i b e h0 h1]
  · refine (dif_neg hd).trans ?_
    rw [chosen_high _ _ b e s d hd, rows_apply _ _ h]
    refine (pay2_apply _ s ⟨d.val - 2048, by omega⟩).trans ?_
    rw [got_apply m h c i b e h0 h1]

/-- The kernel's result array is the reference's function of the arguments. -/
theorem final (h : ∀ y, (m (((0 : Dev nD) : Thread nD τ).loc main_arg0) y).toNat < 4096) (c : Dev nD) : (dats m 0 c).arrAt 0 (Fin.last (cfgM m).N)
    = chosen (m ((c : Thread nD τ).loc main_arg0)) (m ((c : Thread nD τ).loc main_arg1)) := by
  obtain rfl : c = 0 := Subsingleton.elim _ _
  refine (dats m 0 0).arrAt_eq_of_covers 0 _ (covers m) fun t hf y => ?_
  have ht : t.val < 64 := t.isLt
  blk_simp
  rw [after_0]
  obtain ⟨s, d, rfl⟩ : ∃ s : Fin 512, ∃ d : Fin 4096, y = ix4 (0 : Fin 1) (0 : Fin 1) s d := ⟨y (2 : Fin 4), y (3 : Fin 4), funext fun a => by
    match a with
    | ⟨0, _⟩ => exact Fin.ext (Nat.lt_one_iff.mp (y (0 : Fin 4)).isLt)
    | ⟨1, _⟩ => exact Fin.ext (Nat.lt_one_iff.mp (y (1 : Fin 4)).isLt)
    | ⟨2, _⟩ => rfl
    | ⟨3, _⟩ => rfl⟩
  refine (block m h 0 (grid0.coords t) ⟨t.val / 16, by omega⟩ ⟨t.val % 16, by omega⟩ (idx t).1 (idx t).2.1 s d).trans (congrArg _ (funext fun a => Fin.ext ?_))
  have e := congrFun (idx t).2.2
  match a with
  | ⟨0, _⟩ =>
    show t.val % 16 = cc0_transform_1 (grid0.coords t) (0 : Fin 4) * 1 + 1 * 0
    rw [e 0]; show t.val % 16 = t.val % 16 * 1 + 1 * 0; omega
  | ⟨1, _⟩ =>
    show t.val / 16 = cc0_transform_1 (grid0.coords t) (1 : Fin 4) * 1 + 1 * 0
    rw [e 1]; show t.val / 16 = t.val / 16 * 1 + 1 * 0; omega
  | ⟨2, _⟩ =>
    show s.val = cc0_transform_1 (grid0.coords t) (2 : Fin 4) * 512 + 1 * s.val
    rw [e 2]; show s.val = 0 * 512 + 1 * s.val; omega
  | ⟨3, _⟩ =>
    show d.val = cc0_transform_1 (grid0.coords t) (3 : Fin 4) * 4096 + 1 * d.val
    rw [e 3]; show d.val = 0 * 4096 + 1 * d.val; omega

/-- The two programs, from the same arguments, end with the same result. -/
theorem algebraic : Cert.algebraic_GatherIdeal_GatherRefIdeal := by
  intro m g m' g' hp hm
  have hb : ∀ y, (m (((0 : Dev nD) : Thread nD τ).loc main_arg0) y).toNat < 4096 := bounded (hp 0)
  refine ⟨fun c => chosen (m ((c : Thread nD τ).loc main_arg0)) (m ((c : Thread nD τ).loc main_arg1)), ?_, ?_⟩
  · exact (θ_run defs _ _).mono (fun r h c => ⟨(h.1 c).1.trans (final m hb c), (h.1 c).2⟩) (run (F := Ideal) m g (words_bounded m hb))
  · refine (θ_run Cert.GatherRefIdeal.defs _ _).mono (fun r h c => ⟨(h c).1.trans ?_, (h c).2⟩)
      (Cert.GatherRefIdeal.Value.run m' g')
    rw [(hm c).1, (hm c).2]
    rfl

set_option smartUnfolding false in
set_option maxHeartbeats 4000000 in
/-- The kernel and its ideal reading run to their ends, arguments unchanged, counters at zero: one run of one text. -/
theorem frame_kernel : Cert.quiescent_Gather := fun m ρ hp =>
  (θ_run Cert.GatherIdeal.defs _ _).mono (fun _ h => ⟨fun c => (h.1 c).2, h.2⟩) (run (F := Bits) m ρ (words_bounded (F := Bits) m (bounded (hp 0))))
theorem frame_ideal : Cert.quiescent_GatherIdeal := fun m ρ hp =>
  (θ_run Cert.GatherIdeal.defs _ _).mono (fun _ h => ⟨fun c => (h.1 c).2, h.2⟩) (run (F := Ideal) m ρ (words_bounded m (bounded (hp 0))))

/-- The reference runs to its end, its arguments unchanged; it has no counter. -/
theorem frame_reference : Cert.quiescent_GatherRefIdeal := fun m ρ _ =>
  (θ_run Cert.GatherRefIdeal.defs _ _).mono (fun r h => ⟨fun c => (h c).2, sem_eq_zero_of_no_sems (by decide) r.2⟩)
    (Cert.GatherRefIdeal.Value.run m ρ)

end Cert.Hand.Gather

end
-- ==== Proof.lean ====
module

public import proofs.«01_k».proof.Defs
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InMerge
public import proofs.«01_k».proof.Proof.Gen.InMerge.Skeleton
public import proofs.«01_k».proof.Proof.Gen.InMerge.Launch
public import proofs.«01_k».proof.Proof.Gen.InMerge.Points
public import proofs.«01_k».proof.Proof.Gen.InMerge.Frame
public import proofs.«01_k».proof.Proof.Gen.InMergeIdeal
public import proofs.«01_k».proof.Proof.Gen.InMergeIdeal.Skeleton
public import proofs.«01_k».proof.Proof.Gen.InMergeIdeal.Launch
public import proofs.«01_k».proof.Proof.Gen.InMergeIdeal.Points
public import proofs.«01_k».proof.Proof.Gen.InMergeIdeal.Frame
public import proofs.«01_k».proof.Proof.Gen.InMergeRefIdeal
public import proofs.«01_k».proof.Proof.Gen.InGates
public import proofs.«01_k».proof.Proof.Gen.InGates.Skeleton
public import proofs.«01_k».proof.Proof.Gen.InGates.Launch
public import proofs.«01_k».proof.Proof.Gen.InGates.Points
public import proofs.«01_k».proof.Proof.Gen.InGates.Frame
public import proofs.«01_k».proof.Proof.Gen.InGatesIdeal
public import proofs.«01_k».proof.Proof.Gen.InGatesIdeal.Skeleton
public import proofs.«01_k».proof.Proof.Gen.InGatesIdeal.Launch
public import proofs.«01_k».proof.Proof.Gen.InGatesIdeal.Points
public import proofs.«01_k».proof.Proof.Gen.InGatesIdeal.Frame
public import proofs.«01_k».proof.Proof.Gen.InGatesRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpRefIdeal
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownRefIdeal
public import proofs.«01_k».proof.Proof.Gen.Scatter
public import proofs.«01_k».proof.Proof.Gen.Scatter.Skeleton
public import proofs.«01_k».proof.Proof.Gen.Scatter.Launch
public import proofs.«01_k».proof.Proof.Gen.Scatter.Flash
public import proofs.«01_k».proof.Proof.Gen.ScatterIdeal
public import proofs.«01_k».proof.Proof.Gen.ScatterIdeal.Skeleton
public import proofs.«01_k».proof.Proof.Gen.ScatterIdeal.Launch
public import proofs.«01_k».proof.Proof.Gen.ScatterIdeal.Flash
public import proofs.«01_k».proof.Proof.Gen.ScatterRefIdeal
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaRefIdeal
public import proofs.«01_k».proof.Proof.Gen.Prenorm
public import proofs.«01_k».proof.Proof.Gen.Prenorm.Skeleton
public import proofs.«01_k».proof.Proof.Gen.Prenorm.Launch
public import proofs.«01_k».proof.Proof.Gen.Prenorm.Points
public import proofs.«01_k».proof.Proof.Gen.Prenorm.Frame
public import proofs.«01_k».proof.Proof.Gen.PrenormIdeal
public import proofs.«01_k».proof.Proof.Gen.PrenormIdeal.Skeleton
public import proofs.«01_k».proof.Proof.Gen.PrenormIdeal.Launch
public import proofs.«01_k».proof.Proof.Gen.PrenormIdeal.Points
public import proofs.«01_k».proof.Proof.Gen.PrenormIdeal.Frame
public import proofs.«01_k».proof.Proof.Gen.PrenormRefIdeal
public import proofs.«01_k».proof.Proof.Gen.Readout
public import proofs.«01_k».proof.Proof.Gen.Readout.Skeleton
public import proofs.«01_k».proof.Proof.Gen.Readout.Launch
public import proofs.«01_k».proof.Proof.Gen.Readout.Points
public import proofs.«01_k».proof.Proof.Gen.Readout.Frame
public import proofs.«01_k».proof.Proof.Gen.ReadoutIdeal
public import proofs.«01_k».proof.Proof.Gen.ReadoutIdeal.Skeleton
public import proofs.«01_k».proof.Proof.Gen.ReadoutIdeal.Launch
public import proofs.«01_k».proof.Proof.Gen.ReadoutIdeal.Points
public import proofs.«01_k».proof.Proof.Gen.ReadoutIdeal.Frame
public import proofs.«01_k».proof.Proof.Gen.ReadoutRefIdeal
public import proofs.«01_k».proof.Proof.Gen.Resid
public import proofs.«01_k».proof.Proof.Gen.Resid.Skeleton
public import proofs.«01_k».proof.Proof.Gen.Resid.Launch
public import proofs.«01_k».proof.Proof.Gen.Resid.Points
public import proofs.«01_k».proof.Proof.Gen.Resid.Frame
public import proofs.«01_k».proof.Proof.Gen.ResidIdeal
public import proofs.«01_k».proof.Proof.Gen.ResidIdeal.Skeleton
public import proofs.«01_k».proof.Proof.Gen.ResidIdeal.Launch
public import proofs.«01_k».proof.Proof.Gen.ResidIdeal.Points
public import proofs.«01_k».proof.Proof.Gen.ResidIdeal.Frame
public import proofs.«01_k».proof.Proof.Gen.ResidRefIdeal
public import proofs.«01_k».proof.Proof.Gen.Gather
public import proofs.«01_k».proof.Proof.Gen.Gather.Skeleton
public import proofs.«01_k».proof.Proof.Gen.Gather.Loops
public import proofs.«01_k».proof.Proof.Gen.Gather.Launch
public import proofs.«01_k».proof.Proof.Gen.Gather.Flash
public import proofs.«01_k».proof.Proof.Gen.GatherIdeal
public import proofs.«01_k».proof.Proof.Gen.GatherIdeal.Skeleton
public import proofs.«01_k».proof.Proof.Gen.GatherIdeal.Loops
public import proofs.«01_k».proof.Proof.Gen.GatherIdeal.Launch
public import proofs.«01_k».proof.Proof.Gen.GatherIdeal.Flash
public import proofs.«01_k».proof.Proof.Gen.GatherRefIdeal
public import proofs.«01_k».proof.Proof.Gen.Pre_slots_within_counts
public import proofs.«01_k».proof.Proof.Gen.Pre_tokens_in_range
public import proofs.«01_k».proof.Proof.InProjValue
public import proofs.«01_k».proof.Proof.InMergeValue
public import proofs.«01_k».proof.Proof.InGatesValue
public import proofs.«01_k».proof.Proof.MergeValue
public import proofs.«01_k».proof.Proof.OutProjValue
public import proofs.«01_k».proof.Proof.FfnUpValue
public import proofs.«01_k».proof.Proof.FfnDownValue
public import proofs.«01_k».proof.Proof.ScatterValue
public import proofs.«01_k».proof.Proof.AdaValue
public import proofs.«01_k».proof.Proof.PrenormValue
public import proofs.«01_k».proof.Proof.ReadoutValue
public import proofs.«01_k».proof.Proof.ResidValue
public import proofs.«01_k».proof.Proof.GatherValue
public import Idealize.ShloMosaic.Adequacy
public import Idealize.ShloMosaic.Init

@[expose] public section

noncomputable section

namespace Cert.Proof

open Idealize.ShloMosaic Idealize.SL.Sem Cert.InProj

theorem claim : Cert.Claim := ⟨Cert.InProj.Gen.facts, Cert.InProjIdeal.Gen.facts, Cert.InProjRefIdeal.Gen.facts, Cert.InMerge.Gen.facts, Cert.InMergeIdeal.Gen.facts, Cert.InMergeRefIdeal.Gen.facts, Cert.InGates.Gen.facts, Cert.InGatesIdeal.Gen.facts, Cert.InGatesRefIdeal.Gen.facts, Cert.Merge.Gen.facts, Cert.MergeIdeal.Gen.facts, Cert.MergeRefIdeal.Gen.facts, Cert.OutProj.Gen.facts, Cert.OutProjIdeal.Gen.facts, Cert.OutProjRefIdeal.Gen.facts, Cert.FfnUp.Gen.facts, Cert.FfnUpIdeal.Gen.facts, Cert.FfnUpRefIdeal.Gen.facts, Cert.FfnDown.Gen.facts, Cert.FfnDownIdeal.Gen.facts, Cert.FfnDownRefIdeal.Gen.facts, Cert.Scatter.Gen.facts, Cert.ScatterIdeal.Gen.facts, Cert.ScatterRefIdeal.Gen.facts, Cert.Ada.Gen.facts, Cert.AdaIdeal.Gen.facts, Cert.AdaRefIdeal.Gen.facts, Cert.Prenorm.Gen.facts, Cert.PrenormIdeal.Gen.facts, Cert.PrenormRefIdeal.Gen.facts, Cert.Readout.Gen.facts, Cert.ReadoutIdeal.Gen.facts, Cert.ReadoutRefIdeal.Gen.facts, Cert.Resid.Gen.facts, Cert.ResidIdeal.Gen.facts, Cert.ResidRefIdeal.Gen.facts, Cert.Gather.Gen.facts, Cert.GatherIdeal.Gen.facts, Cert.GatherRefIdeal.Gen.facts, Cert.Pre_slots_within_counts.Gen.facts, Cert.Pre_tokens_in_range.Gen.facts,
  fun m ρ _ => Cert.InProj.Gen.frame m ρ, fun m ρ _ => Cert.InProjIdeal.Gen.frame m ρ, Cert.Hand.InProj.frame_reference,
  fun m ρ _ => Cert.InMerge.Gen.frame m ρ, fun m ρ _ => Cert.InMergeIdeal.Gen.frame m ρ, Cert.Hand.InMerge.frame_reference,
  fun m ρ _ => Cert.InGates.Gen.frame m ρ, fun m ρ _ => Cert.InGatesIdeal.Gen.frame m ρ, Cert.Hand.InGates.frame_reference,
  fun m ρ _ => Cert.Merge.Gen.frame m ρ, fun m ρ _ => Cert.MergeIdeal.Gen.frame m ρ, Cert.Hand.Merge.frame_reference,
  fun m ρ _ => Cert.OutProj.Gen.frame m ρ, fun m ρ _ => Cert.OutProjIdeal.Gen.frame m ρ, Cert.Hand.OutProj.frame_reference,
  fun m ρ _ => Cert.FfnUp.Gen.frame m ρ, fun m ρ _ => Cert.FfnUpIdeal.Gen.frame m ρ, Cert.Hand.FfnUp.frame_reference,
  fun m ρ _ => Cert.FfnDown.Gen.frame m ρ, fun m ρ _ => Cert.FfnDownIdeal.Gen.frame m ρ, Cert.Hand.FfnDown.frame_reference,
  Cert.Hand.Scatter.frame_kernel, Cert.Hand.Scatter.frame_ideal, fun m ρ _ => Cert.Hand.Scatter.frame_ideal m ρ trivial, Cert.Hand.Scatter.frame_reference, fun m ρ _ => Cert.Hand.Scatter.frame_reference m ρ trivial,
  fun m ρ _ => Cert.Ada.Gen.frame m ρ, fun m ρ _ => Cert.AdaIdeal.Gen.frame m ρ, Cert.Hand.Ada.frame_reference,
  fun m ρ _ => Cert.Prenorm.Gen.frame m ρ, fun m ρ _ => Cert.PrenormIdeal.Gen.frame m ρ, Cert.Hand.Prenorm.frame_reference,
  fun m ρ _ => Cert.Readout.Gen.frame m ρ, fun m ρ _ => Cert.ReadoutIdeal.Gen.frame m ρ, Cert.Hand.Readout.frame_reference,
  fun m ρ _ => Cert.Resid.Gen.frame m ρ, fun m ρ _ => Cert.ResidIdeal.Gen.frame m ρ, Cert.Hand.Resid.frame_reference,
  Cert.Hand.Gather.frame_kernel, Cert.Hand.Gather.frame_ideal, Cert.Hand.Gather.frame_reference, fun m ρ _ => Cert.Hand.Gather.frame_reference m ρ trivial,
  trivial, Cert.Hand.InProj.algebraic,
  trivial, Cert.Hand.InMerge.algebraic,
  trivial, Cert.Hand.InGates.algebraic,
  trivial, Cert.Hand.Merge.algebraic,
  trivial, Cert.Hand.OutProj.algebraic,
  trivial, Cert.Hand.FfnUp.algebraic,
  trivial, Cert.Hand.FfnDown.algebraic,
  trivial, Cert.Hand.Scatter.algebraic,
  trivial, Cert.Hand.Ada.algebraic,
  trivial, Cert.Hand.Prenorm.algebraic,
  trivial, Cert.Hand.Readout.algebraic,
  trivial, Cert.Hand.Resid.algebraic,
  trivial, Cert.Hand.Gather.algebraic⟩

end Cert.Proof

end
